-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_normal [hPre_scales_normal : Cert.Pre_scales_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_normal [hPre_scales_normal : Cert.Pre_scales_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_normal [hKernelIdeal : Cert.KernelIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_normal [hReferenceIdeal : Cert.ReferenceIdeal.Facts] [hPre_scales_normal : Cert.Pre_scales_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "masked" .f32 0xFF7F0000#32 ⊥
  ∧ IdealRules.named_const.Statement Cert.KernelIdeal.κ "score_scale" .f32 0x3E8293EE#32 (((11863283 / 67108864) * (Real.log 2)⁻¹ : ℝ) : EReal)

def algebraic_KernelIdeal_ReferenceIdeal_pre_scales_normal [hKernelIdeal : Cert.KernelIdeal.Facts] [hReferenceIdeal : Cert.ReferenceIdeal.Facts] [hPre_scales_normal : Cert.Pre_scales_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_normal : Cert.Pre_scales_normal.Facts),
    quiescent_Kernel (hKernel := hKernel)
    ∧ quiescent_KernelIdeal (hKernelIdeal := hKernelIdeal)
    ∧ quiescent_KernelIdeal_pre_scales_normal (hKernelIdeal := hKernelIdeal) (hPre_scales_normal := hPre_scales_normal)
    ∧ quiescent_ReferenceIdeal (hReferenceIdeal := hReferenceIdeal)
    ∧ quiescent_ReferenceIdeal_pre_scales_normal (hReferenceIdeal := hReferenceIdeal) (hPre_scales_normal := hPre_scales_normal)
    ∧ preserves_Kernel_KernelIdeal
    ∧ algebraic_KernelIdeal_ReferenceIdeal_pre_scales_normal (hKernelIdeal := hKernelIdeal) (hReferenceIdeal := hReferenceIdeal) (hPre_scales_normal := hPre_scales_normal)
-- ==== Pre_scales_normal.lean ====
abbrev S2x100x12x32 : Shape := ⟨4, ![2, 100, 12, 32]⟩
abbrev S2x65536x12x32 : Shape := ⟨4, ![2, 65536, 12, 32]⟩
abbrev S2x65536x12 : Shape := ⟨3, ![2, 65536, 12]⟩
abbrev S2x100x2048 : Shape := ⟨3, ![2, 100, 2048]⟩
abbrev S_ : Shape := ⟨0, ![]⟩

class Facts : Prop where
  bcast_S_S2x65536x12 : S_.BroadcastsInDim S2x65536x12 (![] : Fin 0 → Fin S2x65536x12.rank)

variable [Facts]

def fn {F : FTy → Type} [FloatOps F] (main_arg0 : FVec F S2x100x12x32 .bf16) (main_arg1 : FVec F S2x65536x12x32 .fp8e4m3) (main_arg2 : FVec F S2x65536x12 .f32) (main_arg3 : FVec F S2x65536x12x32 .fp8e4m3) (main_arg4 : FVec F S2x65536x12 .f32) (main_arg5 : IVec S2x100x2048 32) : IVec S2x65536x12 1 :=
  let main_cst : FVec F S_ .f32 := constant S_ .f32 0x01800000#32
  let main_v0 : FVec F S2x65536x12 .f32 := broadcastInDim S2x65536x12 ![] bcast_S_S2x65536x12 main_cst
  let main_v1 : IVec S2x65536x12 1 := cmpf .oge main_arg2 main_v0
  main_v1
-- ==== Kernel.lean ====
abbrev S2x100x12x32 : Shape := ⟨4, ![2, 100, 12, 32]⟩
abbrev S2x65536x12x32 : Shape := ⟨4, ![2, 65536, 12, 32]⟩
abbrev S2x65536x12 : Shape := ⟨3, ![2, 65536, 12]⟩
abbrev S2x100x2048 : Shape := ⟨3, ![2, 100, 2048]⟩
abbrev S2x12x32x100 : Shape := ⟨4, ![2, 12, 32, 100]⟩
abbrev S2x12x32x65536 : Shape := ⟨4, ![2, 12, 32, 65536]⟩
abbrev S12x2x65536 : Shape := ⟨3, ![12, 2, 65536]⟩
abbrev S100x2x2048 : Shape := ⟨3, ![100, 2, 2048]⟩
abbrev S2x100x384 : Shape := ⟨3, ![2, 100, 384]⟩
abbrev S2x12x32x2048 : Shape := ⟨4, ![2, 12, 32, 2048]⟩
abbrev S12x2x2048 : Shape := ⟨3, ![12, 2, 2048]⟩
abbrev S2x3x416x256 : Shape := ⟨4, ![2, 3, 416, 256]⟩
abbrev S2x4x64x8x128 : Shape := ⟨5, ![2, 4, 64, 8, 128]⟩
abbrev S2x128x2048 : Shape := ⟨3, ![2, 128, 2048]⟩
abbrev S2x416x2048 : Shape := ⟨3, ![2, 416, 2048]⟩
abbrev S2x12x104x128 : Shape := ⟨4, ![2, 12, 104, 128]⟩
abbrev S2x6x80x208 : Shape := ⟨4, ![2, 6, 80, 208]⟩
abbrev S104x128 : Shape := ⟨2, ![104, 128]⟩
abbrev S1x1x32x100 : Shape := ⟨4, ![1, 1, 32, 100]⟩
abbrev S32x100 : Shape := ⟨2, ![32, 100]⟩
abbrev S32x28 : Shape := ⟨2, ![32, 28]⟩
abbrev S32x128 : Shape := ⟨2, ![32, 128]⟩
abbrev S128x128 : Shape := ⟨2, ![128, 128]⟩
abbrev S1x1x104x128 : Shape := ⟨4, ![1, 1, 104, 128]⟩
abbrev S8x128 : Shape := ⟨2, ![8, 128]⟩
abbrev S100x1x2048 : Shape := ⟨3, ![100, 1, 2048]⟩
abbrev S100x2048 : Shape := ⟨2, ![100, 2048]⟩
abbrev S28x2048 : Shape := ⟨2, ![28, 2048]⟩
abbrev S128x2048 : Shape := ⟨2, ![128, 2048]⟩
abbrev S128 : Shape := ⟨1, ![128]⟩
abbrev S128x1 : Shape := ⟨2, ![128, 1]⟩
abbrev S100x1x128 : Shape := ⟨3, ![100, 1, 128]⟩
abbrev S100x128 : Shape := ⟨2, ![100, 128]⟩
abbrev S28x128 : Shape := ⟨2, ![28, 128]⟩
abbrev S8x128x1 : Shape := ⟨3, ![8, 128, 1]⟩
abbrev S1x1x1x8x128 : Shape := ⟨5, ![1, 1, 1, 8, 128]⟩
abbrev S1x32x128 : Shape := ⟨3, ![1, 32, 128]⟩
abbrev S16x256 : Shape := ⟨2, ![16, 256]⟩
abbrev S1x4x32x256 : Shape := ⟨4, ![1, 4, 32, 256]⟩
abbrev S4x32x256 : Shape := ⟨3, ![4, 32, 256]⟩
abbrev S128x256 : Shape := ⟨2, ![128, 256]⟩
abbrev S1x128x256 : Shape := ⟨3, ![1, 128, 256]⟩
abbrev S256x256 : Shape := ⟨2, ![256, 256]⟩
abbrev S1x1x416x256 : Shape := ⟨4, ![1, 1, 416, 256]⟩
abbrev S416x256 : Shape := ⟨2, ![416, 256]⟩
abbrev S1x1x256 : Shape := ⟨3, ![1, 1, 256]⟩
abbrev S1x256 : Shape := ⟨2, ![1, 256]⟩
abbrev S104x256 : Shape := ⟨2, ![104, 256]⟩
abbrev S1x104x256 : Shape := ⟨3, ![1, 104, 256]⟩
abbrev S104 : Shape := ⟨1, ![104]⟩
abbrev S104x1 : Shape := ⟨2, ![104, 1]⟩
abbrev S128x104 : Shape := ⟨2, ![128, 104]⟩
abbrev S1x104 : Shape := ⟨2, ![1, 104]⟩
abbrev S1x208 : Shape := ⟨2, ![1, 208]⟩
abbrev S1x1x32x256 : Shape := ⟨4, ![1, 1, 32, 256]⟩
abbrev S32x256 : Shape := ⟨2, ![32, 256]⟩
abbrev S208x256 : Shape := ⟨2, ![208, 256]⟩
abbrev S80x256 : Shape := ⟨2, ![80, 256]⟩
abbrev S80x208 : Shape := ⟨2, ![80, 208]⟩
abbrev S1x1x80x208 : Shape := ⟨4, ![1, 1, 80, 208]⟩
abbrev S32x104 : Shape := ⟨2, ![32, 104]⟩
abbrev S384x104 : Shape := ⟨2, ![384, 104]⟩
abbrev S104x384 : Shape := ⟨2, ![104, 384]⟩
abbrev S100x384 : Shape := ⟨2, ![100, 384]⟩
abbrev S1x100x384 : Shape := ⟨3, ![1, 100, 384]⟩

abbrev nBuf : Space → Nat
  | .hbm => 13
  | .vmem => 17
  | .smem => 0
  | _ => 0

abbrev bufTy : (tb : Table) → Fin (tcTables nBuf tb) → BufTy
  | .hbm, ⟨0, _⟩ => ⟨S2x100x12x32, .bf16⟩
  | .hbm, ⟨1, _⟩ => ⟨S2x65536x12x32, .fp8e4m3⟩
  | .hbm, ⟨2, _⟩ => ⟨S2x65536x12, .f32⟩
  | .hbm, ⟨3, _⟩ => ⟨S2x65536x12x32, .fp8e4m3⟩
  | .hbm, ⟨4, _⟩ => ⟨S2x65536x12, .f32⟩
  | .hbm, ⟨5, _⟩ => ⟨S2x100x2048, .i32⟩
  | .hbm, ⟨6, _⟩ => ⟨S2x12x32x100, .bf16⟩
  | .hbm, ⟨7, _⟩ => ⟨S2x12x32x65536, .fp8e4m3⟩
  | .hbm, ⟨8, _⟩ => ⟨S2x12x32x65536, .fp8e4m3⟩
  | .hbm, ⟨9, _⟩ => ⟨S12x2x65536, .f32⟩
  | .hbm, ⟨10, _⟩ => ⟨S12x2x65536, .f32⟩
  | .hbm, ⟨11, _⟩ => ⟨S100x2x2048, .i32⟩
  | .hbm, ⟨12, _⟩ => ⟨S2x100x384, .bf16⟩
  | .local _ .vmem, ⟨0, _⟩ => ⟨S2x12x32x100, .bf16⟩
  | .local _ .vmem, ⟨1, _⟩ => ⟨S2x12x32x2048, .fp8e4m3⟩
  | .local _ .vmem, ⟨2, _⟩ => ⟨S2x12x32x2048, .fp8e4m3⟩
  | .local _ .vmem, ⟨3, _⟩ => ⟨S12x2x2048, .f32⟩
  | .local _ .vmem, ⟨4, _⟩ => ⟨S12x2x2048, .f32⟩
  | .local _ .vmem, ⟨5, _⟩ => ⟨S2x12x32x2048, .fp8e4m3⟩
  | .local _ .vmem, ⟨6, _⟩ => ⟨S2x12x32x2048, .fp8e4m3⟩
  | .local _ .vmem, ⟨7, _⟩ => ⟨S12x2x2048, .f32⟩
  | .local _ .vmem, ⟨8, _⟩ => ⟨S12x2x2048, .f32⟩
  | .local _ .vmem, ⟨9, _⟩ => ⟨S100x2x2048, .i32⟩
  | .local _ .vmem, ⟨10, _⟩ => ⟨S2x100x384, .bf16⟩
  | .local _ .vmem, ⟨11, _⟩ => ⟨S2x3x416x256, .bf16⟩
  | .local _ .vmem, ⟨12, _⟩ => ⟨S2x4x64x8x128, .i32⟩
  | .local _ .vmem, ⟨13, _⟩ => ⟨S2x128x2048, .fp8e4m3⟩
  | .local _ .vmem, ⟨14, _⟩ => ⟨S2x416x2048, .f32⟩
  | .local _ .vmem, ⟨15, _⟩ => ⟨S2x12x104x128, .f32⟩
  | .local _ .vmem, ⟨16, _⟩ => ⟨S2x6x80x208, .f32⟩
  | _, _ => ⟨S2x100x12x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_5969 : BitVec 32 := 0#32
  let c16_i32_5970 : BitVec 32 := 16#32
  let v10011 : BitVec 32 := Scalar.addi c0_i32_5969 c16_i32_5970
  let c1_i32_5971 : BitVec 32 := 1#32
  ⟨c0_i32_5969, v10011, c1_i32_5971⟩
def k0_mult1 (k0_t1 : Fin k0_t1_loop.trips) : BitVec 32 :=
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let c128_i32_5996 : BitVec 32 := 128#32
  let v10035 : BitVec 32 := Scalar.muli v10034 c128_i32_5996
  v10035
def k0_off1 (k0_t1 : Fin k0_t1_loop.trips) : Fin 3 → Nat :=
  let c0_5997 : Index := 0#32
  let c0_5998 : Index := 0#32
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let c128_i32_5996 : BitVec 32 := 128#32
  let v10035 : BitVec 32 := Scalar.muli v10034 c128_i32_5996
  let v10036 : BitVec 32 := v10035
  let v10037 : Index := Scalar.indexCast v10036
  ![0, 0, v10037.toNat]
def k0_off2 (k0_t1 : Fin k0_t1_loop.trips) (c0_i32_6060 : BitVec 32) : Fin 5 → Nat :=
  let c0_6061 : Index := 0#32
  let c0_6062 : Index := 0#32
  let c4_i32_6059 : BitVec 32 := 4#32
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let v10214 : BitVec 32 := Scalar.muli c4_i32_6059 v10034
  let v10215 : BitVec 32 := Scalar.addi v10214 c0_i32_6060
  let v10216 : Index := Scalar.indexCast v10215
  let c0_6063 : Index := 0#32
  let c0_6064 : Index := 0#32
  ![0, 0, v10216.toNat, 0, 0]
def k0_off3 (k0_t1 : Fin k0_t1_loop.trips) (c0_i32_6180 : BitVec 32) : Fin 5 → Nat :=
  let c0_6181 : Index := 0#32
  let c1_6182 : Index := 1#32
  let c4_i32_6179 : BitVec 32 := 4#32
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let v10534 : BitVec 32 := Scalar.muli c4_i32_6179 v10034
  let v10535 : BitVec 32 := Scalar.addi v10534 c0_i32_6180
  let v10536 : Index := Scalar.indexCast v10535
  let c0_6183 : Index := 0#32
  let c0_6184 : Index := 0#32
  ![0, 1, v10536.toNat, 0, 0]
def k0_off4 (k0_t1 : Fin k0_t1_loop.trips) (c0_i32_6300 : BitVec 32) : Fin 5 → Nat :=
  let c0_6301 : Index := 0#32
  let c2_6302 : Index := 2#32
  let c4_i32_6299 : BitVec 32 := 4#32
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let v10854 : BitVec 32 := Scalar.muli c4_i32_6299 v10034
  let v10855 : BitVec 32 := Scalar.addi v10854 c0_i32_6300
  let v10856 : Index := Scalar.indexCast v10855
  let c0_6303 : Index := 0#32
  let c0_6304 : Index := 0#32
  ![0, 2, v10856.toNat, 0, 0]
def k0_off5 (k0_t1 : Fin k0_t1_loop.trips) (c0_i32_6420 : BitVec 32) : Fin 5 → Nat :=
  let c0_6421 : Index := 0#32
  let c3_6422 : Index := 3#32
  let c4_i32_6419 : BitVec 32 := 4#32
  let c0_i32_5995 : BitVec 32 := 0#32
  let c0_i32_5969 : BitVec 32 := 0#32
  let c1_i32_5971 : BitVec 32 := 1#32
  let arg14 : BitVec 32 := Scf.iv c0_i32_5969 c1_i32_5971 k0_t1
  let c1_i32_5994 : BitVec 32 := 1#32
  let v10033 : BitVec 32 := Scalar.muli arg14 c1_i32_5994
  let v10034 : BitVec 32 := Scalar.addi c0_i32_5995 v10033
  let v11174 : BitVec 32 := Scalar.muli c4_i32_6419 v10034
  let v11175 : BitVec 32 := Scalar.addi v11174 c0_i32_6420
  let v11176 : Index := Scalar.indexCast v11175
  let c0_6423 : Index := 0#32
  let c0_6424 : Index := 0#32
  ![0, 3, v11176.toNat, 0, 0]
@[reducible] def k0_t2_loop : Scf.Loop 32 :=
  let c0_i32_5980 : BitVec 32 := 0#32
  let c16_i32_5981 : BitVec 32 := 16#32
  let v10024 : BitVec 32 := Scalar.addi c0_i32_5980 c16_i32_5981
  let c1_i32_5982 : BitVec 32 := 1#32
  ⟨c0_i32_5980, v10024, c1_i32_5982⟩
def k0_mult2 (k0_t2 : Fin k0_t2_loop.trips) : BitVec 32 :=
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let c128_i32_5996 : BitVec 32 := 128#32
  let v10035 : BitVec 32 := Scalar.muli v10034 c128_i32_5996
  v10035
def k0_off6 (k0_t2 : Fin k0_t2_loop.trips) : Fin 3 → Nat :=
  let c0_5997 : Index := 0#32
  let c1_5998 : Index := 1#32
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let c128_i32_5996 : BitVec 32 := 128#32
  let v10035 : BitVec 32 := Scalar.muli v10034 c128_i32_5996
  let v10036 : BitVec 32 := v10035
  let v10037 : Index := Scalar.indexCast v10036
  ![0, 1, v10037.toNat]
def k0_off7 (k0_t2 : Fin k0_t2_loop.trips) (c0_i32_6060 : BitVec 32) : Fin 5 → Nat :=
  let c1_6061 : Index := 1#32
  let c0_6062 : Index := 0#32
  let c4_i32_6059 : BitVec 32 := 4#32
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let v10214 : BitVec 32 := Scalar.muli c4_i32_6059 v10034
  let v10215 : BitVec 32 := Scalar.addi v10214 c0_i32_6060
  let v10216 : Index := Scalar.indexCast v10215
  let c0_6063 : Index := 0#32
  let c0_6064 : Index := 0#32
  ![1, 0, v10216.toNat, 0, 0]
def k0_off8 (k0_t2 : Fin k0_t2_loop.trips) (c0_i32_6180 : BitVec 32) : Fin 5 → Nat :=
  let c1_6181 : Index := 1#32
  let c1_6182 : Index := 1#32
  let c4_i32_6179 : BitVec 32 := 4#32
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let v10534 : BitVec 32 := Scalar.muli c4_i32_6179 v10034
  let v10535 : BitVec 32 := Scalar.addi v10534 c0_i32_6180
  let v10536 : Index := Scalar.indexCast v10535
  let c0_6183 : Index := 0#32
  let c0_6184 : Index := 0#32
  ![1, 1, v10536.toNat, 0, 0]
def k0_off9 (k0_t2 : Fin k0_t2_loop.trips) (c0_i32_6300 : BitVec 32) : Fin 5 → Nat :=
  let c1_6301 : Index := 1#32
  let c2_6302 : Index := 2#32
  let c4_i32_6299 : BitVec 32 := 4#32
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let v10854 : BitVec 32 := Scalar.muli c4_i32_6299 v10034
  let v10855 : BitVec 32 := Scalar.addi v10854 c0_i32_6300
  let v10856 : Index := Scalar.indexCast v10855
  let c0_6303 : Index := 0#32
  let c0_6304 : Index := 0#32
  ![1, 2, v10856.toNat, 0, 0]
def k0_off10 (k0_t2 : Fin k0_t2_loop.trips) (c0_i32_6420 : BitVec 32) : Fin 5 → Nat :=
  let c1_6421 : Index := 1#32
  let c3_6422 : Index := 3#32
  let c4_i32_6419 : BitVec 32 := 4#32
  let c0_i32_5995 : BitVec 32 := 0#32
  let c0_i32_5980 : BitVec 32 := 0#32
  let c1_i32_5982 : BitVec 32 := 1#32
  let arg14 : BitVec 32 := Scf.iv c0_i32_5980 c1_i32_5982 k0_t2
  let c1_i32_5994 : BitVec 32 := 1#32
  let v10033 : BitVec 32 := Scalar.muli arg14 c1_i32_5994
  let v10034 : BitVec 32 := Scalar.addi c0_i32_5995 v10033
  let v11174 : BitVec 32 := Scalar.muli c4_i32_6419 v10034
  let v11175 : BitVec 32 := Scalar.addi v11174 c0_i32_6420
  let v11176 : Index := Scalar.indexCast v11175
  let c0_6423 : Index := 0#32
  let c0_6424 : Index := 0#32
  ![1, 3, v11176.toNat, 0, 0]
def k0_off11 (i : grid0.Coords) (c0_i32_12 : BitVec 32) : Fin 5 → Nat :=
  let c0 : Index := 0#32
  let c0_13 : Index := 0#32
  let arg0 : BitVec 32 := BitVec.ofNat 32 (i 0).val
  let c2_i32 : BitVec 32 := 2#32
  let v46 : BitVec 32 := Scalar.muli arg0 c2_i32
  let v47 : BitVec 32 := Scalar.addi v46 c0_i32_12
  let v48 : Index := Scalar.indexCast v47
  let c0_14 : Index := 0#32
  let c0_15 : Index := 0#32
  ![0, 0, v48.toNat, 0, 0]
def k0_off12 (i : grid0.Coords) (c0_i32_127 : BitVec 32) : Fin 5 → Nat :=
  let c0_128 : Index := 0#32
  let c1 : Index := 1#32
  let arg0 : BitVec 32 := BitVec.ofNat 32 (i 0).val
  let c2_i32_126 : BitVec 32 := 2#32
  let v360 : BitVec 32 := Scalar.muli arg0 c2_i32_126
  let v361 : BitVec 32 := Scalar.addi v360 c0_i32_127
  let v362 : Index := Scalar.indexCast v361
  let c0_129 : Index := 0#32
  let c0_130 : Index := 0#32
  ![0, 1, v362.toNat, 0, 0]
def k0_off13 (i : grid0.Coords) (c0_i32_265 : BitVec 32) : Fin 5 → Nat :=
  let c0_266 : Index := 0#32
  let c2 : Index := 2#32
  let arg0 : BitVec 32 := BitVec.ofNat 32 (i 0).val
  let c2_i32_264 : BitVec 32 := 2#32
  let v674 : BitVec 32 := Scalar.muli arg0 c2_i32_264
  let v675 : BitVec 32 := Scalar.addi v674 c0_i32_265
  let v676 : Index := Scalar.indexCast v675
  let c0_267 : Index := 0#32
  let c0_268 : Index := 0#32
  ![0, 2, v676.toNat, 0, 0]
def k0_off14 (i : grid0.Coords) (c0_i32_403 : BitVec 32) : Fin 5 → Nat :=
  let c0_404 : Index := 0#32
  let c3 : Index := 3#32
  let arg0 : BitVec 32 := BitVec.ofNat 32 (i 0).val
  let c2_i32_402 : BitVec 32 := 2#32
  let v988 : BitVec 32 := Scalar.muli arg0 c2_i32_402
  let v989 : BitVec 32 := Scalar.addi v988 c0_i32_403
  let v990 : Index := Scalar.indexCast v989
  let c0_405 : Index := 0#32
  let c0_406 : Index := 0#32
  ![0, 3, v990.toNat, 0, 0]
def k0_off15 (i : grid0.Coords) (c0_i32_541 : BitVec 32) : Fin 5 → Nat :=
  let c1_542 : Index := 1#32
  let c0_543 : Index := 0#32
  let arg0 : BitVec 32 := BitVec.ofNat 32 (i 0).val
  let c2_i32_540 : BitVec 32 := 2#32
  let v1302 : BitVec 32 := Scalar.muli arg0 c2_i32_540
  let v1303 : BitVec 32 := Scalar.addi v1302 c0_i32_541
  let v1304 : Index := Scalar.indexCast v1303
  let c0_544 : Index := 0#32
  let c0_545 : Index := 0#32
  ![1, 0, v1304.toNat, 0, 0]
def k0_off16 (i : grid0.Coords) (c0_i32_681 : BitVec 32) : Fin 5 → Nat :=
  let c1_682 : Index := 1#32
  let c1_683 : Index := 1#32
  let arg0 : BitVec 32 := BitVec.ofNat 32 (i 0).val
  let c2_i32_680 : BitVec 32 := 2#32
  let v1616 : BitVec 32 := Scalar.muli arg0 c2_i32_680
  let v1617 : BitVec 32 := Scalar.addi v1616 c0_i32_681
  let v1618 : Index := Scalar.indexCast v1617
  let c0_684 : Index := 0#32
  let c0_685 : Index := 0#32
  ![1, 1, v1618.toNat, 0, 0]
def k0_off17 (i : grid0.Coords) (c0_i32_821 : BitVec 32) : Fin 5 → Nat :=
  let c1_822 : Index := 1#32
  let c2_823 : Index := 2#32
  let arg0 : BitVec 32 := BitVec.ofNat 32 (i 0).val
  let c2_i32_820 : BitVec 32 := 2#32
  let v1930 : BitVec 32 := Scalar.muli arg0 c2_i32_820
  let v1931 : BitVec 32 := Scalar.addi v1930 c0_i32_821
  let v1932 : Index := Scalar.indexCast v1931
  let c0_824 : Index := 0#32
  let c0_825 : Index := 0#32
  ![1, 2, v1932.toNat, 0, 0]
def k0_off18 (i : grid0.Coords) (c0_i32_961 : BitVec 32) : Fin 5 → Nat :=
  let c1_962 : Index := 1#32
  let c3_963 : Index := 3#32
  let arg0 : BitVec 32 := BitVec.ofNat 32 (i 0).val
  let c2_i32_960 : BitVec 32 := 2#32
  let v2244 : BitVec 32 := Scalar.muli arg0 c2_i32_960
  let v2245 : BitVec 32 := Scalar.addi v2244 c0_i32_961
  let v2246 : Index := Scalar.indexCast v2245
  let c0_964 : Index := 0#32
  let c0_965 : Index := 0#32
  ![1, 3, v2246.toNat, 0, 0]
def k0_cond2 (i : grid0.Coords) : BitVec 1 :=
  let arg0 : BitVec 32 := BitVec.ofNat 32 (i 0).val
  let c31_i32 : BitVec 32 := 31#32
  let v9423 : BitVec 1 := Scalar.cmpi .eq arg0 c31_i32
  let v9424 : BitVec 32 := Scalar.extui v9423
  let c0_i32_5529 : BitVec 32 := 0#32
  let v9425 : BitVec 1 := Scalar.cmpi .ne v9424 c0_i32_5529
  v9425

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x12x32x100 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x12x32x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12x2x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x12x32x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S100x2x2048 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x100x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "masked" => some ⊥
  | "score_scale" => some (((11863283 / 67108864) * (Real.log 2)⁻¹ : ℝ) : EReal)
  | _ => none
-- ==== ReferenceIdeal.lean ====
abbrev S2x100x12x32 : Shape := ⟨4, ![2, 100, 12, 32]⟩
abbrev S2x65536x12x32 : Shape := ⟨4, ![2, 65536, 12, 32]⟩
abbrev S2x65536x12 : Shape := ⟨3, ![2, 65536, 12]⟩
abbrev S2x100x2048 : Shape := ⟨3, ![2, 100, 2048]⟩
abbrev S32 : Shape := ⟨1, ![32]⟩
abbrev S2x100x2048x1 : Shape := ⟨4, ![2, 100, 2048, 1]⟩
abbrev S1x1x1x32 : Shape := ⟨4, ![1, 1, 1, 32]⟩
abbrev S2x100x2048x32 : Shape := ⟨4, ![2, 100, 2048, 32]⟩
abbrev S_ : Shape := ⟨0, ![]⟩
abbrev S2x100x65536 : Shape := ⟨3, ![2, 100, 65536]⟩
abbrev S2x100 : Shape := ⟨2, ![2, 100]⟩
abbrev S2x100x1 : Shape := ⟨3, ![2, 100, 1]⟩
abbrev S2x12x100x65536 : Shape := ⟨4, ![2, 12, 100, 65536]⟩
abbrev S2x12x65536 : Shape := ⟨3, ![2, 12, 65536]⟩
abbrev S2x12x1x65536 : Shape := ⟨4, ![2, 12, 1, 65536]⟩
abbrev S2x1x100x65536 : Shape := ⟨4, ![2, 1, 100, 65536]⟩
abbrev S2x12x100 : Shape := ⟨3, ![2, 12, 100]⟩
abbrev S2x12x100x1 : Shape := ⟨4, ![2, 12, 100, 1]⟩
abbrev S2x12x100x32 : Shape := ⟨4, ![2, 12, 100, 32]⟩
abbrev S2x100x384 : Shape := ⟨3, ![2, 100, 384]⟩

abbrev nBuf : Space → Nat
  | .hbm => 65
  | .vmem => 4
  | .smem => 0
  | _ => 0

abbrev bufTy : (tb : Table) → Fin (tcTables nBuf tb) → BufTy
  | .hbm, ⟨0, _⟩ => ⟨S2x100x12x32, .bf16⟩
  | .hbm, ⟨1, _⟩ => ⟨S2x65536x12x32, .fp8e4m3⟩
  | .hbm, ⟨2, _⟩ => ⟨S2x65536x12, .f32⟩
  | .hbm, ⟨3, _⟩ => ⟨S2x65536x12x32, .fp8e4m3⟩
  | .hbm, ⟨4, _⟩ => ⟨S2x65536x12, .f32⟩
  | .hbm, ⟨5, _⟩ => ⟨S2x100x2048, .i32⟩
  | .hbm, ⟨6, _⟩ => ⟨S2x65536x12x32, .bf16⟩
  | .hbm, ⟨7, _⟩ => ⟨S2x65536x12x32, .bf16⟩
  | .hbm, ⟨8, _⟩ => ⟨S2x100x2048, .i32⟩
  | .hbm, ⟨9, _⟩ => ⟨S32, .i32⟩
  | .hbm, ⟨10, _⟩ => ⟨S2x100x2048x1, .i32⟩
  | .hbm, ⟨11, _⟩ => ⟨S1x1x1x32, .i32⟩
  | .hbm, ⟨12, _⟩ => ⟨S2x100x2048x32, .i32⟩
  | .hbm, ⟨13, _⟩ => ⟨S2x100x2048x32, .i32⟩
  | .hbm, ⟨14, _⟩ => ⟨S2x100x2048x32, .i32⟩
  | .hbm, ⟨15, _⟩ => ⟨S_, .i32⟩
  | .hbm, ⟨16, _⟩ => ⟨S2x100x2048x32, .i32⟩
  | .hbm, ⟨17, _⟩ => ⟨S2x100x2048x32, .i32⟩
  | .hbm, ⟨18, _⟩ => ⟨S_, .i32⟩
  | .hbm, ⟨19, _⟩ => ⟨S2x100x2048x32, .i32⟩
  | .hbm, ⟨20, _⟩ => ⟨S2x100x2048x32, .i1⟩
  | .hbm, ⟨21, _⟩ => ⟨S2x100x2048x32, .i1⟩
  | .hbm, ⟨22, _⟩ => ⟨S2x100x65536, .i1⟩
  | .hbm, ⟨23, _⟩ => ⟨S_, .i32⟩
  | .hbm, ⟨24, _⟩ => ⟨S2x100x2048, .i32⟩
  | .hbm, ⟨25, _⟩ => ⟨S2x100x2048, .i1⟩
  | .hbm, ⟨26, _⟩ => ⟨S_, .i1⟩
  | .hbm, ⟨27, _⟩ => ⟨S2x100, .i1⟩
  | .hbm, ⟨28, _⟩ => ⟨S2x100x1, .i1⟩
  | .hbm, ⟨29, _⟩ => ⟨S2x100x65536, .i1⟩
  | .hbm, ⟨30, _⟩ => ⟨S2x100x65536, .i1⟩
  | .hbm, ⟨31, _⟩ => ⟨S2x12x100x65536, .f32⟩
  | .hbm, ⟨32, _⟩ => ⟨S2x12x65536, .f32⟩
  | .hbm, ⟨33, _⟩ => ⟨S_, .f32⟩
  | .hbm, ⟨34, _⟩ => ⟨S2x12x65536, .f32⟩
  | .hbm, ⟨35, _⟩ => ⟨S2x12x65536, .f32⟩
  | .hbm, ⟨36, _⟩ => ⟨S2x12x1x65536, .f32⟩
  | .hbm, ⟨37, _⟩ => ⟨S2x12x100x65536, .f32⟩
  | .hbm, ⟨38, _⟩ => ⟨S2x12x100x65536, .f32⟩
  | .hbm, ⟨39, _⟩ => ⟨S2x1x100x65536, .i1⟩
  | .hbm, ⟨40, _⟩ => ⟨S_, .f32⟩
  | .hbm, ⟨41, _⟩ => ⟨S_, .f32⟩
  | .hbm, ⟨42, _⟩ => ⟨S2x12x100x65536, .i1⟩
  | .hbm, ⟨43, _⟩ => ⟨S2x12x100x65536, .f32⟩
  | .hbm, ⟨44, _⟩ => ⟨S2x12x100x65536, .f32⟩
  | .hbm, ⟨45, _⟩ => ⟨S_, .f32⟩
  | .hbm, ⟨46, _⟩ => ⟨S2x12x100, .f32⟩
  | .hbm, ⟨47, _⟩ => ⟨S2x12x100x1, .f32⟩
  | .hbm, ⟨48, _⟩ => ⟨S2x12x100x65536, .f32⟩
  | .hbm, ⟨49, _⟩ => ⟨S2x12x100x65536, .f32⟩
  | .hbm, ⟨50, _⟩ => ⟨S2x12x100x65536, .f32⟩
  | .hbm, ⟨51, _⟩ => ⟨S2x12x65536, .f32⟩
  | .hbm, ⟨52, _⟩ => ⟨S2x12x1x65536, .f32⟩
  | .hbm, ⟨53, _⟩ => ⟨S2x12x100x65536, .f32⟩
  | .hbm, ⟨54, _⟩ => ⟨S2x12x100x65536, .f32⟩
  | .hbm, ⟨55, _⟩ => ⟨S2x12x100x65536, .bf16⟩
  | .hbm, ⟨56, _⟩ => ⟨S2x12x100x32, .f32⟩
  | .hbm, ⟨57, _⟩ => ⟨S_, .f32⟩
  | .hbm, ⟨58, _⟩ => ⟨S2x12x100, .f32⟩
  | .hbm, ⟨59, _⟩ => ⟨S2x12x100x1, .f32⟩
  | .hbm, ⟨60, _⟩ => ⟨S2x12x100x32, .f32⟩
  | .hbm, ⟨61, _⟩ => ⟨S2x12x100x32, .f32⟩
  | .hbm, ⟨62, _⟩ => ⟨S2x100x12x32, .f32⟩
  | .hbm, ⟨63, _⟩ => ⟨S2x100x384, .f32⟩
  | .hbm, ⟨64, _⟩ => ⟨S2x100x384, .bf16⟩
  | .local _ .vmem, ⟨0, _⟩ => ⟨S2x65536x12x32, .fp8e4m3⟩
  | .local _ .vmem, ⟨1, _⟩ => ⟨S2x65536x12x32, .fp8e4m3⟩
  | .local _ .vmem, ⟨2, _⟩ => ⟨S2x65536x12x32, .bf16⟩
  | .local _ .vmem, ⟨3, _⟩ => ⟨S2x65536x12x32, .bf16⟩
  | _, _ => ⟨S2x100x12x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x65536x12x32 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x65536x12x32 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x65536x12x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x65536x12x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tiles.lean ====
/- One name for each value the kernel's body computes on a tile, whatever the batch, the head and the chunk.
   The body is unrolled over two batches, three head groups, eight chunks and four heads; every one of these
   values is one of the functions below of what the body loaded. -/
module

public import proofs.«01_k».proof.Proof.Gen.KernelIdeal.Skeleton

@[expose] public section

noncomputable section

namespace Cert.KernelIdeal.Val

open Idealize.ShloMosaic Idealize.SL.Sem Cert.KernelIdeal Cert.KernelIdeal.Gen

variable {F : FTy → Type} [FloatOps F] [Named F]

/-- What one grid step loads: keys, expanded mask, packed queries, key scales, values, value scales, the
    scores read back, the running maxima and the running sums; by batch, head (or group, or pair) and chunk. -/
structure Loads (F : FTy → Type) where
  k : Fin 2 → Fin 3 → Fin 8 → Vec F S1x4x32x256 .fp8e4m3
  nm : Fin 2 → Fin 8 → Vec F S1x128x256 .fp8e4m3
  q : Fin 2 → Fin 3 → Vec F S1x1x416x256 .bf16
  ks : Fin 2 → Fin 12 → Fin 8 → Vec F S1x1x256 .f32
  v : Fin 2 → Fin 12 → Fin 8 → Vec F S1x1x32x256 .fp8e4m3
  vs : Fin 2 → Fin 12 → Fin 8 → Vec F S1x1x256 .f32
  m : Fin 2 → Fin 12 → Vec F S1x1x104x128 .f32
  acc : Fin 2 → Fin 6 → Vec F S1x1x80x208 .f32

/-- The eight chunks' values combined from the first on. -/
def fold8 {α : Type} (op : α → α → α) (f : Fin 8 → α) : α :=
  op (op (op (op (op (op (op (f 0) (f 1)) (f 2)) (f 3)) (f 4)) (f 5)) (f 6)) (f 7)

/-- The mask rows of one packed word tile, expanded over 128 pixels. -/
def nmTile (u : Fin 8) (w : Vec F S1x1x1x8x128 .i32) : FVec F S1x32x128 .fp8e4m3 :=
  have a : IVec S8x128 32 := addi (broadcast S8x128 (BitVec.ofNat 32 (16 * u.val))) k0_pay322
  have p : IVec S8x128 1 := cmpi .slt a (broadcast S8x128 0#32)
  have i : IVec S8x128 32 := select p (addi a (broadcast S8x128 128#32)) a
  have j : IVec S8x128 32 :=
    shapeCast S8x128 (shapeCast S8x128x1 i shapeCasts_S8x128_S8x128x1) shapeCasts_S8x128x1_S8x128
  have g : IVec S8x128 32 := dynamicGather 1 (shapeCast S8x128 w shapeCasts_S1x1x1x8x128_S8x128) j
  have x : IVec S8x128 32 :=
    shrui (andi (shli g (k0_pay326 k0_pay323 k0_pay324 k0_pay325)) (broadcast S8x128 2155905152#32))
      (broadcast S8x128 1#32)
  shapeCast S1x32x128
    (bitcastToFloat .fp8e4m3 (bitcast S32x128 8 x bitcasts_S8x128_w32_S32x128_w8) : FVec F S32x128 .fp8e4m3)
    shapeCasts_S32x128_S1x32x128

/-- The keys of a head group over the mask's rows: what the packed queries are multiplied with. -/
def keysMask (k : Vec F S1x4x32x256 .fp8e4m3) (nm : Vec F S1x128x256 .fp8e4m3) : FVec F S256x256 .fp8e4m3 :=
  concatenate S256x256 0
    [⟨S128x256, shapeCast S128x256 (shapeCast S4x32x256 k shapeCasts_S1x4x32x256_S4x32x256)
        shapeCasts_S4x32x256_S128x256⟩,
     ⟨S128x256, shapeCast S128x256 nm shapeCasts_S1x128x256_S128x256⟩]
    concatenates_S128x256_S128x256_S256x256_d0

/-- A head group's products. -/
def scores (k : Vec F S1x4x32x256 .fp8e4m3) (nm : Vec F S1x128x256 .fp8e4m3) (q : Vec F S1x1x416x256 .bf16) :
    FVec F S416x256 .f32 :=
  matmul dot_S416x256_S256x256_S416x256_1_0_0_1_n_n none (shapeCast S416x256 q shapeCasts_S1x1x416x256_S416x256)
    (keysMask k nm) (constant S416x256 .f32 0x00000000#32)

theorem slices_head (hl : Fin 4) : S416x256.Slices ![104 * hl.val, 0] S104x256 := by
  revert hl; decide

/-- One head's scores: its rows of the group's products, times its scale. -/
def scaled (hl : Fin 4) (s : FVec F S416x256 .f32) (ks : Vec F S1x1x256 .f32) : FVec F S104x256 .f32 :=
  mulf (extractStridedSlice S104x256 ![104 * hl.val, 0] s (slices_head hl))
    (broadcastTo S104x256
      (maximumf
        (mulf (shapeCast S1x256 ks shapeCasts_S1x1x256_S1x256)
          (broadcast S1x256 (Named.named κ "score_scale" 0x3E8293EE#32 : F .f32)))
        (broadcast S1x256 (Scalar.ofBits .f32 0x00800000#32 : F .f32)))
      broadcasts_S1x256_S104x256)

/-- The head group of a head, and its place in the group. -/
def grp (h : Fin 12) : Fin 3 := ⟨h.val / 4, by omega⟩
def sub (h : Fin 12) : Fin 4 := ⟨h.val % 4, by omega⟩

/-- One head's scores on one chunk. -/
def tile (L : Loads F) (b : Fin 2) (h : Fin 12) (c : Fin 8) : FVec F S104x256 .f32 :=
  scaled (sub h) (scores (L.k b (grp h) c) (L.nm b c) (L.q b (grp h))) (L.ks b h c)

/-- The larger of a tile's two halves. -/
def halfMax (t : FVec F S104x256 .f32) : FVec F S104x128 .f32 :=
  maximumf (extractStridedSlice S104x128 ![0, 0] t slices_S104x256_o0_0_S104x128)
    (extractStridedSlice S104x128 ![0, 128] t slices_S104x256_o0_128_S104x128)

/-- The maxima of the step's scores, per row and lane. -/
def laneMax (L : Loads F) (b : Fin 2) (h : Fin 12) : FVec F S104x128 .f32 :=
  fold8 maximumf fun c => halfMax (tile L b h c)

/-- The running maximum before the step, and after it. -/
def mOld (L : Loads F) (b : Fin 2) (h : Fin 12) : FVec F S104x128 .f32 :=
  shapeCast S104x128 (L.m b h) shapeCasts_S1x1x104x128_S104x128
def mNew (L : Loads F) (b : Fin 2) (h : Fin 12) : FVec F S104x128 .f32 :=
  maximumf (mOld L b h)
    (broadcastTo S104x128
      (shapeCast S104x1
        (multiReduction .maximumf [1] S104 (laneMax L b h) 0xFF800000#32 reduces_S104x128_S104 (.inl rfl) rfl)
        shapeCasts_S104_S104x1)
      broadcasts_S104x1_S104x128)

/-- The factor by which a head's running sums shrink, as a row. -/
def alpha (L : Loads F) (b : Fin 2) (h : Fin 12) : FVec F S1x104 .f32 :=
  extractStridedSlice S1x104 ![0, 0]
    (transpose S128x104 [1, 0] (exp2 (subf (mOld L b h) (mNew L b h))) transposes_S104x128_p1_0_S128x104)
    slices_S128x104_o0_0_S1x104

/-- The two heads of a pair. -/
def head0 (p : Fin 6) : Fin 12 := ⟨2 * p.val, by omega⟩
def head1 (p : Fin 6) : Fin 12 := ⟨2 * p.val + 1, by omega⟩

def alphas (L : Loads F) (b : Fin 2) (p : Fin 6) : FVec F S1x208 .f32 :=
  concatenate S1x208 1 [⟨S1x104, alpha L b (head0 p)⟩, ⟨S1x104, alpha L b (head1 p)⟩]
    concatenates_S1x104_S1x104_S1x208_d1

/-- A head's weights on one chunk, from its scores `t` read back. -/
def weights (m : FVec F S104x128 .f32) (t : Vec F S1x104x256 .f32) : FVec F S104x256 .f32 :=
  exp2 (subf (shapeCast S104x256 t shapeCasts_S1x104x256_S104x256)
    (concatenate S104x256 1 [⟨S104x128, m⟩, ⟨S104x128, m⟩] concatenates_S104x128_S104x128_S104x256_d1))

/-- A head's values on one chunk, scaled. -/
def vals (v : Vec F S1x1x32x256 .fp8e4m3) (vs : Vec F S1x1x256 .f32) : FVec F S32x256 .bf16 :=
  truncf .bf16
    (mulf (extf .f32 (shapeCast S32x256 v shapeCasts_S1x1x32x256_S32x256) bitsLt_fp8e4m3_f32)
      (broadcastTo S32x256 (shapeCast S1x256 vs shapeCasts_S1x1x256_S1x256) broadcasts_S1x256_S32x256))
    bitsLt_bf16_f32

/-- A pair's values, with the rows of ones that sum the weights. -/
def pairVals (L : Loads F) (b : Fin 2) (p : Fin 6) (c : Fin 8) : FVec F S80x256 .bf16 :=
  concatenate S80x256 0
    [⟨S32x256, vals (L.v b (head0 p) c) (L.vs b (head0 p) c)⟩,
     ⟨S32x256, vals (L.v b (head1 p) c) (L.vs b (head1 p) c)⟩,
     ⟨S16x256, k0_pay539⟩]
    concatenates_S32x256_S32x256_S16x256_S80x256_d0

/-- A pair's weights. -/
def pairWeights (L : Loads F) (t : Fin 2 → Fin 12 → Fin 8 → Vec F S1x104x256 .f32) (b : Fin 2) (p : Fin 6)
    (c : Fin 8) : FVec F S208x256 .bf16 :=
  truncf .bf16
    (concatenate S208x256 0
      [⟨S104x256, weights (mNew L b (head0 p)) (t b (head0 p) c)⟩,
       ⟨S104x256, weights (mNew L b (head1 p)) (t b (head1 p) c)⟩]
      concatenates_S104x256_S104x256_S208x256_d0)
    bitsLt_bf16_f32

/-- A pair's weighted values summed over one chunk. -/
def pairSum (L : Loads F) (t : Fin 2 → Fin 12 → Fin 8 → Vec F S1x104x256 .f32) (b : Fin 2) (p : Fin 6)
    (c : Fin 8) : FVec F S80x208 .f32 :=
  matmul dot_S80x256_S208x256_S80x208_1_1_0_0_n_n none (pairVals L b p c) (pairWeights L t b p c)
    (constant S80x208 .f32 0x00000000#32)

/-- The running sums after the step. -/
def accNew (L : Loads F) (t : Fin 2 → Fin 12 → Fin 8 → Vec F S1x104x256 .f32) (b : Fin 2) (p : Fin 6) :
    FVec F S80x208 .f32 :=
  addf
    (mulf (shapeCast S80x208 (L.acc b p) shapeCasts_S1x1x80x208_S80x208)
      (broadcastTo S80x208 (alphas L b p) broadcasts_S1x208_S80x208))
    (fold8 addf fun c => pairSum L t b p c)

/-! ## The stores, in the order the body makes them -/

/-- The tile a number names: batch, head, chunk. -/
def tB (n : ℕ) : Fin 2 := ⟨n / 96 % 2, by omega⟩
def tH (n : ℕ) : Fin 12 := ⟨4 * (n / 32 % 3) + n % 4, by omega⟩
def tC (n : ℕ) : Fin 8 := ⟨n / 4 % 8, by omega⟩

theorem tInb (n : ℕ) : ∀ a, (![n / 32 % 2, 104 * (n % 4), 256 * (n / 4 % 8)] : Fin 3 → ℕ) a + S1x104x256.size a
    ≤ S2x416x2048.size a := by
  intro a
  fin_cases a
  · show n / 32 % 2 + 1 ≤ 2; omega
  · show 104 * (n % 4) + 104 ≤ 416; omega
  · show 256 * (n / 4 % 8) + 256 ≤ 2048; omega

/-- Where the scores of tile `n` are stored. -/
def tRect (n : ℕ) : Rect S2x416x2048 :=
  Rect.unit (s := S2x416x2048) ![n / 32 % 2, 104 * (n % 4), 256 * (n / 4 % 8)] S1x104x256.size (tInb n)

def tPiece (L : Loads F) (n : ℕ) : View.Piece (Elt F) S2x416x2048 .f32 :=
  ⟨tRect n, (shapeCast S1x104x256 (tile L (tB n) (tH n) (tC n)) shapeCasts_S104x256_S1x104x256 :
    FVec F S1x104x256 .f32)⟩

/-- The first `n` stores of scores, last first. -/
def tPieces (L : Loads F) (n : ℕ) : List (View.Piece (Elt F) S2x416x2048 .f32) :=
  Nat.rec [] (fun k l => tPiece L k :: l) n

theorem mInb (n : ℕ) : ∀ a, (![n / 12 % 2, n % 12, 0, 0] : Fin 4 → ℕ) a + S1x1x104x128.size a
    ≤ S2x12x104x128.size a := by
  intro a
  fin_cases a
  · show n / 12 % 2 + 1 ≤ 2; omega
  · show n % 12 + 1 ≤ 12; omega
  · show 0 + 104 ≤ 104; omega
  · show 0 + 128 ≤ 128; omega

def mRect (n : ℕ) : Rect S2x12x104x128 :=
  Rect.unit (s := S2x12x104x128) ![n / 12 % 2, n % 12, 0, 0] S1x1x104x128.size (mInb n)

def mB (n : ℕ) : Fin 2 := ⟨n / 12 % 2, by omega⟩
def mH (n : ℕ) : Fin 12 := ⟨n % 12, by omega⟩

def mPiece (L : Loads F) (n : ℕ) : View.Piece (Elt F) S2x12x104x128 .f32 :=
  ⟨mRect n, (shapeCast S1x1x104x128 (mNew L (mB n) (mH n)) shapeCasts_S104x128_S1x1x104x128 :
    FVec F S1x1x104x128 .f32)⟩

/-- The first `n` stores of running maxima, last first. -/
def mPieces (L : Loads F) (n : ℕ) : List (View.Piece (Elt F) S2x12x104x128 .f32) :=
  Nat.rec [] (fun k l => mPiece L k :: l) n

theorem aInb (n : ℕ) : ∀ a, (![n / 6 % 2, n % 6, 0, 0] : Fin 4 → ℕ) a + S1x1x80x208.size a
    ≤ S2x6x80x208.size a := by
  intro a
  fin_cases a
  · show n / 6 % 2 + 1 ≤ 2; omega
  · show n % 6 + 1 ≤ 6; omega
  · show 0 + 80 ≤ 80; omega
  · show 0 + 208 ≤ 208; omega

def aRect (n : ℕ) : Rect S2x6x80x208 :=
  Rect.unit (s := S2x6x80x208) ![n / 6 % 2, n % 6, 0, 0] S1x1x80x208.size (aInb n)

def aB (n : ℕ) : Fin 2 := ⟨n / 6 % 2, by omega⟩
def aP (n : ℕ) : Fin 6 := ⟨n % 6, by omega⟩

def aPiece (L : Loads F) (t : Fin 2 → Fin 12 → Fin 8 → Vec F S1x104x256 .f32) (n : ℕ) :
    View.Piece (Elt F) S2x6x80x208 .f32 :=
  ⟨aRect n, (shapeCast S1x1x80x208 (accNew L t (aB n) (aP n)) shapeCasts_S80x208_S1x1x80x208 :
    FVec F S1x1x80x208 .f32)⟩

/-- The first `n` stores of running sums, last first. -/
def aPieces (L : Loads F) (t : Fin 2 → Fin 12 → Fin 8 → Vec F S1x104x256 .f32) (n : ℕ) :
    List (View.Piece (Elt F) S2x6x80x208 .f32) :=
  Nat.rec [] (fun k l => aPiece L t k :: l) n

theorem nInb (n : ℕ) : ∀ a, (![n / 64 % 2, 32 * (n / 16 % 4), 128 * (n % 16)] : Fin 3 → ℕ) a + S1x32x128.size a
    ≤ S2x128x2048.size a := by
  intro a
  fin_cases a
  · show n / 64 % 2 + 1 ≤ 2; omega
  · show 32 * (n / 16 % 4) + 32 ≤ 128; omega
  · show 128 * (n % 16) + 128 ≤ 2048; omega

def nRect (n : ℕ) : Rect S2x128x2048 :=
  Rect.unit (s := S2x128x2048) ![n / 64 % 2, 32 * (n / 16 % 4), 128 * (n % 16)] S1x32x128.size (nInb n)

/-- The first `n` stores of expanded mask rows, last first, from the packed words `w`. -/
def nPiece (w : Fin 2 → Fin 4 → Fin 2 → Vec F S1x1x1x8x128 .i32) (n : ℕ) :
    View.Piece (Elt F) S2x128x2048 .fp8e4m3 :=
  ⟨nRect n, nmTile ⟨n % 8, by omega⟩ (w ⟨n / 64 % 2, by omega⟩ ⟨n / 16 % 4, by omega⟩ ⟨n / 8 % 2, by omega⟩)⟩
def nPieces (w : Fin 2 → Fin 4 → Fin 2 → Vec F S1x1x1x8x128 .i32) (n : ℕ) :
    List (View.Piece (Elt F) S2x128x2048 .fp8e4m3) :=
  Nat.rec [] (fun k l => nPiece w k :: l) n

/-- How many score tiles are stored when the scores of batch `b`, head `h`, chunk `c` are read back: those of the
    next head group's chunk `c` too. -/
def tCount (b : Fin 2) (h : Fin 12) (c : Fin 8) : ℕ :=
  min 192 (32 * (3 * b.val + (grp h).val + 1) + 4 * (c.val + 1))

theorem tbInb (b : Fin 2) (h : Fin 12) (c : Fin 8) :
    ∀ a, (![(3 * b.val + (grp h).val) % 2, 104 * (sub h).val, 256 * c.val] : Fin 3 → ℕ) a + S1x104x256.size a
      ≤ S2x416x2048.size a := by
  have := (sub h).isLt
  intro a
  fin_cases a
  · show (3 * b.val + (grp h).val) % 2 + 1 ≤ 2; omega
  · show 104 * (sub h).val + 104 ≤ 416; omega
  · show 256 * c.val + 256 ≤ 2048; omega

def tbRect (b : Fin 2) (h : Fin 12) (c : Fin 8) : Rect S2x416x2048 :=
  Rect.unit (s := S2x416x2048) ![(3 * b.val + (grp h).val) % 2, 104 * (sub h).val, 256 * c.val] S1x104x256.size
    (tbInb b h c)

/-- The scores read back. -/
def tBack {sig : RefSig} {κ : Kind} {sp : Space} (w : View sig κ sp S2x416x2048 .f32) (L : Loads F) (b : Fin 2) (h : Fin 12) (c : Fin 8) :
    Vec F S1x104x256 .f32 :=
  w.readCov (tPieces L (tCount b h c)) (tbRect b h c).toLoadRect

end Cert.KernelIdeal.Val

end
-- ==== Proof.StepLoads.lean ====
/- What a grid step loads, spelt as the run of the body leaves it: through the staging buffers of the windows,
   through the carried scratches, and through the scratch of expanded mask rows, over the stores made to it. -/
module

public import proofs.«01_k».proof.Proof.Tiles
public import Idealize.ShloMosaic.Lib.Pipeline.FrameBody
public import Idealize.ShloMosaic.Lib.Tactic

@[expose] public section

noncomputable section

namespace Cert.KernelIdeal.Val

open Idealize.ShloMosaic Idealize.SL.Sem Idealize.ShloMosaic.Pipeline Cert.KernelIdeal Cert.KernelIdeal.Gen

variable {F : FTy → Type} [FloatOps F] [Named F]

theorem kInb (b : Fin 2) (g : Fin 3) (c : Fin 8) :
    ∀ a, (![b.val, 4 * g.val, 0, 256 * c.val] : Fin 4 → ℕ) a + S1x4x32x256.size a ≤ S2x12x32x2048.size a := by
  intro a
  fin_cases a
  · show b.val + 1 ≤ 2; omega
  · show 4 * g.val + 4 ≤ 12; omega
  · show 0 + 32 ≤ 32; omega
  · show 256 * c.val + 256 ≤ 2048; omega

theorem vInb (b : Fin 2) (h : Fin 12) (c : Fin 8) :
    ∀ a, (![b.val, h.val, 0, 256 * c.val] : Fin 4 → ℕ) a + S1x1x32x256.size a ≤ S2x12x32x2048.size a := by
  intro a
  fin_cases a
  · show b.val + 1 ≤ 2; omega
  · show h.val + 1 ≤ 12; omega
  · show 0 + 32 ≤ 32; omega
  · show 256 * c.val + 256 ≤ 2048; omega

theorem sInb (b : Fin 2) (h : Fin 12) (c : Fin 8) :
    ∀ a, (![h.val, b.val, 256 * c.val] : Fin 3 → ℕ) a + S1x1x256.size a ≤ S12x2x2048.size a := by
  intro a
  fin_cases a
  · show h.val + 1 ≤ 12; omega
  · show b.val + 1 ≤ 2; omega
  · show 256 * c.val + 256 ≤ 2048; omega

theorem nmInb (b : Fin 2) (c : Fin 8) :
    ∀ a, (![b.val, 0, 256 * c.val] : Fin 3 → ℕ) a + S1x128x256.size a ≤ S2x128x2048.size a := by
  intro a
  fin_cases a
  · show b.val + 1 ≤ 2; omega
  · show 0 + 128 ≤ 128; omega
  · show 256 * c.val + 256 ≤ 2048; omega

theorem qInb (b : Fin 2) (g : Fin 3) :
    ∀ a, (![b.val, g.val, 0, 0] : Fin 4 → ℕ) a + S1x1x416x256.size a ≤ S2x3x416x256.size a := by
  intro a
  fin_cases a
  · show b.val + 1 ≤ 2; omega
  · show g.val + 1 ≤ 3; omega
  · show 0 + 416 ≤ 416; omega
  · show 0 + 256 ≤ 256; omega

theorem mInb' (b : Fin 2) (h : Fin 12) :
    ∀ a, (![b.val, h.val, 0, 0] : Fin 4 → ℕ) a + S1x1x104x128.size a ≤ S2x12x104x128.size a := by
  intro a
  fin_cases a
  · show b.val + 1 ≤ 2; omega
  · show h.val + 1 ≤ 12; omega
  · show 0 + 104 ≤ 104; omega
  · show 0 + 128 ≤ 128; omega

theorem aInb' (b : Fin 2) (p : Fin 6) :
    ∀ a, (![b.val, p.val, 0, 0] : Fin 4 → ℕ) a + S1x1x80x208.size a ≤ S2x6x80x208.size a := by
  intro a
  fin_cases a
  · show b.val + 1 ≤ 2; omega
  · show p.val + 1 ≤ 6; omega
  · show 0 + 80 ≤ 80; omega
  · show 0 + 208 ≤ 208; omega

def kRect (b : Fin 2) (g : Fin 3) (c : Fin 8) : Rect S2x12x32x2048 :=
  Rect.unit (s := S2x12x32x2048) ![b.val, 4 * g.val, 0, 256 * c.val] S1x4x32x256.size (kInb b g c)
def vRect (b : Fin 2) (h : Fin 12) (c : Fin 8) : Rect S2x12x32x2048 :=
  Rect.unit (s := S2x12x32x2048) ![b.val, h.val, 0, 256 * c.val] S1x1x32x256.size (vInb b h c)
def sRect (b : Fin 2) (h : Fin 12) (c : Fin 8) : Rect S12x2x2048 :=
  Rect.unit (s := S12x2x2048) ![h.val, b.val, 256 * c.val] S1x1x256.size (sInb b h c)
def nmRect (b : Fin 2) (c : Fin 8) : Rect S2x128x2048 :=
  Rect.unit (s := S2x128x2048) ![b.val, 0, 256 * c.val] S1x128x256.size (nmInb b c)
def qRect (b : Fin 2) (g : Fin 3) : Rect S2x3x416x256 :=
  Rect.unit (s := S2x3x416x256) ![b.val, g.val, 0, 0] S1x1x416x256.size (qInb b g)
def moRect (b : Fin 2) (h : Fin 12) : Rect S2x12x104x128 :=
  Rect.unit (s := S2x12x104x128) ![b.val, h.val, 0, 0] S1x1x104x128.size (mInb' b h)
def aoRect (b : Fin 2) (p : Fin 6) : Rect S2x6x80x208 :=
  Rect.unit (s := S2x6x80x208) ![b.val, p.val, 0, 0] S1x1x80x208.size (aInb' b p)

section
variable (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg10 : Memref sig .tc .vmem S2x128x2048 .fp8e4m3)
  (x1 : Vec F S2x12x32x2048 .fp8e4m3) (x2 : Vec F S12x2x2048 .f32) (x3 : Vec F S2x12x32x2048 .fp8e4m3)
  (x4 : Vec F S12x2x2048 .f32)

/-- A step's loads, from the windows' blocks, the stores of expanded mask rows, and the carried scratches'. -/
def mkLoads (nmL : List (View.Piece (Elt F) S2x128x2048 .fp8e4m3))
    (q : Fin 2 → Fin 3 → Vec F S1x1x416x256 .bf16) (m : Fin 2 → Fin 12 → Vec F S1x1x104x128 .f32)
    (acc : Fin 2 → Fin 6 → Vec F S1x1x80x208 .f32) : Loads F where
  k b g c := View.readAt (Elt F) arg2.view (kRect b g c).toLoadRect (harg2.unread x1)
  nm b c := arg10.view.readCov nmL (nmRect b c).toLoadRect
  q := q
  ks b h c := View.readAt (Elt F) arg3.view (sRect b h c).toLoadRect (harg3.unread x2)
  v b h c := View.readAt (Elt F) arg4.view (vRect b h c).toLoadRect (harg4.unread x3)
  vs b h c := View.readAt (Elt F) arg5.view (sRect b h c).toLoadRect (harg5.unread x4)
  m := m
  acc := acc

end

section
variable (arg8 : Memref sig .tc .vmem S2x3x416x256 .bf16) (harg8 : arg8.IsWhole)
  (arg9 : Memref sig .tc .vmem S2x4x64x8x128 .i32) (harg9 : arg9.IsWhole)
  (arg12 : Memref sig .tc .vmem S2x12x104x128 .f32) (harg12 : arg12.IsWhole)
  (arg13 : Memref sig .tc .vmem S2x6x80x208 .f32) (harg13 : arg13.IsWhole)
  (xs0 : Vec F S2x3x416x256 .bf16) (xs1 : Vec F S2x4x64x8x128 .i32)
  (xs4 : Vec F S2x12x104x128 .f32) (xs5 : Vec F S2x6x80x208 .f32)

/-- The carried scratches' loads at a step that finds them at `xs·`. -/
def qCar (b : Fin 2) (g : Fin 3) : Vec F S1x1x416x256 .bf16 :=
  View.readAt (Elt F) arg8.view (qRect b g).toLoadRect (harg8.unread xs0)
def mCar (b : Fin 2) (h : Fin 12) : Vec F S1x1x104x128 .f32 :=
  View.readAt (Elt F) arg12.view (moRect b h).toLoadRect (harg12.unread xs4)
def aCar (b : Fin 2) (p : Fin 6) : Vec F S1x1x80x208 .f32 :=
  View.readAt (Elt F) arg13.view (aoRect b p).toLoadRect (harg13.unread xs5)

/-- The offsets the step reads its packed mask words at. -/
def wOff (i : grid0.Coords) (b : Fin 2) (t : Fin 4) (o : Fin 2) : Fin 5 → ℕ :=
  match b, t with
  | 0, 0 => k0_off11 i (BitVec.ofNat 32 o.val)
  | 0, 1 => k0_off12 i (BitVec.ofNat 32 o.val)
  | 0, 2 => k0_off13 i (BitVec.ofNat 32 o.val)
  | 0, 3 => k0_off14 i (BitVec.ofNat 32 o.val)
  | 1, 0 => k0_off15 i (BitVec.ofNat 32 o.val)
  | 1, 1 => k0_off16 i (BitVec.ofNat 32 o.val)
  | 1, 2 => k0_off17 i (BitVec.ofNat 32 o.val)
  | 1, 3 => k0_off18 i (BitVec.ofNat 32 o.val)

theorem wInb (i : grid0.Coords) (b : Fin 2) (t : Fin 4) (o : Fin 2) :
    ∀ a, wOff i b t o a + S1x1x1x8x128.size a ≤ S2x4x64x8x128.size a :=
  match b, t with
  | 0, 0 => k0_off11_inb i o
  | 0, 1 => k0_off12_inb i o
  | 0, 2 => k0_off13_inb i o
  | 0, 3 => k0_off14_inb i o
  | 1, 0 => k0_off15_inb i o
  | 1, 1 => k0_off16_inb i o
  | 1, 2 => k0_off17_inb i o
  | 1, 3 => k0_off18_inb i o

theorem wOff_eq (i : grid0.Coords) (b : Fin 2) (t : Fin 4) (o : Fin 2) :
    wOff i b t o = ![b.val, t.val, 2 * (i 0).val + o.val, 0, 0] := by
  fin_cases b <;> fin_cases t
  · exact k0_off11_eq i o
  · exact k0_off12_eq i o
  · exact k0_off13_eq i o
  · exact k0_off14_eq i o
  · exact k0_off15_eq i o
  · exact k0_off16_eq i o
  · exact k0_off17_eq i o
  · exact k0_off18_eq i o

def wRect (i : grid0.Coords) (b : Fin 2) (t : Fin 4) (o : Fin 2) : Rect S2x4x64x8x128 :=
  Rect.unit (s := S2x4x64x8x128) (wOff i b t o) S1x1x1x8x128.size (wInb i b t o)

end

end Cert.KernelIdeal.Val

end
-- ==== Proof.Lists.lean ====
/- What a list of stores made one after another leaves: at a place, the payload of the last store that holds it. -/
module

public import proofs.«01_k».proof.Proof.StepLoads
public import Idealize.ShloMosaic.Lib.Writes
public import Idealize.ShloMosaic.Lib.Pipeline.ValueKit

@[expose] public section

noncomputable section

namespace Cert.KernelIdeal.Val

open Idealize.ShloMosaic Idealize.SL.Sem Idealize.ShloMosaic.Pipeline Cert.KernelIdeal Cert.KernelIdeal.Gen

section
variable {Val : EltTy → Type} [∀ e, Nonempty (Val e)] {s : Shape} {e : EltTy}

/-- Stores `f 0`, `f 1`, … made over `l`; each may depend on the stores before it. -/
def recList (l : List (View.Piece Val s e)) (f : ℕ → List (View.Piece Val s e) → View.Piece Val s e) (n : ℕ) :
    List (View.Piece Val s e) :=
  Nat.rec l (fun k l => f k l :: l) n

theorem canon_rec_miss (l : List (View.Piece Val s e)) (f : ℕ → List (View.Piece Val s e) → View.Piece Val s e)
    (y : s.Idx) (N n : ℕ) (hn : n ≤ N)
    (hm : ∀ m, n ≤ m → m < N → y ∉ (f m (recList l f m)).1.set) :
    View.canon (recList l f N) y = View.canon (recList l f n) y := by
  induction N with
  | zero => obtain rfl : n = 0 := by omega
            rfl
  | succ N ih =>
    rcases Nat.lt_or_ge N n with h | h
    · obtain rfl : n = N + 1 := by omega
      rfl
    · exact (View.canon_cons_of_not_mem _ _ (hm N h (Nat.lt_succ_self _))).trans
        (ih h fun m h1 h2 => hm m h1 (by omega))

theorem canon_rec_hit (l : List (View.Piece Val s e)) (f : ℕ → List (View.Piece Val s e) → View.Piece Val s e)
    (y : s.Idx) (N n : ℕ) (hn : n < N) (x : (f n (recList l f n)).1.shape.Idx)
    (hx : (f n (recList l f n)).1.emb x = y)
    (hm : ∀ m, n < m → m < N → y ∉ (f m (recList l f m)).1.set) :
    View.canon (recList l f N) y = (f n (recList l f n)).2 x := by
  rw [canon_rec_miss l f y N (n + 1) hn fun m h1 h2 => hm m h1 h2, ← hx]
  exact View.canon_cons_emb _ _ _ x

end

variable {F : FTy → Type} [FloatOps F] [Named F]

/-- A list of stores of running maxima, one per batch and head, whatever each store's payload depends on. -/
theorem canon_m (l : List (View.Piece (Elt F) S2x12x104x128 .f32))
    (w : ℕ → List (View.Piece (Elt F) S2x12x104x128 .f32) → FVec F S1x1x104x128 .f32)
    (b : Fin 2) (h : Fin 12) (n : Fin 104) (j : Fin 128) :
    View.canon (Val := Elt F) (e := .f32) (recList l (fun k l => ⟨mRect k, w k l⟩) 24) (ix4 b h n j)
      = w (12 * b.val + h.val) (recList l (fun k l => ⟨mRect k, w k l⟩) (12 * b.val + h.val)) (ix4 0 0 n j) := by
  have hb := b.isLt
  have hh := h.isLt
  refine canon_rec_hit l (fun k l => ⟨mRect k, w k l⟩) _ 24 (12 * b.val + h.val) (by omega) (ix4 0 0 n j) ?_ ?_
  · refine Rect.emb_eq_of_coords (mRect (12 * b.val + h.val)) _ _ fun a => ?_
    fin_cases a
    · show b.val = (12 * b.val + h.val) / 12 % 2 + 1 * 0; omega
    · show h.val = (12 * b.val + h.val) % 12 + 1 * 0; omega
    · show n.val = 0 + 1 * n.val; omega
    · show j.val = 0 + 1 * j.val; omega
  · intro m h1 h2 hc
    have hc := (Rect.mem_set_unit (inb := mInb m)).mp hc
    have h3 : m / 12 % 2 ≤ b.val ∧ b.val < m / 12 % 2 + 1 := hc 0
    have h4 : m % 12 ≤ h.val ∧ h.val < m % 12 + 1 := hc 1
    omega

/-- Before its own store, a place of the running maxima still holds what the stores were made over. -/
theorem canon_m_miss (l : List (View.Piece (Elt F) S2x12x104x128 .f32))
    (w : ℕ → List (View.Piece (Elt F) S2x12x104x128 .f32) → FVec F S1x1x104x128 .f32)
    (b : Fin 2) (h : Fin 12) (n : Fin 104) (j : Fin 128) :
    View.canon (Val := Elt F) (e := .f32) (recList l (fun k l => ⟨mRect k, w k l⟩) (12 * b.val + h.val)) (ix4 b h n j)
      = View.canon (Val := Elt F) (e := .f32) l (ix4 b h n j) := by
  have hb := b.isLt
  have hh := h.isLt
  refine canon_rec_miss l (fun k l => ⟨mRect k, w k l⟩) _ _ 0 (by omega) ?_
  intro m h1 h2 hc
  have hc := (Rect.mem_set_unit (inb := mInb m)).mp hc
  have h3 : m / 12 % 2 ≤ b.val ∧ b.val < m / 12 % 2 + 1 := hc 0
  have h4 : m % 12 ≤ h.val ∧ h.val < m % 12 + 1 := hc 1
  omega

/-- The same for the running sums, one store per batch and pair of heads. -/
theorem canon_a (l : List (View.Piece (Elt F) S2x6x80x208 .f32))
    (w : ℕ → List (View.Piece (Elt F) S2x6x80x208 .f32) → FVec F S1x1x80x208 .f32)
    (b : Fin 2) (p : Fin 6) (n : Fin 80) (j : Fin 208) :
    View.canon (Val := Elt F) (e := .f32) (recList l (fun k l => ⟨aRect k, w k l⟩) 12) (ix4 b p n j)
      = w (6 * b.val + p.val) (recList l (fun k l => ⟨aRect k, w k l⟩) (6 * b.val + p.val)) (ix4 0 0 n j) := by
  have hb := b.isLt
  have hh := p.isLt
  refine canon_rec_hit l (fun k l => ⟨aRect k, w k l⟩) _ 12 (6 * b.val + p.val) (by omega) (ix4 0 0 n j) ?_ ?_
  · refine Rect.emb_eq_of_coords (aRect (6 * b.val + p.val)) _ _ fun a => ?_
    fin_cases a
    · show b.val = (6 * b.val + p.val) / 6 % 2 + 1 * 0; omega
    · show p.val = (6 * b.val + p.val) % 6 + 1 * 0; omega
    · show n.val = 0 + 1 * n.val; omega
    · show j.val = 0 + 1 * j.val; omega
  · intro m h1 h2 hc
    have hc := (Rect.mem_set_unit (inb := aInb m)).mp hc
    have h3 : m / 6 % 2 ≤ b.val ∧ b.val < m / 6 % 2 + 1 := hc 0
    have h4 : m % 6 ≤ p.val ∧ p.val < m % 6 + 1 := hc 1
    omega

theorem canon_a_miss (l : List (View.Piece (Elt F) S2x6x80x208 .f32))
    (w : ℕ → List (View.Piece (Elt F) S2x6x80x208 .f32) → FVec F S1x1x80x208 .f32)
    (b : Fin 2) (p : Fin 6) (n : Fin 80) (j : Fin 208) :
    View.canon (Val := Elt F) (e := .f32) (recList l (fun k l => ⟨aRect k, w k l⟩) (6 * b.val + p.val)) (ix4 b p n j)
      = View.canon (Val := Elt F) (e := .f32) l (ix4 b p n j) := by
  have hb := b.isLt
  have hh := p.isLt
  refine canon_rec_miss l (fun k l => ⟨aRect k, w k l⟩) _ _ 0 (by omega) ?_
  intro m h1 h2 hc
  have hc := (Rect.mem_set_unit (inb := aInb m)).mp hc
  have h3 : m / 6 % 2 ≤ b.val ∧ b.val < m / 6 % 2 + 1 := hc 0
  have h4 : m % 6 ≤ p.val ∧ p.val < m % 6 + 1 := hc 1
  omega

theorem nPiece_snd (w : Fin 2 → Fin 4 → Fin 2 → Vec F S1x1x1x8x128 .i32) (b : Fin 2) (t : Fin 4)
    (o : Fin 2) (u : Fin 8) (n : ℕ) (hn : n = 64 * b.val + 16 * t.val + 8 * o.val + u.val) :
    (nPiece w n).2 = nmTile u (w b t o) := by
  have hb := b.isLt
  have ht := t.isLt
  have ho := o.isLt
  have hu := u.isLt
  have e1 : (⟨n % 8, by omega⟩ : Fin 8) = u := Fin.ext (by show n % 8 = u.val; omega)
  have e2 : (⟨n / 64 % 2, by omega⟩ : Fin 2) = b := Fin.ext (by show n / 64 % 2 = b.val; omega)
  have e3 : (⟨n / 16 % 4, by omega⟩ : Fin 4) = t := Fin.ext (by show n / 16 % 4 = t.val; omega)
  have e4 : (⟨n / 8 % 2, by omega⟩ : Fin 2) = o := Fin.ext (by show n / 8 % 2 = o.val; omega)
  unfold nPiece
  dsimp only
  rw [e1, e2, e3, e4]

/-- The expanded mask rows after their stores. -/
theorem canon_n (w : Fin 2 → Fin 4 → Fin 2 → Vec F S1x1x1x8x128 .i32) (b : Fin 2) (t : Fin 4) (r : Fin 32)
    (o : Fin 2) (u : Fin 8) (j : Fin 128) (y : S2x128x2048.Idx)
    (hy0 : (y 0).val = b.val) (hy1 : (y 1).val = 32 * t.val + r.val)
    (hy2 : (y 2).val = 1024 * o.val + 128 * u.val + j.val) :
    View.canon (nPieces w 128) y = nmTile u (w b t o) (ix3 0 r j) := by
  have hb := b.isLt
  have ht := t.isLt
  have ho := o.isLt
  have hu := u.isLt
  have hr := r.isLt
  have hj := j.isLt
  have key := canon_rec_hit (Val := Elt F) [] (fun k _ => nPiece w k) y 128
    (64 * b.val + 16 * t.val + 8 * o.val + u.val) (by omega) (ix3 0 r j) ?_ ?_
  · exact key.trans (congrFun (nPiece_snd w b t o u _ rfl) _)
  · refine Rect.emb_eq_of_coords (nRect (64 * b.val + 16 * t.val + 8 * o.val + u.val)) _ _ fun a => ?_
    fin_cases a
    · show (y 0).val = (64 * b.val + 16 * t.val + 8 * o.val + u.val) / 64 % 2 + 1 * 0; omega
    · show (y 1).val = 32 * ((64 * b.val + 16 * t.val + 8 * o.val + u.val) / 16 % 4) + 1 * r.val; omega
    · show (y 2).val = 128 * ((64 * b.val + 16 * t.val + 8 * o.val + u.val) % 16) + 1 * j.val; omega
  · intro m h1 h2 hc
    have hc := (Rect.mem_set_unit (inb := nInb m)).mp hc
    have h3 : m / 64 % 2 ≤ (y 0).val ∧ (y 0).val < m / 64 % 2 + 1 := hc 0
    have h4 : 32 * (m / 16 % 4) ≤ (y 1).val ∧ (y 1).val < 32 * (m / 16 % 4) + 32 := hc 1
    have h5 : 128 * (m % 16) ≤ (y 2).val ∧ (y 2).val < 128 * (m % 16) + 128 := hc 2
    omega

/-- The scores read back are the tile stored. -/
theorem tBack_apply {sig : RefSig} {κ : Kind} {sp : Space} (v : View sig κ sp S2x416x2048 .f32) (L : Loads F)
    (b : Fin 2) (h : Fin 12) (c : Fin 8) (n : Fin 104) (j : Fin 256) :
    tBack v L b h c (ix3 0 n j) = tile L b h c (ix2 n j) := by
  have hb := b.isLt
  have hh := h.isLt
  have hcl := c.isLt
  have hg : (grp h).val = h.val / 4 := rfl
  have hs : (sub h).val = h.val % 4 := rfl
  have hn : n.val < 104 := n.isLt
  have hj : j.val < 256 := j.isLt
  unfold tBack
  rw [View.readCov_eq_canon']
  have hmin : tCount b h c ≤ 192 := Nat.min_le_left _ _
  have hlo : 32 * (3 * b.val + (grp h).val) + 4 * c.val + (sub h).val < tCount b h c := by
    unfold tCount; omega
  have hhi : tCount b h c ≤ 32 * (3 * b.val + (grp h).val + 1) + 4 * (c.val + 1) := Nat.min_le_right _ _
  have key := canon_rec_hit (Val := Elt F) [] (fun k _ => tPiece L k)
    ((tbRect b h c).toLoadRect.idx (ix3 0 n j)) (tCount b h c)
    (32 * (3 * b.val + (grp h).val) + 4 * c.val + (sub h).val) hlo (ix3 0 n j) ?_ ?_
  · refine key.trans ?_
    show shapeCast S1x104x256 (tile L (tB _) (tH _) (tC _)) shapeCasts_S104x256_S1x104x256 _ = _
    rw [shapeCast_apply _ _ _ (ix2 n j) (by
      rw [Shape.rowMajor_val_two, Shape.rowMajor_val_three]
      show n.val * 256 + j.val = (0 * 104 + n.val) * 256 + j.val
      omega)]
    suffices e1 : tB (32 * (3 * b.val + (grp h).val) + 4 * c.val + (sub h).val) = b ∧ tH (32 * (3 * b.val + (grp h).val) + 4 * c.val + (sub h).val) = h ∧ tC (32 * (3 * b.val + (grp h).val) + 4 * c.val + (sub h).val) = c by rw [e1.1, e1.2.1, e1.2.2]
    refine ⟨Fin.ext ?_, Fin.ext ?_, Fin.ext ?_⟩
    · have hd : (32 * (3 * b.val + (grp h).val) + 4 * c.val + (sub h).val) / 96 = b.val := by omega
      show (32 * (3 * b.val + (grp h).val) + 4 * c.val + (sub h).val) / 96 % 2 = b.val
      rw [hd]; omega
    · show 4 * ((32 * (3 * b.val + (grp h).val) + 4 * c.val + (sub h).val) / 32 % 3)
        + (32 * (3 * b.val + (grp h).val) + 4 * c.val + (sub h).val) % 4 = h.val
      omega
    · show (32 * (3 * b.val + (grp h).val) + 4 * c.val + (sub h).val) / 4 % 8 = c.val; omega
  · refine Rect.emb_eq_of_coords (tRect (32 * (3 * b.val + (grp h).val) + 4 * c.val + (sub h).val)) _ _ fun a => ?_
    fin_cases a
    · show (3 * b.val + (grp h).val) % 2 + 1 * 0
        = (32 * (3 * b.val + (grp h).val) + 4 * c.val + (sub h).val) / 32 % 2 + 1 * 0
      omega
    · show 104 * (sub h).val + 1 * n.val
        = 104 * ((32 * (3 * b.val + (grp h).val) + 4 * c.val + (sub h).val) % 4) + 1 * n.val
      omega
    · show 256 * c.val + 1 * j.val
        = 256 * ((32 * (3 * b.val + (grp h).val) + 4 * c.val + (sub h).val) / 4 % 8) + 1 * j.val
      omega
  · intro m h1 h2 hc
    have hc := (Rect.mem_set_unit (inb := tInb m)).mp hc
    have h3 : m / 32 % 2 ≤ (3 * b.val + (grp h).val) % 2 + 1 * 0
        ∧ (3 * b.val + (grp h).val) % 2 + 1 * 0 < m / 32 % 2 + 1 := hc 0
    have h4 : 104 * (m % 4) ≤ 104 * (sub h).val + 1 * n.val
        ∧ 104 * (sub h).val + 1 * n.val < 104 * (m % 4) + 104 := hc 1
    have h5 : 256 * (m / 4 % 8) ≤ 256 * c.val + 1 * j.val
        ∧ 256 * c.val + 1 * j.val < 256 * (m / 4 % 8) + 256 := hc 2
    omega

end Cert.KernelIdeal.Val

end
-- ==== Proof.TileVal.lean ====
/- A grid step's values over the extended reals, at an index: the scores of a tile, the new running maximum, the new
   running sums. -/
module

public import proofs.«01_k».proof.Proof.Lists
public import Idealize.ShloMosaic.Lib.Pointwise

@[expose] public section

noncomputable section

namespace Cert.KernelIdeal.Val

open Idealize.ShloMosaic Idealize.SL.Sem Idealize.ShloMosaic.Pipeline Cert.KernelIdeal Cert.KernelIdeal.Gen

/-- What a grid step works on, by coordinates: queries by batch, head, row and channel; keys and values by batch,
    head, channel, chunk and pixel of the chunk, with their scales; and which pixels a row may attend to. -/
structure Blk where
  Q : Fin 2 → Fin 12 → Fin 100 → Fin 32 → EReal
  K : Fin 2 → Fin 12 → Fin 32 → Fin 8 → Fin 256 → EReal
  V : Fin 2 → Fin 12 → Fin 32 → Fin 8 → Fin 256 → EReal
  KS : Fin 2 → Fin 12 → Fin 8 → Fin 256 → EReal
  VS : Fin 2 → Fin 12 → Fin 8 → Fin 256 → EReal
  A : Fin 2 → Fin 100 → Fin 8 → Fin 256 → Bool

/-- The scale of the scores, and the smallest a key's scale may come to. -/
def c2 : EReal := (Named.named (F := Ideal) κ "score_scale" (φ := .f32) 0x3E8293EE#32 : Ideal .f32)
def tiny : EReal := Ideal.ofBits .f32 0x00800000#32

/-- A score of a step: the product times the key's scale, and minus infinity at a pixel the row may not attend to. -/
def Blk.score (B : Blk) (b : Fin 2) (h : Fin 12) (n : Fin 100) (x : Fin 8 × Fin 256) : EReal :=
  (if B.A b n x.1 x.2 then ∑ d : Fin 32, B.Q b h n d * B.K b h d x.1 x.2 else ⊥) * max (B.KS b h x.1 x.2 * c2) tiny

/-- The row of the mask's rows a query's marks lie in. -/
def slot (n : Fin 100) : ℕ := n.val / 32 * 32 + n.val % 8 * 4 + n.val % 32 / 8

theorem slot_lt (n : Fin 100) : slot n < 128 := by unfold slot; omega

/-- A query's row among the padded rows. -/
def row (n : Fin 100) : Fin 104 := ⟨n.val, by omega⟩

/-- A head of a group. -/
def hd (g : Fin 3) (l : Fin 4) : Fin 12 := ⟨4 * g.val + l.val, by omega⟩

theorem hd_grp_sub (h : Fin 12) : hd (grp h) (sub h) = h :=
  Fin.ext (by show 4 * (h.val / 4) + h.val % 4 = h.val; omega)

/-- That a step's loads are those of `B`, with the running maxima `M` (the same on every lane) and sums `S`. -/
structure Spec (L : Loads Ideal) (B : Blk) (M : Fin 2 → Fin 12 → Fin 100 → EReal)
    (S : Fin 2 → Fin 6 → Fin 80 → Fin 208 → EReal) : Prop where
  k : ∀ b g c l d j, L.k b g c (ix4 0 l d j) = B.K b (hd g l) d c j
  q : ∀ b g (l : Fin 4) (n : Fin 100) (x : Fin 256), L.q b g (ix4 0 0 ⟨104 * l.val + n.val, by omega⟩ x) =
    if x.val < 128 then (if x.val / 32 = l.val then B.Q b (hd g l) n ⟨x.val % 32, by omega⟩ else 0)
    else if x.val - 128 = slot n then ⊥ else 0
  nm : ∀ b c (n : Fin 100) j, L.nm b c (ix3 0 ⟨slot n, slot_lt n⟩ j) = if B.A b n c j then 0 else 2
  ks : ∀ b h c j, L.ks b h c (ix3 0 0 j) = B.KS b h c j
  v : ∀ b h c d j, L.v b h c (ix4 0 0 d j) = B.V b h d c j
  vs : ∀ b h c j, L.vs b h c (ix3 0 0 j) = B.VS b h c j
  m : ∀ b h (n : Fin 100) j, L.m b h (ix4 0 0 (row n) j) = M b h n
  acc : ∀ b p r x, L.acc b p (ix4 0 0 r x) = S b p r x

theorem keysMask_left (k : Vec Ideal S1x4x32x256 .fp8e4m3) (nm : Vec Ideal S1x128x256 .fp8e4m3) (r : Fin 128)
    (j : Fin 256) : keysMask k nm (ix2 (Fin.castAdd 128 r) j)
      = k (ix4 0 ⟨r.val / 32, by omega⟩ ⟨r.val % 32, by omega⟩ j) := by
  unfold keysMask
  simp only [pointwise]
  exact dif_pos r.isLt

theorem keysMask_right (k : Vec Ideal S1x4x32x256 .fp8e4m3) (nm : Vec Ideal S1x128x256 .fp8e4m3) (r : Fin 128)
    (j : Fin 256) : keysMask k nm (ix2 (Fin.natAdd 128 r) j) = nm (ix3 0 r j) := by
  unfold keysMask
  simp only [pointwise]
  refine (dif_neg (by show ¬ 128 + r.val < 128; omega)).trans ?_
  congr 2
  exact Fin.ext (by show 128 + r.val - 128 = r.val; omega)

theorem scores_apply (k : Vec Ideal S1x4x32x256 .fp8e4m3) (nm : Vec Ideal S1x128x256 .fp8e4m3)
    (q : Vec Ideal S1x1x416x256 .bf16) (r : Fin 416) (j : Fin 256) :
    scores k nm q (ix2 r j) =
      (∑ x : Fin 128, q (ix4 0 0 r (Fin.castAdd 128 x)) * k (ix4 0 ⟨x.val / 32, by omega⟩ ⟨x.val % 32, by omega⟩ j))
      + ∑ x : Fin 128, q (ix4 0 0 r (Fin.natAdd 128 x)) * nm (ix3 0 x j) := by
  unfold scores
  simp only [pointwise]
  rw [zero_add]
  refine (Fin.sum_univ_add (a := 128) (b := 128) fun x : Fin 256 => q (ix4 0 0 r x) * keysMask k nm (ix2 x j)).trans ?_
  simp only [keysMask_left, keysMask_right]

theorem scaled_apply (l : Fin 4) (s : FVec Ideal S416x256 .f32) (ks : Vec Ideal S1x1x256 .f32) (r : Fin 104)
    (j : Fin 256) : scaled l s ks (ix2 r j)
      = s (ix2 ⟨104 * l.val + r.val, by omega⟩ j) * max (ks (ix3 0 0 j) * c2) tiny := by
  unfold scaled
  simp only [pointwise]
  have e : (⟨![104 * l.val, 0] 1 + j.val, by show 0 + j.val < 256; omega⟩ : Fin 256) = j :=
    Fin.ext (by show 0 + j.val = j.val; omega)
  show s (ix2 ⟨104 * l.val + r.val, _⟩ ⟨![104 * l.val, 0] 1 + j.val, _⟩) * _ = _
  rw [e]
  rfl

theorem sum_head (l : Fin 4) (f : Fin 32 → EReal) (k : Fin 128 → EReal) :
    (∑ x : Fin 128, (if x.val / 32 = l.val then f ⟨x.val % 32, by omega⟩ else 0) * k x)
      = ∑ d : Fin 32, f d * k ⟨32 * l.val + d.val, by omega⟩ := by
  rw [← Equiv.sum_comp (finProdFinEquiv (m := 4) (n := 32)), Fintype.sum_prod_type]
  refine (Finset.sum_eq_single l (fun a _ ha => ?_) fun h => absurd (Finset.mem_univ _) h).trans ?_
  · refine Finset.sum_eq_zero fun d _ => ?_
    have : ¬ (finProdFinEquiv (a, d)).val / 32 = l.val := by
      show ¬ (d.val + 32 * a.val) / 32 = l.val
      intro h; exact ha (Fin.ext (by omega))
    rw [if_neg this, zero_mul]
  · refine Finset.sum_congr rfl fun d _ => ?_
    have : (finProdFinEquiv (l, d)).val / 32 = l.val := by
      show (d.val + 32 * l.val) / 32 = l.val; omega
    rw [if_pos this]
    congr 2
    · exact Fin.ext (by show (d.val + 32 * l.val) % 32 = d.val; omega)
    · exact Fin.ext (by show d.val + 32 * l.val = 32 * l.val + d.val; omega)

theorem sum_mark (n : Fin 100) (k : Fin 128 → EReal) :
    (∑ x : Fin 128, (if x.val = slot n then (⊥ : EReal) else 0) * k x) = ⊥ * k ⟨slot n, slot_lt n⟩ := by
  refine (Finset.sum_eq_single ⟨slot n, slot_lt n⟩ (fun a _ ha => ?_) fun h => absurd (Finset.mem_univ _) h).trans ?_
  · rw [if_neg fun h => ha (Fin.ext h), zero_mul]
  · rw [if_pos rfl]

variable {L : Loads Ideal} {B : Blk} {M : Fin 2 → Fin 12 → Fin 100 → EReal}
  {S : Fin 2 → Fin 6 → Fin 80 → Fin 208 → EReal}

theorem Spec.tile (H : Spec L B M S) (b : Fin 2) (h : Fin 12) (n : Fin 100) (c : Fin 8) (j : Fin 256) :
    tile L b h c (ix2 (row n) j) = B.score b h n (c, j) := by
  unfold Val.tile
  rw [scaled_apply, H.ks, scores_apply]
  unfold Blk.score
  congr 1
  have e1 : (∑ x : Fin 128, L.q b (grp h) (ix4 0 0 ⟨104 * (sub h).val + (row n).val, by
        have := (sub h).isLt; have := (row n).isLt; omega⟩ (Fin.castAdd 128 x))
      * L.k b (grp h) c (ix4 0 ⟨x.val / 32, by omega⟩ ⟨x.val % 32, by omega⟩ j))
      = ∑ d : Fin 32, B.Q b h n d * B.K b h d c j := by
    refine (Finset.sum_congr rfl fun x _ => ?_).trans ((sum_head (sub h) (B.Q b h n)
      fun x => L.k b (grp h) c (ix4 0 ⟨x.val / 32, by omega⟩ ⟨x.val % 32, by omega⟩ j)).trans
        (Finset.sum_congr rfl fun d _ => ?_))
    · congr 1
      refine (H.q b (grp h) (sub h) n (Fin.castAdd 128 x)).trans ?_
      rw [if_pos (show (Fin.castAdd 128 x).val < 128 from x.isLt), hd_grp_sub]
      rfl
    · congr 1
      have e1 : (⟨(32 * (sub h).val + d.val) / 32, by have := (sub h).isLt; omega⟩ : Fin 4) = sub h :=
        Fin.ext (by show (32 * (sub h).val + d.val) / 32 = (sub h).val; omega)
      have e2 : (⟨(32 * (sub h).val + d.val) % 32, by omega⟩ : Fin 32) = d :=
        Fin.ext (by show (32 * (sub h).val + d.val) % 32 = d.val; omega)
      show L.k b (grp h) c (ix4 0 ⟨(32 * (sub h).val + d.val) / 32, _⟩ ⟨(32 * (sub h).val + d.val) % 32, _⟩ j) = _
      rw [e1, e2, H.k, hd_grp_sub]
  have e2 : (∑ x : Fin 128, L.q b (grp h) (ix4 0 0 ⟨104 * (sub h).val + (row n).val, by
        have := (sub h).isLt; have := (row n).isLt; omega⟩ (Fin.natAdd 128 x)) * L.nm b c (ix3 0 x j))
      = if B.A b n c j then 0 else ⊥ := by
    refine (Finset.sum_congr rfl fun x _ => ?_).trans ((sum_mark n fun x => L.nm b c (ix3 0 x j)).trans ?_)
    · congr 1
      refine (H.q b (grp h) (sub h) n (Fin.natAdd 128 x)).trans ?_
      have hx : (Fin.natAdd 128 x).val = 128 + x.val := rfl
      rw [if_neg (by rw [hx]; omega), hx, Nat.add_sub_cancel_left]
    · show ⊥ * L.nm b c (ix3 0 ⟨slot n, slot_lt n⟩ j) = _
      rw [H.nm]
      split
      · exact mul_zero _
      · exact EReal.bot_mul_of_pos (by norm_num)
  refine (congrArg₂ (· + ·) e1 e2).trans ?_
  dsimp only
  split
  · exact add_zero _
  · exact EReal.add_bot _

theorem fold8_max_le {s : Shape} (f : Fin 8 → FVec Ideal s .f32) (i : s.Idx) (X : EReal) :
    fold8 maximumf f i ≤ X ↔ ∀ c, f c i ≤ X := by
  have e : fold8 maximumf f i = max (max (max (max (max (max (max (f 0 i) (f 1 i)) (f 2 i)) (f 3 i)) (f 4 i))
    (f 5 i)) (f 6 i)) (f 7 i) := rfl
  rw [e]
  simp only [max_le_iff]
  constructor
  · rintro ⟨⟨⟨⟨⟨⟨⟨h0, h1⟩, h2⟩, h3⟩, h4⟩, h5⟩, h6⟩, h7⟩ c
    fin_cases c <;> assumption
  · intro h
    exact ⟨⟨⟨⟨⟨⟨⟨h 0, h 1⟩, h 2⟩, h 3⟩, h 4⟩, h 5⟩, h 6⟩, h 7⟩

theorem fold8_add {s : Shape} (f : Fin 8 → FVec Ideal s .f32) (i : s.Idx) :
    fold8 addf f i = ∑ c, f c i := by
  rw [Fin.sum_univ_eight]
  rfl

theorem halfMax_apply (t : FVec Ideal S104x256 .f32) (r : Fin 104) (j : Fin 128) :
    halfMax t (ix2 r j) = max (t (ix2 r (Fin.castAdd 128 j))) (t (ix2 r (Fin.natAdd 128 j))) := by
  unfold halfMax
  simp only [pointwise]
  congr 2
  · congr 1
    · exact Fin.ext (by show 0 + r.val = r.val; omega)
    · exact Fin.ext (by show 0 + j.val = j.val; omega)
  · congr 1
    exact Fin.ext (by show 0 + r.val = r.val; omega)

theorem ofBits_neg_inf : Ideal.ofBits .f32 0xFF800000#32 = ⊥ := by
  simp [Ideal.ofBits, Ideal.ieee]

theorem mNew_apply (L : Loads Ideal) (b : Fin 2) (h : Fin 12) (r : Fin 104) (j : Fin 128) :
    mNew L b h (ix2 r j) = max (L.m b h (ix4 0 0 r j))
      (Finset.univ.sup fun x : Fin 8 × Fin 256 => Val.tile L b h x.1 (ix2 r x.2)) := by
  unfold mNew mOld
  simp only [pointwise]
  show max (L.m b h (ix4 0 0 r j)) (Finset.fold max (Ideal.ofBits .f32 0xFF800000#32)
    (fun k : Fin 128 => laneMax L b h (ix2 r k)) Finset.univ) = _
  congr 1
  refine eq_of_forall_ge_iff fun X => ?_
  rw [ofBits_neg_inf]
  refine (Finset.fold_max_le _).trans ?_
  rw [Finset.sup_le_iff]
  constructor
  · rintro ⟨-, h⟩ ⟨c, x⟩ -
    obtain ⟨y, hy⟩ : ∃ y : Fin 128, x = Fin.castAdd 128 y ∨ x = Fin.natAdd 128 y := by
      refine ⟨⟨x.val % 128, by omega⟩, ?_⟩
      rcases Nat.lt_or_ge x.val 128 with hx | hx
      · exact .inl (Fin.ext (by show x.val = x.val % 128; omega))
      · exact .inr (Fin.ext (by show x.val = 128 + x.val % 128; omega))
    have := (fold8_max_le _ _ X).mp (h y (Finset.mem_univ _)) c
    rw [halfMax_apply, max_le_iff] at this
    rcases hy with rfl | rfl
    · exact this.1
    · exact this.2
  · intro h
    refine ⟨bot_le, fun y _ => (fold8_max_le _ _ X).mpr fun c => ?_⟩
    rw [halfMax_apply, max_le_iff]
    exact ⟨h (c, Fin.castAdd 128 y) (Finset.mem_univ _), h (c, Fin.natAdd 128 y) (Finset.mem_univ _)⟩

/-- The new running maximum of a row. -/
def Blk.newMax (B : Blk) (M : Fin 2 → Fin 12 → Fin 100 → EReal) (b : Fin 2) (h : Fin 12) (n : Fin 100) : EReal :=
  max (M b h n) (Finset.univ.sup (B.score b h n))

theorem Spec.mNew (H : Spec L B M S) (b : Fin 2) (h : Fin 12) (n : Fin 100) (j : Fin 128) :
    Val.mNew L b h (ix2 (row n) j) = B.newMax M b h n := by
  rw [mNew_apply, H.m]
  unfold Blk.newMax
  congr 2
  funext x
  exact H.tile b h n x.1 x.2

/-- A head of a pair, a query's column in a pair, and a channel's row in a pair. -/
def hp (p : Fin 6) (e : Fin 2) : Fin 12 := ⟨2 * p.val + e.val, by omega⟩
def col (e : Fin 2) (n : Fin 100) : Fin 208 := ⟨104 * e.val + n.val, by omega⟩
def chan (e : Fin 2) (d : Fin 32) : Fin 80 := ⟨32 * e.val + d.val, by omega⟩

theorem alphas_apply (L : Loads Ideal) (b : Fin 2) (p : Fin 6) (e : Fin 2) (n : Fin 100) :
    alphas L b p (ix2 0 (col e n)) = Ideal.exp2 (mOld L b (hp p e) (ix2 (row n) 0) - Val.mNew L b (hp p e) (ix2 (row n) 0)) := by
  unfold alphas alpha
  simp only [pointwise]
  fin_cases e
  · refine (dif_pos (show 104 * 0 + n.val < 104 by omega)).trans ?_
    have er : (⟨![0, 0] 1 + (col 0 n).val, by show 0 + (104 * 0 + n.val) < 104; omega⟩ : Fin 104) = row n :=
      Fin.ext (by show 0 + (104 * 0 + n.val) = n.val; omega)
    show Ideal.exp2 (mOld L b (head0 p) (ix2 ⟨![0, 0] 1 + (col 0 n).val, _⟩ 0)
      - Val.mNew L b (head0 p) (ix2 ⟨![0, 0] 1 + (col 0 n).val, _⟩ 0)) = _
    rw [er]
    rfl
  · refine (dif_neg (show ¬ 104 * 1 + n.val < 104 by omega)).trans ?_
    have er : (⟨0 + ((col 1 n).val - 104), by show 0 + (104 * 1 + n.val - 104) < 104; omega⟩ : Fin 104) = row n :=
      Fin.ext (by show 0 + (104 * 1 + n.val - 104) = n.val; omega)
    show Ideal.exp2 (mOld L b (head1 p) (ix2 ⟨0 + ((col 1 n).val - 104), _⟩ 0)
      - Val.mNew L b (head1 p) (ix2 ⟨0 + ((col 1 n).val - 104), _⟩ 0)) = _
    rw [er]
    rfl

theorem pairVals_chan (L : Loads Ideal) (b : Fin 2) (p : Fin 6) (c : Fin 8) (e : Fin 2) (d : Fin 32) (j : Fin 256) :
    pairVals L b p c (ix2 (chan e d) j) = L.v b (hp p e) c (ix4 0 0 d j) * L.vs b (hp p e) c (ix3 0 0 j) := by
  unfold pairVals vals
  simp only [pointwise]
  fin_cases e
  · refine (dif_pos (show 32 * 0 + d.val < 32 by omega)).trans ?_
    have er : (⟨(chan 0 d).val, by show 32 * 0 + d.val < 32; omega⟩ : Fin 32) = d :=
      Fin.ext (by show 32 * 0 + d.val = d.val; omega)
    show L.v b (head0 p) c (ix4 0 0 ⟨(chan 0 d).val, _⟩ j) * L.vs b (head0 p) c (ix3 0 0 j) = _
    rw [er]
    rfl
  · refine (dif_neg (show ¬ 32 * 1 + d.val < 32 by omega)).trans ?_
    refine (dif_pos (show 32 * 1 + d.val - 32 < 32 by omega)).trans ?_
    have er : (⟨(chan 1 d).val - 32, by show 32 * 1 + d.val - 32 < 32; omega⟩ : Fin 32) = d :=
      Fin.ext (by show 32 * 1 + d.val - 32 = d.val; omega)
    show L.v b (head1 p) c (ix4 0 0 ⟨(chan 1 d).val - 32, _⟩ j) * L.vs b (head1 p) c (ix3 0 0 j) = _
    rw [er]
    rfl

theorem pairVals_ones (L : Loads Ideal) (b : Fin 2) (p : Fin 6) (c : Fin 8) (j : Fin 256) (r : Fin 80)
    (hr : r.val = 64) : pairVals L b p c (ix2 r j) = 1 := by
  unfold pairVals vals k0_pay539
  simp only [pointwise]
  refine (dif_neg (show ¬ r.val < 32 by omega)).trans ?_
  exact dif_neg (show ¬ r.val - 32 < 32 by omega)

theorem weights_apply (m : FVec Ideal S104x128 .f32) (t : Vec Ideal S1x104x256 .f32) (r : Fin 104) (j : Fin 256) :
    weights m t (ix2 r j) = Ideal.exp2 (t (ix3 0 r j) - m (ix2 r ⟨j.val % 128, by omega⟩)) := by
  unfold weights
  simp only [pointwise]
  show Ideal.exp2 _ = _
  congr 2
  split
  · congr 2
    exact Fin.ext (by show j.val = j.val % 128; omega)
  · congr 2
    exact Fin.ext (by show j.val - 128 = j.val % 128; omega)

theorem pairWeights_apply (L : Loads Ideal) (t : Fin 2 → Fin 12 → Fin 8 → Vec Ideal S1x104x256 .f32) (b : Fin 2)
    (p : Fin 6) (c : Fin 8) (e : Fin 2) (n : Fin 100) (j : Fin 256) :
    pairWeights L t b p c (ix2 (col e n) j) = Ideal.exp2 (t b (hp p e) c (ix3 0 (row n) j)
      - Val.mNew L b (hp p e) (ix2 (row n) ⟨j.val % 128, by omega⟩)) := by
  unfold pairWeights
  simp only [pointwise]
  fin_cases e
  · refine (dif_pos (show 104 * 0 + n.val < 104 by omega)).trans ?_
    have er : (⟨(col 0 n).val, by show 104 * 0 + n.val < 104; omega⟩ : Fin 104) = row n :=
      Fin.ext (by show 104 * 0 + n.val = n.val; omega)
    show weights (Val.mNew L b (head0 p)) (t b (head0 p) c) (ix2 ⟨(col 0 n).val, _⟩ j) = _
    rw [er, weights_apply]
    rfl
  · refine (dif_neg (show ¬ 104 * 1 + n.val < 104 by omega)).trans ?_
    have er : (⟨(col 1 n).val - 104, by show 104 * 1 + n.val - 104 < 104; omega⟩ : Fin 104) = row n :=
      Fin.ext (by show 104 * 1 + n.val - 104 = n.val; omega)
    show weights (Val.mNew L b (head1 p)) (t b (head1 p) c) (ix2 ⟨(col 1 n).val - 104, _⟩ j) = _
    rw [er, weights_apply]
    rfl

theorem pairSum_apply (L : Loads Ideal) (t : Fin 2 → Fin 12 → Fin 8 → Vec Ideal S1x104x256 .f32) (b : Fin 2)
    (p : Fin 6) (c : Fin 8) (r : Fin 80) (x : Fin 208) :
    pairSum L t b p c (ix2 r x) = ∑ j : Fin 256, pairVals L b p c (ix2 r j) * pairWeights L t b p c (ix2 x j) := by
  unfold pairSum
  simp only [pointwise]
  rw [zero_add]

theorem accNew_apply (L : Loads Ideal) (t : Fin 2 → Fin 12 → Fin 8 → Vec Ideal S1x104x256 .f32) (b : Fin 2)
    (p : Fin 6) (r : Fin 80) (x : Fin 208) :
    accNew L t b p (ix2 r x) = L.acc b p (ix4 0 0 r x) * alphas L b p (ix2 0 x)
      + ∑ c, pairSum L t b p c (ix2 r x) := by
  rw [← fold8_add (fun c => pairSum L t b p c)]
  unfold accNew
  simp only [addf_apply]
  congr 1
  simp only [pointwise]
  rfl

/-- The weighted term of a row of a pair's values: a channel's scaled value, or one. -/
def Blk.val (B : Blk) (b : Fin 2) (h : Fin 12) (d : Fin 32) (x : Fin 8 × Fin 256) : EReal :=
  B.V b h d x.1 x.2 * B.VS b h x.1 x.2

/-- A running sum's next value, `v` the weighted terms. -/
def Blk.newSum (B : Blk) (M : Fin 2 → Fin 12 → Fin 100 → EReal) (v : Fin 8 × Fin 256 → EReal) (s : EReal)
    (b : Fin 2) (h : Fin 12) (n : Fin 100) : EReal :=
  s * Ideal.exp2 (M b h n - B.newMax M b h n)
    + ∑ x : Fin 8 × Fin 256, v x * Ideal.exp2 (B.score b h n x - B.newMax M b h n)

theorem Spec.acc_of (H : Spec L B M S) {t : Fin 2 → Fin 12 → Fin 8 → Vec Ideal S1x104x256 .f32}
    (ht : ∀ b h c r j, t b h c (ix3 0 r j) = Val.tile L b h c (ix2 r j)) (b : Fin 2) (p : Fin 6) (e : Fin 2)
    (n : Fin 100) (r : Fin 80) (v : Fin 8 × Fin 256 → EReal)
    (hv : ∀ c j, pairVals L b p c (ix2 r j) = v (c, j)) :
    accNew L t b p (ix2 r (col e n)) = B.newSum M v (S b p r (col e n)) b (hp p e) n := by
  rw [accNew_apply, H.acc, alphas_apply, H.mNew]
  have hm : mOld L b (hp p e) (ix2 (row n) 0) = M b (hp p e) n := by
    unfold mOld
    simp only [pointwise]
    exact H.m b (hp p e) n 0
  rw [hm]
  unfold Blk.newSum
  congr 1
  rw [Fintype.sum_prod_type]
  refine Finset.sum_congr rfl fun c _ => ?_
  rw [pairSum_apply]
  refine Finset.sum_congr rfl fun j _ => ?_
  rw [pairWeights_apply, ht, H.tile, H.mNew, hv]

theorem Spec.acc_chan (H : Spec L B M S) {t : Fin 2 → Fin 12 → Fin 8 → Vec Ideal S1x104x256 .f32}
    (ht : ∀ b h c r j, t b h c (ix3 0 r j) = Val.tile L b h c (ix2 r j)) (b : Fin 2) (p : Fin 6) (e : Fin 2)
    (n : Fin 100) (d : Fin 32) :
    accNew L t b p (ix2 (chan e d) (col e n))
      = B.newSum M (B.val b (hp p e) d) (S b p (chan e d) (col e n)) b (hp p e) n :=
  H.acc_of ht b p e n _ _ fun c j => by rw [pairVals_chan, H.v, H.vs]; rfl

theorem Spec.acc_ones (H : Spec L B M S) {t : Fin 2 → Fin 12 → Fin 8 → Vec Ideal S1x104x256 .f32}
    (ht : ∀ b h c r j, t b h c (ix3 0 r j) = Val.tile L b h c (ix2 r j)) (b : Fin 2) (p : Fin 6) (e : Fin 2)
    (n : Fin 100) :
    accNew L t b p (ix2 64 (col e n)) = B.newSum M (fun _ => 1) (S b p 64 (col e n)) b (hp p e) n :=
  H.acc_of ht b p e n _ _ fun c j => pairVals_ones L b p c j 64 rfl

end Cert.KernelIdeal.Val

end
-- ==== Proof.MaskTile.lean ====
/- The mask's tile read at an index: a row of it is a byte of the packed words, a lane of it one bit of that byte,
   and the number is two where the bit is set and zero where it is not. -/
module

public import proofs.«01_k».proof.Proof.Lists
public import Idealize.ShloMosaic.Lib.Pointwise
public import Idealize.ShloMosaic.Lib.BitcastPair

@[expose] public section

noncomputable section

namespace Cert.KernelIdeal.Val

open Idealize.ShloMosaic Idealize.SL.Sem Idealize.ShloMosaic.Pipeline Cert.KernelIdeal Cert.KernelIdeal.Gen

/-- A lane's place among the sixteen lanes of its vector: the lane over eight. -/
theorem lane_div : ∀ l : Fin 128, (k0_pay322 (ix2 0 l) : BitVec 32) = BitVec.ofNat 32 (l.val / 8) := by decide

/-- How far a lane's bit is from the top of its byte. -/
theorem lane_shift : ∀ l : Fin 128,
    (k0_pay326 k0_pay323 k0_pay324 k0_pay325 (ix2 0 l) : BitVec 32) = BitVec.ofNat 32 (7 - l.val % 8) := by decide

theorem lane_div' (r : Fin 8) (l : Fin 128) : (k0_pay322 (ix2 r l) : BitVec 32) = BitVec.ofNat 32 (l.val / 8) :=
  lane_div l

theorem lane_shift' (r : Fin 8) (l : Fin 128) :
    (k0_pay326 k0_pay323 k0_pay324 k0_pay325 (ix2 r l) : BitVec 32) = BitVec.ofNat 32 (7 - l.val % 8) :=
  lane_shift l

/-- The bits of the word that keeps the top bit of every byte. -/
theorem tops (m : ℕ) (hm : m < 32) : (2155905152#32 : BitVec 32).getLsbD m = decide (m % 8 = 7) := by
  have : ∀ m : Fin 32, (2155905152#32 : BitVec 32).getLsbD m.val = decide (m.val % 8 = 7) := by decide
  exact this ⟨m, hm⟩

theorem sixtyfour (q : ℕ) (hq : q < 8) : (64#8 : BitVec 8).getLsbD q = decide (q = 6) := by
  have : ∀ m : Fin 8, (64#8 : BitVec 8).getLsbD m.val = decide (m.val = 6) := by decide
  exact this ⟨q, hq⟩

/-- One bit of a byte moved to the byte's sixth place, everything else cleared. -/
theorem mark_byte (x : BitVec 32) (k i : ℕ) (hk : k < 4) (hi : i < 8) (q : ℕ) (hq : q < 8) :
    (IntOp.shrui .vector (IntOp.andi (IntOp.shli .vector x (BitVec.ofNat 32 (7 - i))) 2155905152#32) 1#32).getLsbD (8 * k + q)
      = (if x.getLsbD (8 * k + i) then 64#8 else 0#8).getLsbD q := by
  have h1 : (BitVec.ofNat 32 (7 - i)).toNat = 7 - i := by
    rw [BitVec.toNat_ofNat]; exact Nat.mod_eq_of_lt (by omega)
  have e : IntOp.shrui .vector (IntOp.andi (IntOp.shli .vector x (BitVec.ofNat 32 (7 - i))) 2155905152#32) 1#32
      = ((x <<< (7 - i)) &&& 2155905152#32) >>> 1 := by
    unfold IntOp.shrui IntOp.shli IntOp.andi
    have h2 : (BitVec.ofNat 32 (7 - i)).toNat < 32 := by omega
    rw [if_pos h2, if_pos (by decide), BitVec.shiftLeft_eq', h1]
    rfl
  rw [e, BitVec.getLsbD_ushiftRight, BitVec.getLsbD_and, BitVec.getLsbD_shiftLeft]
  have hz : (0#8 : BitVec 8).getLsbD q = false := by simp
  by_cases h6 : q = 6
  · subst h6
    have a : 1 + (8 * k + 6) - (7 - i) = 8 * k + i := by omega
    rw [tops _ (by omega), a]
    have b : decide (1 + (8 * k + 6) < 32) = true := decide_eq_true (by omega)
    have c : decide (1 + (8 * k + 6) < 7 - i) = false := decide_eq_false (by omega)
    have d : decide ((1 + (8 * k + 6)) % 8 = 7) = true := decide_eq_true (by omega)
    rw [b, c, d]
    cases x.getLsbD (8 * k + i) <;> rfl
  · have l : (2155905152#32 : BitVec 32).getLsbD (1 + (8 * k + q)) = false := by
      by_cases hm : 1 + (8 * k + q) < 32
      · rw [tops _ hm]; exact decide_eq_false (by omega)
      · exact BitVec.getLsbD_of_ge _ _ (by omega)
    rw [l, Bool.and_false]
    cases x.getLsbD (8 * k + i)
    · exact hz.symm
    · exact ((sixtyfour q hq).trans (decide_eq_false h6)).symm

theorem fp8_two : (Ideal.ofBits .fp8e4m3 (64#8) : EReal) = 2 := by
  have e : (8 : ℝ) * (2 ^ 2)⁻¹ = 2 := by norm_num
  simp [Ideal.ofBits, Ideal.e4m3fn]
  rw [← EReal.coe_mul]
  exact congrArg _ e

theorem fp8_zero : (Ideal.ofBits .fp8e4m3 (0#8) : EReal) = 0 := by
  simp [Ideal.ofBits, Ideal.e4m3fn]

/-- The lane of the packed words a lane of the mask's tile is taken from. -/
def srcLane (u : Fin 8) : IVec S8x128 32 :=
  select
    (cmpi CmpIPredicate.slt (addi (broadcast S8x128 (BitVec.ofNat 32 (16 * u.val))) k0_pay322) (broadcast S8x128 0#32))
    (addi (addi (broadcast S8x128 (BitVec.ofNat 32 (16 * u.val))) k0_pay322) (broadcast S8x128 128#32))
    (addi (broadcast S8x128 (BitVec.ofNat 32 (16 * u.val))) k0_pay322)

theorem srcLane_nat (u : Fin 8) (r : Fin 8) (l : Fin 128) :
    (srcLane u (ix2 r l) : BitVec 32).toNat = 16 * u.val + l.val / 8 := by
  have key : ∀ (u : Fin 8) (v : Fin 16),
      (if IntOp.cmpi CmpIPredicate.slt (BitVec.ofNat 32 (16 * u.val) + BitVec.ofNat 32 v.val) 0#32 = 1#1 then
        BitVec.ofNat 32 (16 * u.val) + BitVec.ofNat 32 v.val + 128#32
      else BitVec.ofNat 32 (16 * u.val) + BitVec.ofNat 32 v.val).toNat = 16 * u.val + v.val := by decide
  have h := key u ⟨l.val / 8, by omega⟩
  refine Eq.trans (congrArg BitVec.toNat ?_) h
  show (if IntOp.cmpi CmpIPredicate.slt (BitVec.ofNat 32 (16 * u.val) + k0_pay322 (ix2 r l)) 0#32 = 1#1 then
        BitVec.ofNat 32 (16 * u.val) + k0_pay322 (ix2 r l) + 128#32
      else BitVec.ofNat 32 (16 * u.val) + k0_pay322 (ix2 r l)) = _
  rw [lane_div']

/-- The words a tile of the mask is made of, every bit of them at its place. -/
def marks (u : Fin 8) (w : Vec Ideal S1x1x1x8x128 .i32) : IVec S8x128 32 :=
  shrui
    (andi
      (shli
        (dynamicGather 1 (shapeCast S8x128 w shapeCasts_S1x1x1x8x128_S8x128) (srcLane u))
        (k0_pay326 k0_pay323 k0_pay324 k0_pay325))
      (broadcast S8x128 2155905152#32))
    (broadcast S8x128 1#32)

theorem marks_apply (u : Fin 8) (w : Vec Ideal S1x1x1x8x128 .i32) (r8 : Fin 8) (l : Fin 128) (s : Fin 128)
    (hs : s.val = 16 * u.val + l.val / 8) :
    marks u w (ix2 r8 l)
      = IntOp.shrui .vector
          (IntOp.andi (IntOp.shli .vector (w (ix5 0 0 0 r8 s) : BitVec 32) (BitVec.ofNat 32 (7 - l.val % 8))) 2155905152#32)
          1#32 := by
  have g : dynamicGather 1 (shapeCast S8x128 w shapeCasts_S1x1x1x8x128_S8x128) (srcLane u) (ix2 r8 l)
      = (w (ix5 0 0 0 r8 s) : BitVec 32) := by
    refine Eq.trans (b := shapeCast S8x128 w shapeCasts_S1x1x1x8x128_S8x128 (ix2 r8 s)) ?_ ?_
    · unfold dynamicGather
      refine congrArg _ (funext fun a => ?_)
      match a with
      | ⟨0, _⟩ => rfl
      | ⟨1, _⟩ =>
        refine Fin.ext ?_
        show (srcLane u (ix2 r8 l) : BitVec 32).toNat % 128 = s.val
        rw [srcLane_nat]; omega
    · simp only [pointwise]
  rw [← g, ← lane_shift' r8 l]
  rfl

/-- The mask's tile: row `4 r8 + k` is byte `k` of the words' row `r8`; lane `l` is bit `l % 8` of the byte in the
    word at lane `16 u + l / 8`. -/
theorem nmTile_apply (u : Fin 8) (w : Vec Ideal S1x1x1x8x128 .i32) (r : Fin 32) (l : Fin 128) (r8 : Fin 8) (k : ℕ)
    (hk : k < 4) (hr : r.val = 4 * r8.val + k) (s : Fin 128) (hs : s.val = 16 * u.val + l.val / 8) :
    nmTile u w (ix3 0 r l)
      = (if (w (ix5 0 0 0 r8 s) : BitVec 32).getLsbD (8 * k + l.val % 8) then (2 : EReal) else 0) := by
  have hb : bitcast S32x128 8 (marks u w) bitcasts_S8x128_w32_S32x128_w8 (ix2 r l)
      = if (w (ix5 0 0 0 r8 s) : BitVec 32).getLsbD (8 * k + l.val % 8) then 64#8 else 0#8 := by
    apply BitVec.eq_of_getLsbD_eq
    intro q hq
    rw [bitcast_getLsbD _ _ _ q hq (by decide), ← mark_byte _ k (l.val % 8) hk (by omega) q hq, ← marks_apply u w r8 l s hs]
    have hrow : S32x128.row (ix2 r l) = r.val := rfl
    have e2 : (S32x128.row (ix2 r l) * 8 + q) % 32 = 8 * k + q := by rw [hrow]; omega
    rw [e2]
    congr 2
    funext c
    match c with
    | ⟨0, _⟩ =>
      refine Fin.ext ((Shape.Bitcasts.srcIdx_row _ _ _ _ ⟨0, Nat.zero_lt_two⟩ rfl).trans ?_)
      show (r.val * 8 + q) / 32 = r8.val
      omega
    | ⟨1, _⟩ =>
      exact Fin.ext (Shape.Bitcasts.srcIdx_other _ _ _ _ ⟨1, Nat.one_lt_two⟩ (by show ¬ 1 + 2 = 2; omega))
  have ht : nmTile u w (ix3 0 r l)
      = Ideal.ofBits .fp8e4m3 (bitcast S32x128 8 (marks u w) bitcasts_S8x128_w32_S32x128_w8 (ix2 r l)) := by
    unfold nmTile
    simp only [pointwise]
    rfl
  rw [ht, hb]
  cases (w (ix5 0 0 0 r8 s) : BitVec 32).getLsbD (8 * k + l.val % 8)
  · exact fp8_zero
  · exact fp8_two

end Cert.KernelIdeal.Val
-- ==== Proof.PiecesB.lean ====
/- The stores of a middle grid step, as the run of the body found them, are the step's stores spelt in `Tiles`. -/
module

public import proofs.«01_k».proof.Proof.StepLoads
public import proofs.«01_k».proof.Proof.Gen.KernelIdeal.Frame.RunB

@[expose] public section

set_option maxRecDepth 16384

noncomputable section

namespace Cert.KernelIdeal.Val

open Idealize.ShloMosaic Idealize.SL.Sem Idealize.ShloMosaic.Pipeline Idealize.ShloMosaic.Tactic Cert.KernelIdeal Cert.KernelIdeal.Gen

variable {F : FTy → Type} [FloatOps F] [Named F]

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : ¬cond0_0 i) (hc1 : ¬cond0_1 i)
  (x0 : Vec F S2x12x32x100 .bf16) (x1 : Vec F S2x12x32x2048 .fp8e4m3) (x2 : Vec F S12x2x2048 .f32)
  (x3 : Vec F S2x12x32x2048 .fp8e4m3) (x4 : Vec F S12x2x2048 .f32) (x5 : Vec F S100x2x2048 .i32)
  (xs0 : Vec F S2x3x416x256 .bf16) (xs1 : Vec F S2x4x64x8x128 .i32)
  (xs4 : Vec F S2x12x104x128 .f32) (xs5 : Vec F S2x6x80x208 .f32)

/-- The packed mask words a step finds in the carried scratch. -/
def wCar (b : Fin 2) (t : Fin 4) (o : Fin 2) : Vec F S1x1x1x8x128 .i32 :=
  View.readAt (Elt F) arg9.view (wRect i b t o).toLoadRect (harg9.unread xs1)

/-- The loads of a step that finds the carried scratches at `xs·`. -/
def loadsBC : Loads F :=
  mkLoads arg2 harg2 arg3 harg3 arg4 harg4 arg5 harg5 arg10 x1 x2 x3 x4
    (nPieces (wCar i arg9 harg9 xs1) 128)
    (qCar arg8 harg8 xs0) (mCar arg12 harg12 xs4) (aCar arg13 harg13 xs5)

theorem nStores_B :
    (kernelRun0_B c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5).2.2.2.2.2.1
      = nPieces (wCar i arg9 harg9 xs1) 128 := by
  sl_kernel_rfl

theorem mStores_B :
    (kernelRun0_B c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5).2.2.2.1
      = mPieces (loadsBC i arg2 harg2 arg3 harg3 arg4 harg4 arg5 harg5 arg8 harg8 arg9 harg9 arg10 arg12 harg12 arg13 harg13
          x1 x2 x3 x4 xs0 xs1 xs4 xs5) 24 := by
  sl_kernel_rfl

theorem aStores_B :
    (kernelRun0_B c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5).2.2.2.2.1
      = aPieces (loadsBC i arg2 harg2 arg3 harg3 arg4 harg4 arg5 harg5 arg8 harg8 arg9 harg9 arg10 arg12 harg12 arg13 harg13
          x1 x2 x3 x4 xs0 xs1 xs4 xs5)
          (tBack arg11.view (loadsBC i arg2 harg2 arg3 harg3 arg4 harg4 arg5 harg5 arg8 harg8 arg9 harg9 arg10 arg12 harg12
            arg13 harg13 x1 x2 x3 x4 xs0 xs1 xs4 xs5)) 12 := by
  sl_kernel_rfl

end Cert.KernelIdeal.Val

end
-- ==== Proof.PiecesA.lean ====
/- The stores of the first grid step, as the run of the body found them: it first fills the carried scratches, and reads them back over its own stores. -/
module

public import proofs.«01_k».proof.Proof.StepLoads
public import proofs.«01_k».proof.Proof.Lists
public import proofs.«01_k».proof.Proof.Gen.KernelIdeal.Frame.RunA

@[expose] public section

set_option maxRecDepth 16384

noncomputable section

namespace Cert.KernelIdeal.Val

open Idealize.ShloMosaic Idealize.SL.Sem Idealize.ShloMosaic.Pipeline Idealize.ShloMosaic.Tactic Cert.KernelIdeal Cert.KernelIdeal.Gen

variable {F : FTy → Type} [FloatOps F] [Named F]

/-- What the first step fills the running maxima and sums with. -/
def mInit : List (View.Piece (Elt F) S2x12x104x128 .f32) :=
  [⟨Rect.unit (s := S2x12x104x128) ![0, 0, 0, 0] S2x12x104x128.size inb_S2x12x104x128_S2x12x104x128_0_0_0_0, k0_pay282⟩]
def aInit : List (View.Piece (Elt F) S2x6x80x208 .f32) :=
  [⟨Rect.unit (s := S2x6x80x208) ![0, 0, 0, 0] S2x6x80x208.size inb_S2x6x80x208_S2x6x80x208_0_0_0_0,
    k0_pay321 k0_pay283⟩]

/-- The first step's stores of running maxima: each reads the maxima back over the stores before it. -/
def mListA (L : Loads F) (v : View sig .tc .vmem S2x12x104x128 .f32) (n : ℕ) :
    List (View.Piece (Elt F) S2x12x104x128 .f32) :=
  recList mInit (fun k l => ⟨mRect k,
    (shapeCast S1x1x104x128
      (mNew { L with m := fun b h => v.readCov l (moRect b h).toLoadRect } (mB k) (mH k))
      shapeCasts_S104x128_S1x1x104x128 : FVec F S1x1x104x128 .f32)⟩) n

/-- The first step's stores of running sums. -/
def aListA (L : Loads F) (t : Fin 2 → Fin 12 → Fin 8 → Vec F S1x104x256 .f32)
    (v : View sig .tc .vmem S2x6x80x208 .f32) (n : ℕ) : List (View.Piece (Elt F) S2x6x80x208 .f32) :=
  recList aInit (fun k l => ⟨aRect k,
    (shapeCast S1x1x80x208
      (accNew { L with acc := fun b p => v.readCov l (aoRect b p).toLoadRect } t (aB k) (aP k))
      shapeCasts_S80x208_S1x1x80x208 : FVec F S1x1x80x208 .f32)⟩) n

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : cond0_0 i) (hc1 : ¬cond0_1 i)
  (x0 : Vec F S2x12x32x100 .bf16) (x1 : Vec F S2x12x32x2048 .fp8e4m3) (x2 : Vec F S12x2x2048 .f32)
  (x3 : Vec F S2x12x32x2048 .fp8e4m3) (x4 : Vec F S12x2x2048 .f32) (x5 : Vec F S100x2x2048 .i32)

/-- The packed mask words read back over the stores `l` that packed them. -/
def wA (l : List (View.Piece (Elt F) S2x4x64x8x128 .i32)) (b : Fin 2) (t : Fin 4) (o : Fin 2) :
    Vec F S1x1x1x8x128 .i32 :=
  View.readAt (Elt F) arg9.view (wRect i b t o).toLoadRect (arg9.view.writes (Elt F) arg9.view.junk l)

/-- The first step's loads but the running maxima's and sums': the packed queries over the stores `lq`, the mask
    words over the stores `lw`. -/
def baseA (lq : List (View.Piece (Elt F) S2x3x416x256 .bf16)) (lw : List (View.Piece (Elt F) S2x4x64x8x128 .i32)) :
    Loads F :=
  mkLoads arg2 harg2 arg3 harg3 arg4 harg4 arg5 harg5 arg10 x1 x2 x3 x4 (nPieces (wA i arg9 lw) 128)
    (fun b g => arg8.view.readCov lq (qRect b g).toLoadRect)
    (fun _ _ _ => Scalar.ofBits .f32 0x00000000#32) (fun _ _ _ => Scalar.ofBits .f32 0x00000000#32)

/-- The same with the running maxima, each read back just before its store. -/
def midA (lq : List (View.Piece (Elt F) S2x3x416x256 .bf16)) (lw : List (View.Piece (Elt F) S2x4x64x8x128 .i32)) :
    Loads F :=
  { baseA i arg2 harg2 arg3 harg3 arg4 harg4 arg5 harg5 arg8 arg9 arg10 x1 x2 x3 x4 lq lw with
    m := fun b h => arg12.view.readCov
      (mListA (baseA i arg2 harg2 arg3 harg3 arg4 harg4 arg5 harg5 arg8 arg9 arg10 x1 x2 x3 x4 lq lw) arg12.view
        (12 * b.val + h.val)) (moRect b h).toLoadRect }

theorem mStores_A :
    (kernelRun0_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5).2.2.2.1
      = mListA (baseA i arg2 harg2 arg3 harg3 arg4 harg4 arg5 harg5 arg8 arg9 arg10 x1 x2 x3 x4
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.1
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.2.1) arg12.view 24 := by
  sl_kernel_rfl

theorem aStores_A :
    (kernelRun0_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5).2.2.2.2.1
      = aListA (midA i arg2 harg2 arg3 harg3 arg4 harg4 arg5 harg5 arg8 arg9 arg10 arg12 x1 x2 x3 x4
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.1
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.2.1)
          (tBack arg11.view (baseA i arg2 harg2 arg3 harg3 arg4 harg4 arg5 harg5 arg8 arg9 arg10 x1 x2 x3 x4
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.1
          (kernelRun0_A c i arg1 harg1 arg2 harg2 arg3 harg3 arg4 harg4 arg5 harg5 arg6 harg6 arg7 harg7 arg8 harg8 arg9
            harg9 arg10 harg10 arg11 harg11 arg12 harg12 arg13 harg13 hc0 hc1 x0 x1 x2 x3 x4 x5).2.2.1)) arg13.view 12 := by
  sl_kernel_rfl

end Cert.KernelIdeal.Val

end
-- ==== Proof.StepSpec.lean ====
/- A grid step's loads are the blocks it works on: the windows' blocks, the packed queries, the expanded mask and the
   carried maxima and sums, each read at an index. -/
module

public import proofs.«01_k».proof.Proof.TileVal
public import proofs.«01_k».proof.Proof.MaskTile
public import proofs.«01_k».proof.Proof.PiecesB
public import proofs.«01_k».proof.Proof.PiecesA
public import Idealize.ShloMosaic.Lib.WholeRead

@[expose] public section

noncomputable section

namespace Cert.KernelIdeal.Val

open Idealize.ShloMosaic Idealize.SL.Sem Idealize.ShloMosaic.Pipeline Cert.KernelIdeal Cert.KernelIdeal.Gen

/-- A step's blocks: the queries, which pixels a row may attend to, and the blocks of the key and value windows. -/
def blkOf (Q : Fin 2 → Fin 12 → Fin 100 → Fin 32 → EReal) (al : Fin 2 → Fin 100 → ℕ → Bool) (step : ℕ)
    (x1 : Vec Ideal S2x12x32x2048 .fp8e4m3) (x2 : Vec Ideal S12x2x2048 .f32)
    (x3 : Vec Ideal S2x12x32x2048 .fp8e4m3) (x4 : Vec Ideal S12x2x2048 .f32) : Blk where
  Q := Q
  K b h d c j := x1 (ix4 b h d ⟨256 * c.val + j.val, by omega⟩)
  V b h d c j := x3 (ix4 b h d ⟨256 * c.val + j.val, by omega⟩)
  KS b h c j := x2 (ix3 h b ⟨256 * c.val + j.val, by omega⟩)
  VS b h c j := x4 (ix3 h b ⟨256 * c.val + j.val, by omega⟩)
  A b n c j := al b n (2048 * step + (256 * c.val + j.val))

/-- What the scratch of packed queries holds. -/
def QSpec (xs0 : Vec Ideal S2x3x416x256 .bf16) (Q : Fin 2 → Fin 12 → Fin 100 → Fin 32 → EReal) : Prop :=
  ∀ (b : Fin 2) (g : Fin 3) (l : Fin 4) (n : Fin 100) (x : Fin 256), xs0 (ix4 b g ⟨104 * l.val + n.val, by omega⟩ x) =
    if x.val < 128 then (if x.val / 32 = l.val then Q b (hd g l) n ⟨x.val % 32, by omega⟩ else 0)
    else if x.val - 128 = slot n then ⊥ else 0

/-- What the scratch of packed mask words holds: bit by bit, which pixels a row may not attend to. -/
def WSpec (xs1 : Vec Ideal S2x4x64x8x128 .i32) (al : Fin 2 → Fin 100 → ℕ → Bool) : Prop :=
  ∀ (b : Fin 2) (n : Fin 100) (o : Fin 64) (p : Fin 1024),
    (xs1 (ix5 b ⟨n.val / 32, by omega⟩ o ⟨n.val % 8, by omega⟩ ⟨p.val / 8, by omega⟩) : BitVec 32).getLsbD
      (8 * (n.val % 32 / 8) + p.val % 8) = !al b n (1024 * o.val + p.val)

/-- The stores of the expanded mask, read at a row's place. -/
theorem nm_apply (w : Fin 2 → Fin 4 → Fin 2 → Vec Ideal S1x1x1x8x128 .i32) (b : Fin 2) (n : Fin 100) (p : Fin 2048)
    (y : S2x128x2048.Idx) (hy0 : (y 0).val = b.val) (hy1 : (y 1).val = slot n) (hy2 : (y 2).val = p.val) :
    (View.canon (nPieces w 128) y : EReal)
      = if (w b ⟨n.val / 32, by omega⟩ ⟨p.val / 1024, by omega⟩
          (ix5 0 0 0 ⟨n.val % 8, by omega⟩ ⟨p.val % 1024 / 8, by omega⟩) : BitVec 32).getLsbD
            (8 * (n.val % 32 / 8) + p.val % 8) then 2 else 0 := by
  have hn := n.isLt
  have hp := p.isLt
  rw [canon_n w b ⟨n.val / 32, by omega⟩ ⟨n.val % 8 * 4 + n.val % 32 / 8, by omega⟩ ⟨p.val / 1024, by omega⟩
    ⟨p.val % 1024 / 128, by omega⟩ ⟨p.val % 128, by omega⟩ y hy0
    (by rw [hy1]; show slot n = 32 * (n.val / 32) + (n.val % 8 * 4 + n.val % 32 / 8); unfold slot; omega)
    (by rw [hy2]; show p.val = 1024 * (p.val / 1024) + 128 * (p.val % 1024 / 128) + p.val % 128; omega)]
  rw [nmTile_apply _ _ _ _ ⟨n.val % 8, by omega⟩ (n.val % 32 / 8) (by omega)
    (by show n.val % 8 * 4 + n.val % 32 / 8 = 4 * (n.val % 8) + n.val % 32 / 8; omega)
    ⟨p.val % 1024 / 8, by omega⟩
    (by show p.val % 1024 / 8 = 16 * (p.val % 1024 / 128) + p.val % 128 / 8; omega)]
  have e : p.val % 128 % 8 = p.val % 8 := by omega
  show (if (BitVec.getLsbD _ (8 * (n.val % 32 / 8) + p.val % 128 % 8)) = true then _ else _) = _
  rw [e]

section
variable (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg10 : Memref sig .tc .vmem S2x128x2048 .fp8e4m3)
  (x1 : Vec Ideal S2x12x32x2048 .fp8e4m3) (x2 : Vec Ideal S12x2x2048 .f32) (x3 : Vec Ideal S2x12x32x2048 .fp8e4m3)
  (x4 : Vec Ideal S12x2x2048 .f32)
  (Q : Fin 2 → Fin 12 → Fin 100 → Fin 32 → EReal) (al : Fin 2 → Fin 100 → ℕ → Bool)

/-- A step's loads, given what its mask words, packed queries, maxima and sums are. -/
theorem mkLoads_spec (step : ℕ) (w : Fin 2 → Fin 4 → Fin 2 → Vec Ideal S1x1x1x8x128 .i32)
    (q : Fin 2 → Fin 3 → Vec Ideal S1x1x416x256 .bf16) (m : Fin 2 → Fin 12 → Vec Ideal S1x1x104x128 .f32)
    (acc : Fin 2 → Fin 6 → Vec Ideal S1x1x80x208 .f32)
    (xs0 : Vec Ideal S2x3x416x256 .bf16) (xs1 : Vec Ideal S2x4x64x8x128 .i32) (hstep : step < 32)
    (hQ : QSpec xs0 Q) (hW : WSpec xs1 al)
    (hq : ∀ b g r x, q b g (ix4 0 0 r x) = xs0 (ix4 b g r x))
    (hw : ∀ b t (o : Fin 2) r s, w b t o (ix5 0 0 0 r s) = xs1 (ix5 b t ⟨2 * step + o.val, by omega⟩ r s))
    (M : Fin 2 → Fin 12 → Fin 100 → EReal) (S : Fin 2 → Fin 6 → Fin 80 → Fin 208 → EReal)
    (hm : ∀ b h (n : Fin 100) j, m b h (ix4 0 0 (row n) j) = M b h n)
    (hacc : ∀ b p r x, acc b p (ix4 0 0 r x) = S b p r x) :
    Spec (mkLoads arg2 harg2 arg3 harg3 arg4 harg4 arg5 harg5 arg10 x1 x2 x3 x4 (nPieces w 128) q m acc)
      (blkOf Q al step x1 x2 x3 x4) M S where
  k b g c l d j := by
    refine (harg2.readAt_unread x1 _ _).trans (congrArg x1 (funext fun a => ?_))
    match a with
    | ⟨0, _⟩ => exact Fin.ext (by show b.val + 1 * 0 = b.val; omega)
    | ⟨1, _⟩ => exact Fin.ext (by show 4 * g.val + 1 * l.val = 4 * g.val + l.val; omega)
    | ⟨2, _⟩ => exact Fin.ext (by show 0 + 1 * d.val = d.val; omega)
    | ⟨3, _⟩ => exact Fin.ext (by show 256 * c.val + 1 * j.val = 256 * c.val + j.val; omega)
  q b g l n x := (hq b g _ x).trans (hQ b g l n x)
  nm b c n j := by
    show arg10.view.readCov (nPieces w 128) (nmRect b c).toLoadRect (ix3 0 ⟨slot n, slot_lt n⟩ j) = _
    rw [View.readCov_eq_canon']
    have hj := j.isLt
    have hcl := c.isLt
    refine (nm_apply w b n ⟨256 * c.val + j.val, by omega⟩ _ (by show b.val + 1 * 0 = b.val; omega)
      (by show 0 + 1 * slot n = slot n; omega) (by show 256 * c.val + 1 * j.val = 256 * c.val + j.val; omega)).trans ?_
    rw [hw]
    have h := hW b n ⟨2 * step + (256 * c.val + j.val) / 1024, by omega⟩ ⟨(256 * c.val + j.val) % 1024, by omega⟩
    have e1 : (256 * c.val + j.val) % 1024 % 8 = (256 * c.val + j.val) % 8 := by omega
    have e2 : 1024 * (2 * step + (256 * c.val + j.val) / 1024) + (256 * c.val + j.val) % 1024
        = 2048 * step + (256 * c.val + j.val) := by omega
    dsimp only at h ⊢
    rw [e1, e2] at h
    rw [h]
    show _ = if al b n (2048 * step + (256 * c.val + j.val)) = true then (0 : EReal) else 2
    cases al b n (2048 * step + (256 * c.val + j.val)) <;> rfl
  ks b h c j := by
    refine (harg3.readAt_unread x2 _ _).trans (congrArg x2 (funext fun a => ?_))
    match a with
    | ⟨0, _⟩ => exact Fin.ext (by show h.val + 1 * 0 = h.val; omega)
    | ⟨1, _⟩ => exact Fin.ext (by show b.val + 1 * 0 = b.val; omega)
    | ⟨2, _⟩ => exact Fin.ext (by show 256 * c.val + 1 * j.val = 256 * c.val + j.val; omega)
  v b h c d j := by
    refine (harg4.readAt_unread x3 _ _).trans (congrArg x3 (funext fun a => ?_))
    match a with
    | ⟨0, _⟩ => exact Fin.ext (by show b.val + 1 * 0 = b.val; omega)
    | ⟨1, _⟩ => exact Fin.ext (by show h.val + 1 * 0 = h.val; omega)
    | ⟨2, _⟩ => exact Fin.ext (by show 0 + 1 * d.val = d.val; omega)
    | ⟨3, _⟩ => exact Fin.ext (by show 256 * c.val + 1 * j.val = 256 * c.val + j.val; omega)
  vs b h c j := by
    refine (harg5.readAt_unread x4 _ _).trans (congrArg x4 (funext fun a => ?_))
    match a with
    | ⟨0, _⟩ => exact Fin.ext (by show h.val + 1 * 0 = h.val; omega)
    | ⟨1, _⟩ => exact Fin.ext (by show b.val + 1 * 0 = b.val; omega)
    | ⟨2, _⟩ => exact Fin.ext (by show 256 * c.val + 1 * j.val = 256 * c.val + j.val; omega)
  m := hm
  acc := hacc

theorem qIdx (b : Fin 2) (g : Fin 3) (r : Fin 416) (x : Fin 256) :
    (qRect b g).toLoadRect.idx (ix4 0 0 r x) = ix4 b g r x := by
  funext a
  match a with
  | ⟨0, _⟩ => exact Fin.ext (by show b.val + 1 * 0 = b.val; omega)
  | ⟨1, _⟩ => exact Fin.ext (by show g.val + 1 * 0 = g.val; omega)
  | ⟨2, _⟩ => exact Fin.ext (by show 0 + 1 * r.val = r.val; omega)
  | ⟨3, _⟩ => exact Fin.ext (by show 0 + 1 * x.val = x.val; omega)

theorem moIdx (b : Fin 2) (h : Fin 12) (r : Fin 104) (x : Fin 128) :
    (moRect b h).toLoadRect.idx (ix4 0 0 r x) = ix4 b h r x := by
  funext a
  match a with
  | ⟨0, _⟩ => exact Fin.ext (by show b.val + 1 * 0 = b.val; omega)
  | ⟨1, _⟩ => exact Fin.ext (by show h.val + 1 * 0 = h.val; omega)
  | ⟨2, _⟩ => exact Fin.ext (by show 0 + 1 * r.val = r.val; omega)
  | ⟨3, _⟩ => exact Fin.ext (by show 0 + 1 * x.val = x.val; omega)

theorem aoIdx (b : Fin 2) (p : Fin 6) (r : Fin 80) (x : Fin 208) :
    (aoRect b p).toLoadRect.idx (ix4 0 0 r x) = ix4 b p r x := by
  funext a
  match a with
  | ⟨0, _⟩ => exact Fin.ext (by show b.val + 1 * 0 = b.val; omega)
  | ⟨1, _⟩ => exact Fin.ext (by show p.val + 1 * 0 = p.val; omega)
  | ⟨2, _⟩ => exact Fin.ext (by show 0 + 1 * r.val = r.val; omega)
  | ⟨3, _⟩ => exact Fin.ext (by show 0 + 1 * x.val = x.val; omega)

theorem wIdx (i : grid0.Coords) (b : Fin 2) (t : Fin 4) (o : Fin 2) (r : Fin 8) (s : Fin 128)
    (h : 2 * (i 0).val + o.val < 64) :
    (wRect i b t o).toLoadRect.idx (ix5 0 0 0 r s) = ix5 b t ⟨2 * (i 0).val + o.val, h⟩ r s := by
  have e := wOff_eq i b t o
  funext a
  refine Fin.ext ?_
  show wOff i b t o a + 1 * _ = _
  rw [e]
  match a with
  | ⟨0, _⟩ => show b.val + 1 * 0 = b.val; omega
  | ⟨1, _⟩ => show t.val + 1 * 0 = t.val; omega
  | ⟨2, _⟩ => show 2 * (i 0).val + o.val + 1 * 0 = 2 * (i 0).val + o.val; omega
  | ⟨3, _⟩ => show 0 + 1 * r.val = r.val; omega
  | ⟨4, _⟩ => show 0 + 1 * s.val = s.val; omega

variable (i : grid0.Coords)
  (arg8 : Memref sig .tc .vmem S2x3x416x256 .bf16) (harg8 : arg8.IsWhole)
  (arg9 : Memref sig .tc .vmem S2x4x64x8x128 .i32) (harg9 : arg9.IsWhole)
  (arg12 : Memref sig .tc .vmem S2x12x104x128 .f32) (harg12 : arg12.IsWhole)
  (arg13 : Memref sig .tc .vmem S2x6x80x208 .f32) (harg13 : arg13.IsWhole)
  (xs0 : Vec Ideal S2x3x416x256 .bf16) (xs1 : Vec Ideal S2x4x64x8x128 .i32)
  (xs4 : Vec Ideal S2x12x104x128 .f32) (xs5 : Vec Ideal S2x6x80x208 .f32)

/-- The loads of a step past the first. -/
theorem loadsBC_spec (hQ : QSpec xs0 Q) (hW : WSpec xs1 al)
    (M : Fin 2 → Fin 12 → Fin 100 → EReal) (S : Fin 2 → Fin 6 → Fin 80 → Fin 208 → EReal)
    (hm : ∀ b h (n : Fin 100) j, xs4 (ix4 b h (row n) j) = M b h n) (ha : ∀ b p r x, xs5 (ix4 b p r x) = S b p r x) :
    Spec (loadsBC i arg2 harg2 arg3 harg3 arg4 harg4 arg5 harg5 arg8 harg8 arg9 harg9 arg10 arg12 harg12 arg13 harg13
        x1 x2 x3 x4 xs0 xs1 xs4 xs5)
      (blkOf Q al (i 0).val x1 x2 x3 x4) M S :=
  mkLoads_spec arg2 harg2 arg3 harg3 arg4 harg4 arg5 harg5 arg10 x1 x2 x3 x4 Q al (i 0).val _ _ _ _ xs0 xs1 (i 0).isLt hQ hW
    (fun b g r x => (harg8.readAt_unread xs0 _ _).trans (congrArg xs0 (qIdx b g r x)))
    (fun b t o r s => (harg9.readAt_unread xs1 _ _).trans (congrArg xs1 (wIdx i b t o r s _)))
    M S
    (fun b h n j => ((harg12.readAt_unread xs4 _ _).trans (congrArg xs4 (moIdx b h (row n) j))).trans (hm b h n j))
    (fun b p r x => ((harg13.readAt_unread xs5 _ _).trans (congrArg xs5 (aoIdx b p r x))).trans (ha b p r x))

variable (lq : List (View.Piece (Elt Ideal) S2x3x416x256 .bf16)) (lw : List (View.Piece (Elt Ideal) S2x4x64x8x128 .i32))

/-- What the first step fills the maxima with. -/
def mStart : EReal := Ideal.ofBits .f32 0xF149F2CA#32

theorem mInit_apply (b : Fin 2) (h : Fin 12) (n : Fin 104) (j : Fin 128) :
    View.canon (mInit (F := Ideal)) (ix4 b h n j) = mStart := by
  have e : (Rect.unit (s := S2x12x104x128) ![0, 0, 0, 0] S2x12x104x128.size inb_S2x12x104x128_S2x12x104x128_0_0_0_0).emb (ix4 b h n j) = ix4 b h n j := by
    refine Rect.emb_eq_of_coords _ _ _ fun a => ?_
    match a with
    | ⟨0, _⟩ => show b.val = 0 + 1 * b.val; omega
    | ⟨1, _⟩ => show h.val = 0 + 1 * h.val; omega
    | ⟨2, _⟩ => show n.val = 0 + 1 * n.val; omega
    | ⟨3, _⟩ => show j.val = 0 + 1 * j.val; omega
  refine Eq.trans (congrArg (View.canon (mInit (F := Ideal))) e.symm) ?_
  refine (View.canon_cons_emb _ _ _ _).trans ?_
  unfold k0_pay282
  simp only [pointwise]
  rfl

theorem aInit_apply (b : Fin 2) (p : Fin 6) (n : Fin 80) (j : Fin 208) :
    View.canon (aInit (F := Ideal)) (ix4 b p n j) = (0 : EReal) := by
  have e : (Rect.unit (s := S2x6x80x208) ![0, 0, 0, 0] S2x6x80x208.size inb_S2x6x80x208_S2x6x80x208_0_0_0_0).emb (ix4 b p n j) = ix4 b p n j := by
    refine Rect.emb_eq_of_coords _ _ _ fun a => ?_
    match a with
    | ⟨0, _⟩ => show b.val = 0 + 1 * b.val; omega
    | ⟨1, _⟩ => show p.val = 0 + 1 * p.val; omega
    | ⟨2, _⟩ => show n.val = 0 + 1 * n.val; omega
    | ⟨3, _⟩ => show j.val = 0 + 1 * j.val; omega
  refine Eq.trans (congrArg (View.canon (aInit (F := Ideal))) e.symm) ?_
  refine (View.canon_cons_emb _ _ _ _).trans ?_
  unfold k0_pay321 k0_pay283
  simp only [pointwise]

theorem baseA_spec (hQ : QSpec (View.canon lq) Q) (hW : WSpec (View.canon lw) al) :
    Spec (baseA i arg2 harg2 arg3 harg3 arg4 harg4 arg5 harg5 arg8 arg9 arg10 x1 x2 x3 x4 lq lw)
      (blkOf Q al (i 0).val x1 x2 x3 x4) (fun _ _ _ => Ideal.ofBits .f32 0x00000000#32)
      (fun _ _ _ _ => Ideal.ofBits .f32 0x00000000#32) :=
  mkLoads_spec arg2 harg2 arg3 harg3 arg4 harg4 arg5 harg5 arg10 x1 x2 x3 x4 Q al (i 0).val _ _ _ _
    (View.canon lq) (View.canon lw) (i 0).isLt hQ hW
    (fun b g r x => (congrFun (View.readCov_eq_canon' arg8.view lq _) _).trans (congrArg (View.canon lq) (qIdx b g r x)))
    (fun b t o r s => (congrFun (View.readAt_writes_junk_eq_canon arg9.view lw _) _).trans
      (congrArg (View.canon lw) (wIdx i b t o r s _)))
    _ _ (fun _ _ _ _ => rfl) (fun _ _ _ _ => rfl)

/-- The spec of loads that differ in the maxima alone. -/
theorem Spec.with_m {L : Loads Ideal} {B : Blk} {M S} (H : Spec L B M S) (m : Fin 2 → Fin 12 → Vec Ideal S1x1x104x128 .f32)
    (M' : Fin 2 → Fin 12 → Fin 100 → EReal) (hm : ∀ b h (n : Fin 100) j, m b h (ix4 0 0 (row n) j) = M' b h n) :
    Spec { L with m := m } B M' S :=
  ⟨H.k, H.q, H.nm, H.ks, H.v, H.vs, hm, H.acc⟩

theorem Spec.with_acc {L : Loads Ideal} {B : Blk} {M S} (H : Spec L B M S) (acc : Fin 2 → Fin 6 → Vec Ideal S1x1x80x208 .f32)
    (S' : Fin 2 → Fin 6 → Fin 80 → Fin 208 → EReal) (ha : ∀ b p r x, acc b p (ix4 0 0 r x) = S' b p r x) :
    Spec { L with acc := acc } B M S' :=
  ⟨H.k, H.q, H.nm, H.ks, H.v, H.vs, H.m, ha⟩

theorem midA_spec (hQ : QSpec (View.canon lq) Q) (hW : WSpec (View.canon lw) al) :
    Spec (midA i arg2 harg2 arg3 harg3 arg4 harg4 arg5 harg5 arg8 arg9 arg10 arg12 x1 x2 x3 x4 lq lw)
      (blkOf Q al (i 0).val x1 x2 x3 x4) (fun _ _ _ => mStart) (fun _ _ _ _ => Ideal.ofBits .f32 0x00000000#32) :=
  (baseA_spec arg2 harg2 arg3 harg3 arg4 harg4 arg5 harg5 arg10 x1 x2 x3 x4 Q al i arg8 arg9 lq lw hQ hW).with_m _ _
    fun b h n j => (congrFun (View.readCov_eq_canon' arg12.view _ _) _).trans
      ((congrArg (View.canon _) (moIdx b h (row n) j)).trans
        ((canon_m_miss mInit _ b h (row n) j).trans (mInit_apply b h (row n) j)))

end

end Cert.KernelIdeal.Val

end
-- ==== Proof.MaskPack.lean ====
/- The first step's packing of the mask's bits: the stores of a trip of its loop, spelt once, and what they leave. -/
module

public import proofs.«01_k».proof.Proof.PiecesA

@[expose] public section

set_option maxRecDepth 16384

noncomputable section

namespace Cert.KernelIdeal.Val

open Idealize.ShloMosaic Idealize.SL.Sem Idealize.ShloMosaic.Pipeline Idealize.ShloMosaic.Tactic Cert.KernelIdeal Cert.KernelIdeal.Gen

variable {F : FTy → Type} [FloatOps F] [Named F]

/-- A lane over four, and a lane's rest by four. -/
def laneWord : IVec S8x128 32 := k0_pay275 k0_pay273 k0_pay274 1#32
def laneByte : IVec S8x128 32 := k0_pay276 (iota .tc S8x128 32 [1] iota_S8x128_d1_w32)

/-- A slab's mask words with every bit turned over, rows of no word at all zero, and 28 zero rows below. -/
def turned (some : IVec S128x1 1) (w : Vec F S100x1x128 .i32) : IVec S128x128 32 :=
  select (broadcastTo S128x128 (shapeCast S128x1 some shapeCasts_S128x1_S128x1) broadcasts_S128x1_S128x128)
    (xori
      (concatenate S128x128 0
        [⟨S100x128, (shapeCast S100x128 w shapeCasts_S100x1x128_S100x128 : IVec S100x128 32)⟩,
         ⟨S28x128, broadcast S28x128 0#32⟩] concatenates_S100x128_S28x128_S128x128_d0)
      (constantI S128x128 32 4294967295#32))
    (broadcast S128x128 0#32)

theorem slabSlices (t k : Fin 4) : S128x128.Slices ![32 * t.val + 8 * k.val, 0] S8x128 := by
  revert t k; decide

/-- Byte `j` of eight rows of words, moved to byte `k`. -/
def byteOf (v : IVec S128x128 32) (t j k : Fin 4) : IVec S8x128 32 :=
  shli
    (andi
      (shrui (extractStridedSlice S8x128 ![32 * t.val + 8 * k.val, 0] v (slabSlices t k))
        (broadcast S8x128 (BitVec.ofNat 32 (8 * j.val))))
      (broadcast S8x128 255#32))
    (broadcast S8x128 (BitVec.ofNat 32 (8 * k.val)))

/-- Byte `j` of thirty-two rows of words, four rows to a word. -/
def part (v : IVec S128x128 32) (t j : Fin 4) : IVec S8x128 32 :=
  ori (ori (ori (byteOf v t j 0) (byteOf v t j 1)) (byteOf v t j 2)) (byteOf v t j 3)

/-- The lane a packed word is taken from. -/
def packLane (d : IVec S8x128 32) (o : Fin 4) : IVec S8x128 32 :=
  have a : IVec S8x128 32 := addi (broadcast S8x128 (BitVec.ofNat 32 (32 * o.val))) d
  shapeCast S8x128
    (shapeCast S8x128x1
      (select (cmpi .slt a (broadcast S8x128 0#32)) (addi a (broadcast S8x128 128#32)) a) shapeCasts_S8x128_S8x128x1)
    shapeCasts_S8x128x1_S8x128

/-- The packed words of thirty-two rows and one quarter of the slab. -/
def packed (d e : IVec S8x128 32) (v : IVec S128x128 32) (t o : Fin 4) : IVec S1x1x1x8x128 32 :=
  have g (j : Fin 4) : IVec S8x128 32 := dynamicGather 1 (part v t j) (packLane d o)
  shapeCast S1x1x1x8x128
    (select (cmpi .eq e (broadcast S8x128 3#32)) (g 3)
      (select (cmpi .eq e (broadcast S8x128 2#32)) (g 2)
        (select (cmpi .eq e (broadcast S8x128 1#32)) (g 1) (g 0))))
    shapeCasts_S8x128_S1x1x1x8x128

/-- Sixteen stores of packed words, row block by row block, over the stores `L` before them. -/
def packPieces (off : Fin 4 → Fin 4 → Fin 5 → ℕ) (inb : ∀ t o a, off t o a + S1x1x1x8x128.size a ≤ S2x4x64x8x128.size a)
    (w : Fin 4 → Fin 4 → Vec F S1x1x1x8x128 .i32) (L : List (View.Piece (Elt F) S2x4x64x8x128 .i32)) :
    List (View.Piece (Elt F) S2x4x64x8x128 .i32) :=
  recList L (fun m _ =>
    ⟨Rect.unit (s := S2x4x64x8x128) (off ⟨m / 4 % 4, by omega⟩ ⟨m % 4, by omega⟩) S1x1x1x8x128.size
        (inb ⟨m / 4 % 4, by omega⟩ ⟨m % 4, by omega⟩),
      w ⟨m / 4 % 4, by omega⟩ ⟨m % 4, by omega⟩⟩) 16

/-- The sixteen stores read back: a slab's own words, and what was there before everywhere else. -/
theorem canon_pack (off : Fin 4 → Fin 4 → Fin 5 → ℕ)
    (inb : ∀ t o a, off t o a + S1x1x1x8x128.size a ≤ S2x4x64x8x128.size a)
    (w : Fin 4 → Fin 4 → Vec F S1x1x1x8x128 .i32) (L : List (View.Piece (Elt F) S2x4x64x8x128 .i32))
    (b' k : ℕ) (hoff : ∀ t o, off t o = ![b', t.val, 4 * k + o.val, 0, 0])
    (b : Fin 2) (t : Fin 4) (o : Fin 64) (r : Fin 8) (s : Fin 128) :
    View.canon (packPieces off inb w L) (ix5 b t o r s)
      = if b.val = b' ∧ o.val / 4 = k then w t ⟨o.val % 4, by omega⟩ (ix5 0 0 0 r s) else View.canon L (ix5 b t o r s) := by
  have hb := b.isLt
  have ht := t.isLt
  have ho := o.isLt
  have hr := r.isLt
  have hs := s.isLt
  have mem (m : ℕ) (hc : (ix5 b t o r s : S2x4x64x8x128.Idx) ∈
      (Rect.unit (s := S2x4x64x8x128) (off ⟨m / 4 % 4, by omega⟩ ⟨m % 4, by omega⟩) S1x1x1x8x128.size
        (inb ⟨m / 4 % 4, by omega⟩ ⟨m % 4, by omega⟩)).set) :
      b.val = b' ∧ t.val = m / 4 % 4 ∧ o.val = 4 * k + m % 4 := by
    have hc := (Rect.mem_set_unit (inb := inb ⟨m / 4 % 4, by omega⟩ ⟨m % 4, by omega⟩)).mp hc
    rw [hoff] at hc
    have h0 : b' ≤ b.val ∧ b.val < b' + 1 := hc 0
    have h1 : m / 4 % 4 ≤ t.val ∧ t.val < m / 4 % 4 + 1 := hc 1
    have h2 : 4 * k + m % 4 ≤ o.val ∧ o.val < 4 * k + m % 4 + 1 := hc 2
    omega
  by_cases h : b.val = b' ∧ o.val / 4 = k
  · rw [if_pos h]
    obtain ⟨hb', hk⟩ := h
    have key := canon_rec_hit (Val := Elt F) L (fun m _ =>
      ⟨Rect.unit (s := S2x4x64x8x128) (off ⟨m / 4 % 4, by omega⟩ ⟨m % 4, by omega⟩) S1x1x1x8x128.size
        (inb ⟨m / 4 % 4, by omega⟩ ⟨m % 4, by omega⟩),
      w ⟨m / 4 % 4, by omega⟩ ⟨m % 4, by omega⟩⟩) (ix5 b t o r s) 16 (4 * t.val + o.val % 4) (by omega) (ix5 0 0 0 r s) ?_ ?_
    · refine key.trans ?_
      have e1 : (⟨(4 * t.val + o.val % 4) / 4 % 4, by omega⟩ : Fin 4) = t := Fin.ext (by show (4 * t.val + o.val % 4) / 4 % 4 = t.val; omega)
      have e2 : (⟨(4 * t.val + o.val % 4) % 4, by omega⟩ : Fin 4) = ⟨o.val % 4, by omega⟩ := Fin.ext (by show (4 * t.val + o.val % 4) % 4 = o.val % 4; omega)
      show w _ _ _ = _
      rw [e1, e2]
    · refine Rect.emb_eq_of_coords _ _ _ fun a => ?_
      have e := hoff ⟨(4 * t.val + o.val % 4) / 4 % 4, by omega⟩ ⟨(4 * t.val + o.val % 4) % 4, by omega⟩
      match a with
      | ⟨0, _⟩ =>
        exact (show b.val = b' + 1 * 0 by omega).trans (congrArg (· + 1 * 0) (congrFun e 0).symm)
      | ⟨1, _⟩ =>
        exact (show t.val = (4 * t.val + o.val % 4) / 4 % 4 + 1 * 0 by omega).trans
          (congrArg (· + 1 * 0) (congrFun e 1).symm)
      | ⟨2, _⟩ =>
        exact (show o.val = 4 * k + (4 * t.val + o.val % 4) % 4 + 1 * 0 by omega).trans
          (congrArg (· + 1 * 0) (congrFun e 2).symm)
      | ⟨3, _⟩ => exact (show r.val = 0 + 1 * r.val by omega).trans (congrArg (· + 1 * r.val) (congrFun e 3).symm)
      | ⟨4, _⟩ => exact (show s.val = 0 + 1 * s.val by omega).trans (congrArg (· + 1 * s.val) (congrFun e 4).symm)
    · intro m h1 h2 hc
      have := mem m hc
      omega
  · rw [if_neg h]
    refine canon_rec_miss L _ _ 16 0 (by omega) ?_
    intro m h1 h2 hc
    have := mem m hc
    omega

/-- A store list built up from nothing, put before another. -/
theorem recList_append {s : Shape} {e : EltTy} (f : ℕ → View.Piece (Elt F) s e) (L : List (View.Piece (Elt F) s e)) (n : ℕ) :
    recList [] (fun m _ => f m) n ++ L = recList L (fun m _ => f m) n := by
  induction n with
  | zero => rfl
  | succ n ih => exact congrArg (f n :: ·) ih

theorem packPieces_append (off : Fin 4 → Fin 4 → Fin 5 → ℕ)
    (inb : ∀ t o a, off t o a + S1x1x1x8x128.size a ≤ S2x4x64x8x128.size a)
    (w : Fin 4 → Fin 4 → Vec F S1x1x1x8x128 .i32) (L : List (View.Piece (Elt F) S2x4x64x8x128 .i32)) :
    packPieces off inb w [] ++ L = packPieces off inb w L :=
  recList_append _ L 16

/-- The offsets the two loops store at. -/
def off0 (k : Fin k0_t1_loop.trips) (t o : Fin 4) : Fin 5 → ℕ :=
  match t with
  | 0 => k0_off2 k (BitVec.ofNat 32 o.val)
  | 1 => k0_off3 k (BitVec.ofNat 32 o.val)
  | 2 => k0_off4 k (BitVec.ofNat 32 o.val)
  | 3 => k0_off5 k (BitVec.ofNat 32 o.val)
def off1 (k : Fin k0_t2_loop.trips) (t o : Fin 4) : Fin 5 → ℕ :=
  match t with
  | 0 => k0_off7 k (BitVec.ofNat 32 o.val)
  | 1 => k0_off8 k (BitVec.ofNat 32 o.val)
  | 2 => k0_off9 k (BitVec.ofNat 32 o.val)
  | 3 => k0_off10 k (BitVec.ofNat 32 o.val)

theorem off0_eq (k : Fin k0_t1_loop.trips) (t o : Fin 4) : off0 k t o = ![0, t.val, 4 * k.val + o.val, 0, 0] := by
  fin_cases t
  · exact k0_off2_eq k o
  · exact k0_off3_eq k o
  · exact k0_off4_eq k o
  · exact k0_off5_eq k o
theorem off1_eq (k : Fin k0_t2_loop.trips) (t o : Fin 4) : off1 k t o = ![1, t.val, 4 * k.val + o.val, 0, 0] := by
  fin_cases t
  · exact k0_off7_eq k o
  · exact k0_off8_eq k o
  · exact k0_off9_eq k o
  · exact k0_off10_eq k o

theorem off0_inb (i : grid0.Coords) (hc0 : k0_cond1 i = 1#1) (k : Fin k0_t1_loop.trips) (t o : Fin 4) :
    ∀ a, off0 k t o a + S1x1x1x8x128.size a ≤ S2x4x64x8x128.size a :=
  match t with
  | 0 => k0_off2_inb i k hc0 o
  | 1 => k0_off3_inb i k hc0 o
  | 2 => k0_off4_inb i k hc0 o
  | 3 => k0_off5_inb i k hc0 o
theorem off1_inb (i : grid0.Coords) (hc0 : k0_cond1 i = 1#1) (k : Fin k0_t2_loop.trips) (t o : Fin 4) :
    ∀ a, off1 k t o a + S1x1x1x8x128.size a ≤ S2x4x64x8x128.size a :=
  match t with
  | 0 => k0_off7_inb i k hc0 o
  | 1 => k0_off8_inb i k hc0 o
  | 2 => k0_off9_inb i k hc0 o
  | 3 => k0_off10_inb i k hc0 o

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : k0_cond1 i = 1#1)

/-- The slab of mask words a trip loads. -/
def slab0 (X : BufTy.Contents (Elt F) arg6.view.ty) (k : Fin k0_t1_loop.trips) : Vec F S100x1x128 .i32 :=
  View.readAt (Elt F) arg6.view (Rect.unit (s := S100x2x2048) (k0_off1 k) S100x1x128.size (k0_off1_inb i k hc0)).toLoadRect X
def slab1 (X : BufTy.Contents (Elt F) arg6.view.ty) (k : Fin k0_t2_loop.trips) : Vec F S100x1x128 .i32 :=
  View.readAt (Elt F) arg6.view (Rect.unit (s := S100x2x2048) (k0_off6 k) S100x1x128.size (k0_off6_inb i k hc0)).toLoadRect X

theorem trip0_eq (v : Vec F S100x1x2048 .i32) (X : BufTy.Contents (Elt F) arg6.view.ty) (k : Fin k0_t1_loop.trips) :
    tripL_k0_t1 (F := F) Variants.none c none i arg1 harg1 arg2 harg2 arg3 harg3 arg4 harg4 arg5 harg5 arg6 harg6 arg7 harg7
        arg8 harg8 arg9 harg9 arg10 harg10 arg11 harg11 arg12 harg12 arg13 harg13 hc0
        (iota .tc S8x128 32 [1] iota_S8x128_d1_w32) k0_pay273 k0_pay274 1#32 v X k
      = packPieces (off0 k) (off0_inb i hc0 k)
          (packed laneWord laneByte (turned (k0_pay278 v) (slab0 i arg6 hc0 X k))) [] := by
  sl_kernel_rfl

theorem trip1_eq (v : Vec F S100x1x2048 .i32) (X : BufTy.Contents (Elt F) arg6.view.ty) (k : Fin k0_t2_loop.trips) :
    tripL_k0_t2 (F := F) Variants.none c none i arg1 harg1 arg2 harg2 arg3 harg3 arg4 harg4 arg5 harg5 arg6 harg6 arg7 harg7
        arg8 harg8 arg9 harg9 arg10 harg10 arg11 harg11 arg12 harg12 arg13 harg13 hc0
        laneWord laneByte v X k
      = packPieces (off1 k) (off1_inb i hc0 k)
          (packed laneWord laneByte (turned (k0_pay280 v) (slab1 i arg6 hc0 X k))) [] := by
  sl_kernel_rfl

/-- The first loop's stores after `n` trips, read back at a place of the packed words. -/
theorem canon_loop0 (v : Vec F S100x1x2048 .i32) (X : BufTy.Contents (Elt F) arg6.view.ty)
    (L : List (View.Piece (Elt F) S2x4x64x8x128 .i32)) (b : Fin 2) (t : Fin 4) (o : Fin 64) (r : Fin 8) (s : Fin 128)
    (n : ℕ) (hn : n ≤ k0_t1_loop.trips) :
    View.canon (pb_k0_t1 (F := F) Variants.none c none i arg1 harg1 arg2 harg2 arg3 harg3 arg4 harg4 arg5 harg5 arg6 harg6 arg7
        harg7 arg8 harg8 arg9 harg9 arg10 harg10 arg11 harg11 arg12 harg12 arg13 harg13 hc0
        (iota .tc S8x128 32 [1] iota_S8x128_d1_w32) k0_pay273 k0_pay274 1#32 v X n ++ L) (ix5 b t o r s)
      = if h : b.val = 0 ∧ o.val / 4 < n then
          packed laneWord laneByte (turned (k0_pay278 v) (slab0 i arg6 hc0 X ⟨o.val / 4, by omega⟩)) t
            ⟨o.val % 4, by omega⟩ (ix5 0 0 0 r s)
        else View.canon L (ix5 b t o r s) := by
  induction n with
  | zero => rw [dif_neg (by omega)]; rfl
  | succ n ih =>
    rw [pb_k0_t1_succ (F := F) Variants.none c none i arg1 harg1 arg2 harg2 arg3 harg3 arg4 harg4 arg5 harg5 arg6 harg6 arg7
        harg7 arg8 harg8 arg9 harg9 arg10 harg10 arg11 harg11 arg12 harg12 arg13 harg13 hc0
        (iota .tc S8x128 32 [1] iota_S8x128_d1_w32) k0_pay273 k0_pay274 1#32 v X ⟨n, hn⟩,
      trip0_eq, List.append_assoc, packPieces_append, canon_pack _ _ _ _ 0 n (off0_eq ⟨n, hn⟩)]
    by_cases h : b.val = 0 ∧ o.val / 4 = n
    · rw [if_pos h, dif_pos (by omega)]
      obtain ⟨_, h⟩ := h
      subst h
      rfl
    · rw [if_neg h, ih (by omega)]
      by_cases h' : b.val = 0 ∧ o.val / 4 < n
      · rw [dif_pos h', dif_pos (by omega)]
      · rw [dif_neg h', dif_neg (by omega)]

/-- The second loop's stores after `n` trips, read back at a place of the packed words. -/
theorem canon_loop1 (v : Vec F S100x1x2048 .i32) (X : BufTy.Contents (Elt F) arg6.view.ty)
    (L : List (View.Piece (Elt F) S2x4x64x8x128 .i32)) (b : Fin 2) (t : Fin 4) (o : Fin 64) (r : Fin 8) (s : Fin 128)
    (n : ℕ) (hn : n ≤ k0_t2_loop.trips) :
    View.canon (pb_k0_t2 (F := F) Variants.none c none i arg1 harg1 arg2 harg2 arg3 harg3 arg4 harg4 arg5 harg5 arg6 harg6 arg7
        harg7 arg8 harg8 arg9 harg9 arg10 harg10 arg11 harg11 arg12 harg12 arg13 harg13 hc0
        laneWord laneByte v X n ++ L) (ix5 b t o r s)
      = if h : b.val = 1 ∧ o.val / 4 < n then
          packed laneWord laneByte (turned (k0_pay280 v) (slab1 i arg6 hc0 X ⟨o.val / 4, by omega⟩)) t
            ⟨o.val % 4, by omega⟩ (ix5 0 0 0 r s)
        else View.canon L (ix5 b t o r s) := by
  induction n with
  | zero => rw [dif_neg (by omega)]; rfl
  | succ n ih =>
    rw [pb_k0_t2_succ (F := F) Variants.none c none i arg1 harg1 arg2 harg2 arg3 harg3 arg4 harg4 arg5 harg5 arg6 harg6 arg7
        harg7 arg8 harg8 arg9 harg9 arg10 harg10 arg11 harg11 arg12 harg12 arg13 harg13 hc0
        laneWord laneByte v X ⟨n, hn⟩,
      trip1_eq, List.append_assoc, packPieces_append, canon_pack _ _ _ _ 1 n (off1_eq ⟨n, hn⟩)]
    by_cases h : b.val = 1 ∧ o.val / 4 = n
    · rw [if_pos h, dif_pos (by omega)]
      obtain ⟨_, h⟩ := h
      subst h
      rfl
    · rw [if_neg h, ih (by omega)]
      by_cases h' : b.val = 1 ∧ o.val / 4 < n
      · rw [dif_pos h', dif_pos (by omega)]
      · rw [dif_neg h', dif_neg (by omega)]

variable (hc1 : ¬cond0_1 i) (hc0' : cond0_0 i)
  (x0 : Vec F S2x12x32x100 .bf16) (x1 : Vec F S2x12x32x2048 .fp8e4m3) (x2 : Vec F S12x2x2048 .f32)
  (x3 : Vec F S2x12x32x2048 .fp8e4m3) (x4 : Vec F S12x2x2048 .f32) (x5 : Vec F S100x2x2048 .i32)

/-- A batch's mask words, all of them. -/
def allWords (b : Fin 2) : Vec F S100x1x2048 .i32 :=
  match b with
  | 0 => View.readAt (Elt F) arg6.view
      (Rect.unit (s := S100x2x2048) ![0, 0, 0] S100x1x2048.size inb_S100x2x2048_S100x1x2048_0_0_0).toLoadRect (harg6.unread x5)
  | 1 => View.readAt (Elt F) arg6.view
      (Rect.unit (s := S100x2x2048) ![0, 1, 0] S100x1x2048.size inb_S100x2x2048_S100x1x2048_0_1_0).toLoadRect (harg6.unread x5)

/-- The first step's stores to the scratch of packed words: zeros, then the two loops'. -/
theorem wStores_A :
    (kernelRun0_A c i arg1 harg1 arg2 harg2 arg3 harg3 arg4 harg4 arg5 harg5 arg6 harg6 arg7 harg7 arg8 harg8 arg9 harg9
      arg10 harg10 arg11 harg11 arg12 harg12 arg13 harg13 hc0' hc1 x0 x1 x2 x3 x4 x5).2.2.1
      = pb_k0_t2 (F := F) Variants.none c none i arg1 harg1 arg2 harg2 arg3 harg3 arg4 harg4 arg5 harg5 arg6 harg6 arg7
          harg7 arg8 harg8 arg9 harg9 arg10 harg10 arg11 harg11 arg12 harg12 arg13 harg13 hc0'
          laneWord laneByte (allWords arg6 harg6 x5 1) (harg6.unread x5) k0_t2_loop.trips
        ++ (pb_k0_t1 (F := F) Variants.none c none i arg1 harg1 arg2 harg2 arg3 harg3 arg4 harg4 arg5 harg5 arg6 harg6 arg7
          harg7 arg8 harg8 arg9 harg9 arg10 harg10 arg11 harg11 arg12 harg12 arg13 harg13 hc0'
          (iota .tc S8x128 32 [1] iota_S8x128_d1_w32) k0_pay273 k0_pay274 1#32 (allWords arg6 harg6 x5 0) (harg6.unread x5)
            k0_t1_loop.trips
          ++ [⟨Rect.unit (s := S2x4x64x8x128) ![0, 0, 0, 0, 0] S2x4x64x8x128.size
            inb_S2x4x64x8x128_S2x4x64x8x128_0_0_0_0_0, k0_pay277⟩]) := by
  sl_kernel_rfl

end Cert.KernelIdeal.Val

end
-- ==== Proof.MaskBits.lean ====
/- The packed mask words, bit by bit: which bit of which mask word each of their bits is. -/
module

public import proofs.«01_k».proof.Proof.StepSpec
import Idealize.ShloMosaic.Lib.WholeRead
public import proofs.«01_k».proof.Proof.MaskPack

@[expose] public section

set_option maxRecDepth 16384

noncomputable section

namespace Cert.KernelIdeal.Val

open Idealize.ShloMosaic Idealize.SL.Sem Idealize.ShloMosaic.Pipeline Cert.KernelIdeal Cert.KernelIdeal.Gen

theorem laneWord_apply : ∀ s : Fin 128, (laneWord (ix2 0 s) : BitVec 32) = BitVec.ofNat 32 (s.val / 4) := by decide
theorem laneByte_apply : ∀ s : Fin 128, (laneByte (ix2 0 s) : BitVec 32) = BitVec.ofNat 32 (s.val % 4) := by decide

theorem packLane_nat (o : Fin 4) (r : Fin 8) (s : Fin 128) :
    (packLane laneWord o (ix2 r s) : BitVec 32).toNat = 32 * o.val + s.val / 4 := by
  have key : ∀ (u : Fin 4) (v : Fin 32),
      (if IntOp.cmpi CmpIPredicate.slt (BitVec.ofNat 32 (32 * u.val) + BitVec.ofNat 32 v.val) 0#32 = 1#1 then
        BitVec.ofNat 32 (32 * u.val) + BitVec.ofNat 32 v.val + 128#32
      else BitVec.ofNat 32 (32 * u.val) + BitVec.ofNat 32 v.val).toNat = 32 * u.val + v.val := by decide
  have h := key o ⟨s.val / 4, by omega⟩
  refine Eq.trans (congrArg BitVec.toNat ?_) h
  have e : (laneWord (ix2 r s) : BitVec 32) = BitVec.ofNat 32 (s.val / 4) := laneWord_apply s
  unfold packLane
  simp only [pointwise]
  rw [e]
  rfl

/-- One byte of a word moved to another place of it. -/
theorem byte_bit (x : BitVec 32) (j m k i : ℕ) (hj : j < 4) (hm : m < 4) (hk : k < 4) (hi : i < 8) :
    (IntOp.shli .vector (IntOp.andi (IntOp.shrui .vector x (BitVec.ofNat 32 (8 * j))) 255#32) (BitVec.ofNat 32 (8 * m))).getLsbD
        (8 * k + i)
      = (decide (m = k) && x.getLsbD (8 * j + i)) := by
  have h1 : ∀ a : ℕ, a < 4 → (BitVec.ofNat 32 (8 * a)).toNat = 8 * a := by
    intro a ha
    rw [BitVec.toNat_ofNat]; exact Nat.mod_eq_of_lt (by omega)
  have low : ∀ q : ℕ, (255#32 : BitVec 32).getLsbD q = decide (q < 8) := by
    intro q
    by_cases hq : q < 32
    · have : ∀ q : Fin 32, (255#32 : BitVec 32).getLsbD q.val = decide (q.val < 8) := by decide
      exact this ⟨q, hq⟩
    · rw [BitVec.getLsbD_of_ge _ _ (by omega)]
      exact (decide_eq_false (by omega)).symm
  unfold IntOp.shli IntOp.shrui IntOp.andi
  have h2 : (BitVec.ofNat 32 (8 * j)).toNat < 32 := by rw [h1 j hj]; omega
  have h3 : (BitVec.ofNat 32 (8 * m)).toNat < 32 := by rw [h1 m hm]; omega
  rw [if_pos h2, if_pos h3, BitVec.shiftLeft_eq', BitVec.ushiftRight_eq', h1 j hj,
    h1 m hm, BitVec.getLsbD_shiftLeft]
  show (_ && _ && ((x >>> (8 * j)) &&& 255#32).getLsbD _) = _
  rw [BitVec.getLsbD_and, BitVec.getLsbD_ushiftRight, low]
  have a : decide (8 * k + i < 32) = true := decide_eq_true (by omega)
  rw [a, Bool.true_and]
  by_cases h : m = k
  · subst h
    have b : decide (8 * m + i < 8 * m) = false := decide_eq_false (by omega)
    have c : 8 * j + (8 * m + i - 8 * m) = 8 * j + i := by omega
    have d : decide (8 * m + i - 8 * m < 8) = true := decide_eq_true (by omega)
    rw [b, c, d]
    simp
  · rw [decide_eq_false h, Bool.false_and]
    by_cases h' : k < m
    · rw [decide_eq_true (by omega)]; rfl
    · rw [decide_eq_false (p := 8 * k + i - 8 * m < 8) (by omega), Bool.and_false, Bool.and_false]

/-- A packed row's word, a bit of it. -/
theorem part_bit (v : IVec S128x128 32) (t j : Fin 4) (r : Fin 8) (l : Fin 128) (k i : ℕ) (hk : k < 4) (hi : i < 8)
    (R : Fin 128) (hR : R.val = 32 * t.val + 8 * k + r.val) :
    (part v t j (ix2 r l) : BitVec 32).getLsbD (8 * k + i) = (v (ix2 R l) : BitVec 32).getLsbD (8 * j.val + i) := by
  have g (m : Fin 4) : (byteOf v t j m (ix2 r l) : BitVec 32).getLsbD (8 * k + i)
      = (decide (m.val = k) && (v (ix2 R l) : BitVec 32).getLsbD (8 * j.val + i)) := by
    by_cases h : m.val = k
    · subst h
      have e : (byteOf v t j m (ix2 r l) : BitVec 32)
          = IntOp.shli .vector (IntOp.andi (IntOp.shrui .vector (v (ix2 R l) : BitVec 32) (BitVec.ofNat 32 (8 * j.val))) 255#32)
              (BitVec.ofNat 32 (8 * m.val)) := by
        have e' : extractStridedSlice S8x128 ![32 * t.val + 8 * m.val, 0] v (slabSlices t m) (ix2 r l) = v (ix2 R l) := by
          refine congrArg v (funext fun a => ?_)
          match a with
          | ⟨0, _⟩ => exact Fin.ext (by show 32 * t.val + 8 * m.val + r.val = R.val; omega)
          | ⟨1, _⟩ => exact Fin.ext (by show 0 + l.val = l.val; omega)
        rw [← e']
        rfl
      rw [e, byte_bit _ _ _ _ _ j.isLt hk hk hi]
    · have e : (byteOf v t j m (ix2 r l) : BitVec 32)
          = IntOp.shli .vector (IntOp.andi (IntOp.shrui .vector
              (extractStridedSlice S8x128 ![32 * t.val + 8 * m.val, 0] v (slabSlices t m) (ix2 r l))
              (BitVec.ofNat 32 (8 * j.val))) 255#32) (BitVec.ofNat 32 (8 * m.val)) := rfl
      rw [e, byte_bit _ _ _ _ _ j.isLt m.isLt hk hi, decide_eq_false h, Bool.false_and, Bool.false_and]
  have e : (part v t j (ix2 r l) : BitVec 32)
      = ((byteOf v t j 0 (ix2 r l) ||| byteOf v t j 1 (ix2 r l)) ||| byteOf v t j 2 (ix2 r l)) ||| byteOf v t j 3 (ix2 r l) := rfl
  rw [e, BitVec.getLsbD_or, BitVec.getLsbD_or, BitVec.getLsbD_or, g, g, g, g]
  have hk' : k = 0 ∨ k = 1 ∨ k = 2 ∨ k = 3 := by omega
  rcases hk' with h | h | h | h <;> subst h <;> simp

/-- A packed word, a bit of it. -/
theorem packed_bit (v : IVec S128x128 32) (t o : Fin 4) (r : Fin 8) (s : Fin 128) (k i : ℕ) (hk : k < 4) (hi : i < 8)
    (R l : Fin 128) (hR : R.val = 32 * t.val + 8 * k + r.val) (hl : l.val = 32 * o.val + s.val / 4) :
    (packed laneWord laneByte v t o (ix5 0 0 0 r s) : BitVec 32).getLsbD (8 * k + i)
      = (v (ix2 R l) : BitVec 32).getLsbD (8 * (s.val % 4) + i) := by
  have g (j : Fin 4) : dynamicGather 1 (part v t j) (packLane laneWord o) (ix2 r s) = part v t j (ix2 r l) := by
    unfold dynamicGather
    refine congrArg _ (funext fun a => ?_)
    match a with
    | ⟨0, _⟩ => rfl
    | ⟨1, _⟩ =>
      refine Fin.ext ?_
      show (packLane laneWord o (ix2 r s) : BitVec 32).toNat % 128 = l.val
      rw [packLane_nat]; omega
  have e : (laneByte (ix2 r s) : BitVec 32) = BitVec.ofNat 32 (s.val % 4) := laneByte_apply s
  have sel : ∀ q : Fin 4, ∀ x : Fin 4 → BitVec 32,
      (if IntOp.cmpi .eq (BitVec.ofNat 32 q.val) 3#32 = 1#1 then x 3
        else if IntOp.cmpi .eq (BitVec.ofNat 32 q.val) 2#32 = 1#1 then x 2
        else if IntOp.cmpi .eq (BitVec.ofNat 32 q.val) 1#32 = 1#1 then x 1 else x 0) = x q := by
    intro q x
    fin_cases q <;> rfl
  have p0 (x : Fin 4 → IVec S8x128 32) : (shapeCast S1x1x1x8x128
      (select (cmpi .eq laneByte (broadcast S8x128 3#32)) (x 3)
        (select (cmpi .eq laneByte (broadcast S8x128 2#32)) (x 2)
          (select (cmpi .eq laneByte (broadcast S8x128 1#32)) (x 1) (x 0))))
      shapeCasts_S8x128_S1x1x1x8x128 (ix5 0 0 0 r s) : BitVec 32) = x ⟨s.val % 4, by omega⟩ (ix2 r s) := by
    rw [← sel ⟨s.val % 4, by omega⟩ (fun j => x j (ix2 r s))]
    simp only [pointwise]
    rw [e]
    rfl
  have p : (packed laneWord laneByte v t o (ix5 0 0 0 r s) : BitVec 32) = part v t ⟨s.val % 4, by omega⟩ (ix2 r l) :=
    (p0 fun j => dynamicGather 1 (part v t j) (packLane laneWord o)).trans (g _)
  rw [p, part_bit v t _ r l k i hk hi R hR]

/-- A slab's words turned over, read at a row of the mask. -/
theorem turned_apply (some : IVec S128x1 1) (w : Vec Ideal S100x1x128 .i32) (n : Fin 100) (R l : Fin 128) (hR : R.val = n.val) :
    (turned some w (ix2 R l) : BitVec 32) = if some (ix2 R 0) = 1#1 then ~~~ (w (ix3 n 0 l) : BitVec 32) else 0#32 := by
  unfold turned
  simp only [pointwise]
  have h : R.val < 100 := by omega
  rw [dif_pos h]
  have e : (⟨R.val, h⟩ : Fin 100) = n := Fin.ext hR
  rw [e]
  show (if some (ix2 R 0) = 1#1 then (w (ix3 n 0 l) : BitVec 32) ^^^ 4294967295#32 else 0#32) = _
  have x (y : BitVec 32) : y ^^^ 4294967295#32 = ~~~ y := by
    rw [← BitVec.xor_allOnes]; rfl
  rw [x]

/-- A row's condition holds where one of its words is not zero. -/
theorem some_iff (v : Vec Ideal S100x1x2048 .i32) (n : Fin 100) (R : Fin 128) (hR : R.val = n.val) :
    (k0_pay278 v (ix2 R 0)) = 1#1 ↔ ∃ j : Fin 2048, (v (ix3 n 0 j) : BitVec 32) ≠ 0#32 := by
  obtain ⟨R, hR'⟩ := R
  obtain rfl : R = n.val := hR
  unfold k0_pay278
  simp only [pointwise]
  have h : n.val < 100 := n.isLt
  have bot : Ideal.ofBits FTy.f32 4286578688#32 = (⊥ : EReal) := by simp [Ideal.ofBits, Ideal.ieee]
  have o (p : Prop) [Decidable p] : BitVec.ofBool (decide p) = 1#1 ↔ p := by
    by_cases hp : p <;> simp [hp]
  rw [o, Finset.lt_fold_max, bot]
  have z (x : BitVec 32) : (0 : EReal) < (FloatOps.sitofp (F := Ideal) FTy.f32
      (BitVec.setWidth 32 (IntOp.cmpi CmpIPredicate.ne x 0#32)) : EReal) ↔ x ≠ 0#32 := by
    by_cases hx : x = 0#32
    · subst hx
      refine iff_of_false ?_ (fun h => h rfl)
      show ¬ (0 : EReal) < (((0#32 : BitVec 32).toInt : ℝ) : EReal)
      have : (0#32 : BitVec 32).toInt = 0 := by decide
      rw [this]; norm_num
    · refine iff_of_true ?_ hx
      have c : IntOp.cmpi CmpIPredicate.ne x 0#32 = 1#1 := by
        have t : (x != 0#32) = true := bne_iff_ne.mpr hx
        exact congrArg BitVec.ofBool t
      rw [c]
      show (0 : EReal) < (((1#32 : BitVec 32).toInt : ℝ) : EReal)
      have : (1#32 : BitVec 32).toInt = 1 := by decide
      rw [this]; norm_num
  constructor
  · rintro (h | ⟨k, _, hk⟩)
    · exact absurd h (by simp)
    · exact ⟨k, (z _).mp hk⟩
  · rintro ⟨k, hk⟩
    exact Or.inr ⟨k, Finset.mem_univ _, (z _).mpr hk⟩

open Classical in
/-- Which pixels a row may attend to, by the mask's words: its bits, or every pixel where no word has a bit. -/
def allowed (x5 : Vec Ideal S100x2x2048 .i32) (b : Fin 2) (n : Fin 100) (p : ℕ) : Bool :=
  !decide (∃ j : Fin 2048, (x5 (ix3 n b j) : BitVec 32) ≠ 0#32)
    || (x5 (ix3 n b ⟨p / 32 % 2048, Nat.mod_lt _ (by decide)⟩) : BitVec 32).getLsbD (p % 32)

/-- A packed bit says that a pixel is not allowed. -/
theorem packed_allowed (x5 : Vec Ideal S100x2x2048 .i32) (b : Fin 2) (n : Fin 100) (o : Fin 64) (p : Fin 1024)
    (some : IVec S128x1 1) (w : Vec Ideal S100x1x128 .i32)
    (hs : ∀ R : Fin 128, R.val = n.val → (some (ix2 R 0) = 1#1 ↔ ∃ j : Fin 2048, (x5 (ix3 n b j) : BitVec 32) ≠ 0#32))
    (hw : ∀ l : Fin 128, (w (ix3 n 0 l) : BitVec 32) = x5 (ix3 n b ⟨128 * (o.val / 4) + l.val, by omega⟩)) :
    (packed laneWord laneByte (turned some w) ⟨n.val / 32, by omega⟩ ⟨o.val % 4, by omega⟩
        (ix5 0 0 0 ⟨n.val % 8, by omega⟩ ⟨p.val / 8, by omega⟩) : BitVec 32).getLsbD (8 * (n.val % 32 / 8) + p.val % 8)
      = !allowed x5 b n (1024 * o.val + p.val) := by
  have hn := n.isLt
  have hp := p.isLt
  have ho := o.isLt
  rw [packed_bit _ _ _ _ _ _ _ (by omega) (by omega) ⟨n.val, by omega⟩ ⟨32 * (o.val % 4) + p.val / 8 / 4, by omega⟩
      (by show n.val = 32 * (n.val / 32) + 8 * (n.val % 32 / 8) + n.val % 8; omega) rfl,
    turned_apply some w n _ _ rfl, hw]
  have e1 : (⟨128 * (o.val / 4) + (32 * (o.val % 4) + p.val / 8 / 4), by omega⟩ : Fin 2048)
      = ⟨(1024 * o.val + p.val) / 32 % 2048, Nat.mod_lt _ (by decide)⟩ := Fin.ext (by
    show 128 * (o.val / 4) + (32 * (o.val % 4) + p.val / 8 / 4) = (1024 * o.val + p.val) / 32 % 2048
    omega)
  have e2 : 8 * (p.val / 8 % 4) + p.val % 8 = (1024 * o.val + p.val) % 32 := by omega
  have lt : (1024 * o.val + p.val) % 32 < 32 := Nat.mod_lt _ (by decide)
  show (if _ then ~~~ (x5 (ix3 n b ⟨128 * (o.val / 4) + (32 * (o.val % 4) + p.val / 8 / 4), by omega⟩) : BitVec 32) else 0#32).getLsbD
    (8 * (p.val / 8 % 4) + p.val % 8) = _
  rw [e1, e2]
  unfold allowed
  by_cases h : ∃ j : Fin 2048, (x5 (ix3 n b j) : BitVec 32) ≠ 0#32
  · rw [if_pos ((hs _ rfl).mpr h), decide_eq_true h, BitVec.getLsbD_not, decide_eq_true lt]
    simp
  · rw [if_neg (fun h' => h ((hs _ rfl).mp h')), decide_eq_false h]
    simp

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : cond0_0 i) (hc1 : ¬cond0_1 i)
  (x0 : Vec Ideal S2x12x32x100 .bf16) (x1 : Vec Ideal S2x12x32x2048 .fp8e4m3) (x2 : Vec Ideal S12x2x2048 .f32)
  (x3 : Vec Ideal S2x12x32x2048 .fp8e4m3) (x4 : Vec Ideal S12x2x2048 .f32) (x5 : Vec Ideal S100x2x2048 .i32)

theorem allWords_apply (b : Fin 2) (n : Fin 100) (j : Fin 2048) :
    allWords arg6 harg6 x5 b (ix3 n 0 j) = x5 (ix3 n b j) := by
  fin_cases b
  · refine (harg6.readAt_unread x5 _ _).trans (congrArg x5 (funext fun a => ?_))
    match a with
    | ⟨0, _⟩ => exact Fin.ext (by show 0 + 1 * n.val = n.val; omega)
    | ⟨1, _⟩ => rfl
    | ⟨2, _⟩ => exact Fin.ext (by show 0 + 1 * j.val = j.val; omega)
  · refine (harg6.readAt_unread x5 _ _).trans (congrArg x5 (funext fun a => ?_))
    match a with
    | ⟨0, _⟩ => exact Fin.ext (by show 0 + 1 * n.val = n.val; omega)
    | ⟨1, _⟩ => rfl
    | ⟨2, _⟩ => exact Fin.ext (by show 0 + 1 * j.val = j.val; omega)

theorem slab0_apply (k : Fin k0_t1_loop.trips) (n : Fin 100) (l : Fin 128) (j : Fin 2048) (hj : j.val = 128 * k.val + l.val) :
    slab0 i arg6 hc0 (harg6.unread x5) k (ix3 n 0 l) = x5 (ix3 n 0 j) := by
  refine (harg6.readAt_unread x5 _ _).trans (congrArg x5 (funext fun a => ?_))
  have e := k0_off1_eq k
  match a with
  | ⟨0, _⟩ =>
    exact Fin.ext ((congrArg (· + 1 * n.val) (congrFun e 0)).trans (show 0 + 1 * n.val = n.val by omega))
  | ⟨1, _⟩ => exact Fin.ext (congrArg (· + 1 * 0) (congrFun e 1))
  | ⟨2, _⟩ =>
    exact Fin.ext ((congrArg (· + 1 * l.val) (congrFun e 2)).trans (show 128 * k.val + 1 * l.val = j.val by omega))

theorem slab1_apply (k : Fin k0_t2_loop.trips) (n : Fin 100) (l : Fin 128) (j : Fin 2048) (hj : j.val = 128 * k.val + l.val) :
    slab1 i arg6 hc0 (harg6.unread x5) k (ix3 n 0 l) = x5 (ix3 n 1 j) := by
  refine (harg6.readAt_unread x5 _ _).trans (congrArg x5 (funext fun a => ?_))
  have e := k0_off6_eq k
  match a with
  | ⟨0, _⟩ =>
    exact Fin.ext ((congrArg (· + 1 * n.val) (congrFun e 0)).trans (show 0 + 1 * n.val = n.val by omega))
  | ⟨1, _⟩ => exact Fin.ext (congrArg (· + 1 * 0) (congrFun e 1))
  | ⟨2, _⟩ =>
    exact Fin.ext ((congrArg (· + 1 * l.val) (congrFun e 2)).trans (show 128 * k.val + 1 * l.val = j.val by omega))

/-- The first step leaves in the scratch of packed words, bit by bit, which pixels are not allowed. -/
theorem wSpec_A :
    WSpec (View.canon (kernelRun0_A c i arg1 harg1 arg2 harg2 arg3 harg3 arg4 harg4 arg5 harg5 arg6 harg6 arg7 harg7 arg8
      harg8 arg9 harg9 arg10 harg10 arg11 harg11 arg12 harg12 arg13 harg13 hc0 hc1 x0 x1 x2 x3 x4 x5).2.2.1)
      (allowed x5) := by
  have t1 : k0_t1_loop.trips = 16 := rfl
  have t2 : k0_t2_loop.trips = 16 := rfl
  intro b n o p
  have ho := o.isLt
  have hb := b.isLt
  rw [wStores_A, canon_loop1 (hn := le_rfl)]
  by_cases h1 : b.val = 1
  · rw [dif_pos ⟨h1, by omega⟩]
    obtain rfl : b = 1 := Fin.ext h1
    refine packed_allowed x5 1 n o p _ _ (fun R hR => ?_) (fun l => ?_)
    · refine (some_iff (allWords arg6 harg6 x5 1) n R hR).trans ?_
      simp only [allWords_apply]
    · exact slab1_apply i arg6 harg6 hc0 x5 _ n l _ rfl
  · rw [dif_neg (by omega), canon_loop0 (hn := le_rfl),
      dif_pos ⟨by omega, by omega⟩]
    obtain rfl : b = 0 := Fin.ext (by show b.val = 0; omega)
    refine packed_allowed x5 0 n o p _ _ (fun R hR => ?_) (fun l => ?_)
    · refine (some_iff (allWords arg6 harg6 x5 0) n R hR).trans ?_
      simp only [allWords_apply]
    · exact slab0_apply i arg6 harg6 hc0 x5 _ n l _ rfl

end Cert.KernelIdeal.Val
-- ==== Proof.QueryPack.lean ====
/- The first step's packed queries: a head's rows at its place among its group's columns, and a one column of the
   mask's number in every row. -/
module

public import proofs.«01_k».proof.Proof.StepSpec
import Idealize.ShloMosaic.Lib.WholeRead

@[expose] public section

set_option maxRecDepth 16384

noncomputable section

namespace Cert.KernelIdeal.Val

open Idealize.ShloMosaic Idealize.SL.Sem Idealize.ShloMosaic.Pipeline Idealize.ShloMosaic.Tactic Cert.KernelIdeal Cert.KernelIdeal.Gen

/-- Division of words, rounded down, and its rest. -/
def floorDiv (x : IVec S104x128 32) (d : BitVec 32) : IVec S104x128 32 :=
  select
    (andi
      (cmpi .ne
        (subi (extui 32 (cmpi .sgt x (broadcast S104x128 0#32)) natLt_1_32)
          (extui 32 (cmpi .slt x (broadcast S104x128 0#32)) natLt_1_32))
        (broadcast S104x128 1#32))
      (cmpi .ne (remsi x (broadcast S104x128 d)) (broadcast S104x128 0#32)))
    (subi (divsi x (broadcast S104x128 d)) (broadcast S104x128 1#32))
    (divsi x (broadcast S104x128 d))
def floorMod (x : IVec S104x128 32) (d : BitVec 32) : IVec S104x128 32 :=
  select
    (andi
      (xori (cmpi .slt (remsi x (broadcast S104x128 d)) (broadcast S104x128 0#32)) (broadcast S104x128 0#1))
      (cmpi .ne (remsi x (broadcast S104x128 d)) (broadcast S104x128 0#32)))
    (addi (remsi x (broadcast S104x128 d)) (broadcast S104x128 d))
    (remsi x (broadcast S104x128 d))

/-- A row's number, and its place among the mask's rows. -/
def rowWord : IVec S104x128 32 := iota .tc S104x128 32 [0] iota_S104x128_d0_w32
def slotWord : IVec S104x128 32 :=
  addi (addi (muli (floorDiv rowWord 32#32) (broadcast S104x128 32#32)) (muli (floorMod rowWord 8#32) (broadcast S104x128 4#32)))
    (floorDiv (floorMod rowWord 32#32) 8#32)

section
variable {F : FTy → Type} [FloatOps F] [Named F]

/-- The mask's number at every row's own place. -/
def hot : FVec F S1x1x104x128 .bf16 :=
  shapeCast S1x1x104x128
    (truncf .bf16
      (select
        (andi (cmpi .eq (iota .tc S104x128 32 [1] iota_S104x128_d1_w32) slotWord)
          (cmpi .slt rowWord (broadcast S104x128 100#32)))
        (broadcast S104x128 (Named.named κ "masked" 0xFF7F0000#32 : F .f32))
        (broadcast S104x128 (Scalar.ofBits .f32 0x00000000#32 : F .f32)) : FVec F S104x128 .f32) bitsLt_bf16_f32)
    shapeCasts_S104x128_S1x1x104x128

/-- A head's queries, or zeros, by whether the place is the head's. -/
def qAt (hl j : Fin 4) (v : Vec F S1x1x32x100 .bf16) : FVec F S32x128 .f32 :=
  if j = hl then
    concatenate S32x128 1
      [⟨S32x100, (extf .f32 (shapeCast S32x100 v shapeCasts_S1x1x32x100_S32x100 : FVec F S32x100 .bf16) bitsLt_bf16_f32 : FVec F S32x100 .f32)⟩,
       ⟨S32x28, (broadcast S32x28 (Scalar.ofBits .f32 0x00000000#32 : F .f32) : FVec F S32x28 .f32)⟩]
      concatenates_S32x100_S32x28_S32x128_d1
  else broadcast S32x128 (Scalar.ofBits .f32 0x00000000#32 : F .f32)

/-- A head's rows of the packed queries. -/
def qRows (hl : Fin 4) (v : Vec F S1x1x32x100 .bf16) : FVec F S1x1x104x128 .bf16 :=
  shapeCast S1x1x104x128
    (truncf .bf16
      (extractStridedSlice S104x128 ![0, 0]
        (transpose S128x128 [1, 0]
          (concatenate S128x128 0 [⟨S32x128, qAt hl 0 v⟩, ⟨S32x128, qAt hl 1 v⟩, ⟨S32x128, qAt hl 2 v⟩, ⟨S32x128, qAt hl 3 v⟩]
            concatenates_S32x128_S32x128_S32x128_S32x128_S128x128_d0 : FVec F S128x128 .f32)
          transposes_S128x128_p1_0_S128x128)
        slices_S128x128_o0_0_S104x128 : FVec F S104x128 .f32) bitsLt_bf16_f32)
    shapeCasts_S104x128_S1x1x104x128

def qOff (m : ℕ) : Fin 4 → ℕ := ![m / 24 % 2, m / 8 % 3, 104 * (m / 2 % 4), 128 * (m % 2)]
theorem qOff_inb (m : ℕ) : ∀ a, qOff m a + S1x1x104x128.size a ≤ S2x3x416x256.size a := by
  intro a
  match a with
  | ⟨0, _⟩ => show m / 24 % 2 + 1 ≤ 2; omega
  | ⟨1, _⟩ => show m / 8 % 3 + 1 ≤ 3; omega
  | ⟨2, _⟩ => show 104 * (m / 2 % 4) + 104 ≤ 416; omega
  | ⟨3, _⟩ => show 128 * (m % 2) + 128 ≤ 256; omega
def hOff (m : ℕ) : Fin 4 → ℕ := ![m / 24 % 2, m / 2 % 12, 0, 0]
theorem hOff_inb (m : ℕ) : ∀ a, hOff m a + S1x1x32x100.size a ≤ S2x12x32x100.size a := by
  intro a
  match a with
  | ⟨0, _⟩ => show m / 24 % 2 + 1 ≤ 2; omega
  | ⟨1, _⟩ => show m / 2 % 12 + 1 ≤ 12; omega
  | ⟨2, _⟩ => show 0 + 32 ≤ 32; omega
  | ⟨3, _⟩ => show 0 + 100 ≤ 100; omega

/-- A head's queries, loaded. -/
def qLoad (arg1 : Memref sig .tc .vmem S2x12x32x100 .bf16) (harg1 : arg1.IsWhole) (x0 : Vec F S2x12x32x100 .bf16) (m : ℕ) :
    Vec F S1x1x32x100 .bf16 :=
  View.readAt (Elt F) arg1.view (Rect.unit (s := S2x12x32x100) (hOff m) S1x1x32x100.size (hOff_inb m)).toLoadRect (harg1.unread x0)

/-- The forty-eight stores of the packed queries. -/
def qPieces (arg1 : Memref sig .tc .vmem S2x12x32x100 .bf16) (harg1 : arg1.IsWhole) (x0 : Vec F S2x12x32x100 .bf16) :
    List (View.Piece (Elt F) S2x3x416x256 .bf16) :=
  recList [] (fun m _ =>
    ⟨Rect.unit (s := S2x3x416x256) (qOff m) S1x1x104x128.size (qOff_inb m),
      (if m % 2 = 0 then qRows ⟨m / 2 % 4, by omega⟩ (qLoad arg1 harg1 x0 m) else hot : FVec F S1x1x104x128 .bf16)⟩) 48
end

section
variable {F : FTy → Type} [FloatOps F] [Named F]
variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : cond0_0 i) (hc1 : ¬cond0_1 i)
  (x0 : Vec F S2x12x32x100 .bf16) (x1 : Vec F S2x12x32x2048 .fp8e4m3) (x2 : Vec F S12x2x2048 .f32)
  (x3 : Vec F S2x12x32x2048 .fp8e4m3) (x4 : Vec F S12x2x2048 .f32) (x5 : Vec F S100x2x2048 .i32)

theorem qStores_A :
    (kernelRun0_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5).2.1 = qPieces arg1 harg1 x0 := by
  sl_kernel_rfl
end

theorem slotWord_apply : ∀ r : Fin 104, (slotWord (ix2 r 0) : BitVec 32)
    = BitVec.ofNat 32 (r.val / 32 * 32 + r.val % 8 * 4 + r.val % 32 / 8) := by decide

theorem row_lt : ∀ n : Fin 100, IntOp.cmpi CmpIPredicate.slt (rowWord (ix2 (row n) 0) : BitVec 32) 100#32 = 1#1 := by decide

/-- Where the mask's number stands: at a row's own place. -/
theorem hotAt_apply (n : Fin 100) (x : Fin 128) :
    (andi (cmpi .eq (iota .tc S104x128 32 [1] iota_S104x128_d1_w32) slotWord)
      (cmpi .slt rowWord (broadcast S104x128 100#32)) (ix2 (row n) x) : BitVec 1) = if x.val = slot n then 1#1 else 0#1 := by
  have e1 : (slotWord (ix2 (row n) x) : BitVec 32) = BitVec.ofNat 32 (slot n) := slotWord_apply (row n)
  have e2 : IntOp.cmpi CmpIPredicate.slt (rowWord (ix2 (row n) x) : BitVec 32) 100#32 = 1#1 := row_lt n
  have e3 : (iota .tc S104x128 32 [1] iota_S104x128_d1_w32 (ix2 (row n) x) : BitVec 32) = BitVec.ofNat 32 x.val := by
    show BitVec.ofNat 32 (0 * 128 + x.val) = _
    congr 1
    omega
  have hs := slot_lt n
  have hx := x.isLt
  show IntOp.andi (IntOp.cmpi CmpIPredicate.eq (iota .tc S104x128 32 [1] iota_S104x128_d1_w32 (ix2 (row n) x)) (slotWord (ix2 (row n) x)))
    (IntOp.cmpi CmpIPredicate.slt (rowWord (ix2 (row n) x)) 100#32) = _
  rw [e1, e2, e3]
  show BitVec.ofBool (BitVec.ofNat 32 x.val == BitVec.ofNat 32 (slot n)) &&& 1#1 = _
  by_cases h : x.val = slot n
  · rw [if_pos h, h, beq_self_eq_true]; rfl
  · have ne : BitVec.ofNat 32 x.val ≠ BitVec.ofNat 32 (slot n) := by
      intro h'
      have := congrArg BitVec.toNat h'
      rw [BitVec.toNat_ofNat, BitVec.toNat_ofNat] at this
      omega
    rw [if_neg h, beq_eq_false_iff_ne.mpr ne]; rfl

theorem pick_apply (c : IVec S104x128 1) (v : EReal) (r : Fin 104) (x : Fin 128) :
    (shapeCast S1x1x104x128
      (truncf .bf16 (select c (broadcast S104x128 v) (broadcast S104x128 (Scalar.ofBits (F := Ideal) .f32 0x00000000#32)) :
        FVec Ideal S104x128 .f32) bitsLt_bf16_f32) shapeCasts_S104x128_S1x1x104x128 (ix4 0 0 r x) : EReal)
      = Scalar.select (c (ix2 r x)) v 0 := by
  simp only [pointwise]

theorem hot_apply (n : Fin 100) (x : Fin 128) :
    (hot (F := Ideal) (ix4 0 0 (row n) x) : EReal) = if x.val = slot n then ⊥ else 0 := by
  have e : (Named.named (F := Ideal) κ "masked" (φ := .f32) 0xFF7F0000#32 : EReal) = ⊥ :=
    rfl
  refine (pick_apply _ _ (row n) x).trans ?_
  rw [hotAt_apply, e]
  by_cases h : x.val = slot n
  · rw [if_pos h, if_pos h]; rfl
  · rw [if_neg h, if_neg h]; rfl

theorem qAt_apply (hl j : Fin 4) (v : Vec Ideal S1x1x32x100 .bf16) (n : Fin 100) (y : Fin 32) (r : Fin 128) (hr : r.val = n.val) :
    (qAt hl j v (ix2 y r) : EReal) = if j = hl then (v (ix4 0 0 y n) : EReal) else 0 := by
  obtain ⟨r, hr'⟩ := r
  obtain rfl : r = n.val := hr
  unfold qAt
  by_cases h : j = hl
  · rw [if_pos h, if_pos h]
    simp only [pointwise]
    exact dif_pos trivial
  · rw [if_neg h, if_neg h]
    simp only [pointwise]

theorem qRows_apply (hl : Fin 4) (v : Vec Ideal S1x1x32x100 .bf16) (n : Fin 100) (x : Fin 128) :
    (qRows hl v (ix4 0 0 (row n) x) : EReal)
      = if x.val / 32 = hl.val then (v (ix4 0 0 ⟨x.val % 32, by omega⟩ n) : EReal) else 0 := by
  have hx := x.isLt
  have hn := n.isLt
  have key (j : Fin 4) (hj : x.val / 32 = j.val) (y : Fin 32) (hy : y.val = x.val % 32) (r : Fin 128) (hr : r.val = 0 + n.val) :
      (qAt hl j v (ix2 y r) : EReal)
        = if x.val / 32 = hl.val then (v (ix4 0 0 ⟨x.val % 32, by omega⟩ n) : EReal) else 0 := by
    rw [qAt_apply hl j v n y r (by omega)]
    have e : y = ⟨x.val % 32, by omega⟩ := Fin.ext hy
    refine if_congr ?_ (congrArg (fun d => (v (ix4 0 0 d n) : EReal)) e) rfl
    rw [Fin.ext_iff]; omega
  unfold qRows
  simp only [pointwise]
  have hc : x.val / 32 = 0 ∨ x.val / 32 = 1 ∨ x.val / 32 = 2 ∨ x.val / 32 = 3 := by omega
  rcases hc with h | h | h | h
  · refine (dif_pos (show 0 + x.val < 32 by omega)).trans ?_
    exact key 0 h _ (by show 0 + x.val = x.val % 32; omega) _ rfl
  · refine (dif_neg (show ¬ 0 + x.val < 32 by omega)).trans ?_
    refine (dif_pos (show 0 + x.val - 32 < 32 by omega)).trans ?_
    exact key 1 h _ (by show 0 + x.val - 32 = x.val % 32; omega) _ rfl
  · refine (dif_neg (show ¬ 0 + x.val < 32 by omega)).trans ?_
    refine (dif_neg (show ¬ 0 + x.val - 32 < 32 by omega)).trans ?_
    refine (dif_pos (show 0 + x.val - 32 - 32 < 32 by omega)).trans ?_
    exact key 2 h _ (by show 0 + x.val - 32 - 32 = x.val % 32; omega) _ rfl
  · refine (dif_neg (show ¬ 0 + x.val < 32 by omega)).trans ?_
    refine (dif_neg (show ¬ 0 + x.val - 32 < 32 by omega)).trans ?_
    refine (dif_neg (show ¬ 0 + x.val - 32 - 32 < 32 by omega)).trans ?_
    exact key 3 h _ (by show 0 + x.val - 32 - 32 - 32 = x.val % 32; omega) _ rfl

section
variable (arg1 : Memref sig .tc .vmem S2x12x32x100 .bf16) (harg1 : arg1.IsWhole) (x0 : Vec Ideal S2x12x32x100 .bf16)

theorem qLoad_apply (m : ℕ) (b : Fin 2) (h : Fin 12) (hb : b.val = m / 24 % 2) (hh : h.val = m / 2 % 12) (d : Fin 32) (n : Fin 100) :
    qLoad arg1 harg1 x0 m (ix4 0 0 d n) = x0 (ix4 b h d n) := by
  refine (harg1.readAt_unread x0 _ _).trans (congrArg x0 (funext fun a => ?_))
  match a with
  | ⟨0, _⟩ => exact Fin.ext (by show m / 24 % 2 + 1 * 0 = b.val; omega)
  | ⟨1, _⟩ => exact Fin.ext (by show m / 2 % 12 + 1 * 0 = h.val; omega)
  | ⟨2, _⟩ => exact Fin.ext (by show 0 + 1 * d.val = d.val; omega)
  | ⟨3, _⟩ => exact Fin.ext (by show 0 + 1 * n.val = n.val; omega)

/-- The packed queries read back. -/
theorem qSpec_pieces : QSpec (View.canon (qPieces arg1 harg1 x0)) (fun b h n d => x0 (ix4 b h d n)) := by
  intro b g l n x
  have hb := b.isLt
  have hg := g.isLt
  have hl := l.isLt
  have hn := n.isLt
  have hx := x.isLt
  have hit := canon_rec_hit (Val := Elt Ideal) (s := S2x3x416x256) (e := .bf16) [] (fun m _ =>
    ⟨Rect.unit (s := S2x3x416x256) (qOff m) S1x1x104x128.size (qOff_inb m),
      (if m % 2 = 0 then qRows ⟨m / 2 % 4, by omega⟩ (qLoad arg1 harg1 x0 m) else hot : FVec Ideal S1x1x104x128 .bf16)⟩)
    (ix4 b g ⟨104 * l.val + n.val, by omega⟩ x) 48 (24 * b.val + 8 * g.val + 2 * l.val + x.val / 128) (by omega)
    (ix4 0 0 (row n) ⟨x.val % 128, by omega⟩) ?_ ?_
  · refine hit.trans ?_
    by_cases h : x.val < 128
    · rw [if_pos h]
      have hm : (24 * b.val + 8 * g.val + 2 * l.val + x.val / 128) % 2 = 0 := by omega
      show (if (24 * b.val + 8 * g.val + 2 * l.val + x.val / 128) % 2 = 0 then _ else hot : FVec Ideal S1x1x104x128 .bf16) _ = _
      rw [if_pos hm, qRows_apply, qLoad_apply arg1 harg1 x0 _ b (hd g l) (by omega) (by show 4 * g.val + l.val = _; omega)]
      have e : (⟨x.val % 128 % 32, by omega⟩ : Fin 32) = ⟨x.val % 32, by omega⟩ := Fin.ext (by show x.val % 128 % 32 = x.val % 32; omega)
      refine if_congr ?_ (congrArg (fun d => x0 (ix4 b (hd g l) d n)) e) rfl
      show x.val % 128 / 32 = (24 * b.val + 8 * g.val + 2 * l.val + x.val / 128) / 2 % 4 ↔ x.val / 32 = l.val
      omega
    · rw [if_neg h]
      have hm : ¬ (24 * b.val + 8 * g.val + 2 * l.val + x.val / 128) % 2 = 0 := by omega
      show (if (24 * b.val + 8 * g.val + 2 * l.val + x.val / 128) % 2 = 0 then _ else hot : FVec Ideal S1x1x104x128 .bf16) _ = _
      rw [if_neg hm, hot_apply]
      refine if_congr ?_ rfl rfl
      show x.val % 128 = slot n ↔ x.val - 128 = slot n
      omega
  · refine Rect.emb_eq_of_coords _ _ _ fun a => ?_
    match a with
    | ⟨0, _⟩ => show b.val = (24 * b.val + 8 * g.val + 2 * l.val + x.val / 128) / 24 % 2 + 1 * 0; omega
    | ⟨1, _⟩ => show g.val = (24 * b.val + 8 * g.val + 2 * l.val + x.val / 128) / 8 % 3 + 1 * 0; omega
    | ⟨2, _⟩ => show 104 * l.val + n.val = 104 * ((24 * b.val + 8 * g.val + 2 * l.val + x.val / 128) / 2 % 4) + 1 * n.val; omega
    | ⟨3, _⟩ => show x.val = 128 * ((24 * b.val + 8 * g.val + 2 * l.val + x.val / 128) % 2) + 1 * (x.val % 128); omega
  · intro m h1 h2 hc
    have hc := (Rect.mem_set_unit (inb := qOff_inb m)).mp hc
    have c0 : m / 24 % 2 ≤ b.val ∧ b.val < m / 24 % 2 + 1 := hc 0
    have c1 : m / 8 % 3 ≤ g.val ∧ g.val < m / 8 % 3 + 1 := hc 1
    have c2 : 104 * (m / 2 % 4) ≤ 104 * l.val + n.val ∧ 104 * l.val + n.val < 104 * (m / 2 % 4) + 104 := hc 2
    have c3 : 128 * (m % 2) ≤ x.val ∧ x.val < 128 * (m % 2) + 128 := hc 3
    omega
end

end Cert.KernelIdeal.Val
-- ==== Proof.Softmax.lean ====
/- Attention as a running fold over extended reals: how the sums of an online softmax, rescaled each time
   the running maximum grows, relate to the plain softmax-weighted sum. No program is mentioned here. -/
module

public import Idealize.ShloMosaic.PureOps.Ideal

@[expose] public section

noncomputable section

namespace Cert.Softmax

open Idealize.ShloMosaic

/-- `exp2` is never negative. -/
theorem exp2_nonneg (x : EReal) : 0 ≤ Ideal.exp2 x := by
  induction x using EReal.rec with
  | bot => simp
  | top => simp
  | coe r =>
    rw [Ideal.exp2_coe, EReal.coe_nonneg]
    exact (Real.rpow_pos_of_pos (by norm_num) r).le

/-- Raising the shift from `m` to `m'` multiplies a weight by `exp2 (m - m')`. -/
theorem exp2_shift {x m m' : EReal} (hx : x ≤ m) (hm : m ≤ m') (hb : m ≠ ⊥) :
    Ideal.exp2 (x - m) * Ideal.exp2 (m - m') = Ideal.exp2 (x - m') := by
  induction m' using EReal.rec with
  | bot => exact absurd (le_bot_iff.mp hm) hb
  | top => simp
  | coe b =>
    induction m using EReal.rec with
    | bot => exact absurd rfl hb
    | top => simp at hm
    | coe a =>
      induction x using EReal.rec with
      | bot => simp
      | top => simp at hx
      | coe c =>
        rw [← EReal.coe_sub, ← EReal.coe_sub, ← EReal.coe_sub, Ideal.exp2_coe, Ideal.exp2_coe, Ideal.exp2_coe,
          ← EReal.coe_mul, EReal.coe_eq_coe_iff]
        show (2 : ℝ) ^ (c - a) * (2 : ℝ) ^ (a - b) = (2 : ℝ) ^ (c - b)
        rw [← Real.rpow_add (by norm_num)]
        congr 1; ring

/-- The rescaling factor is a finite number: its shift only grows. -/
theorem exp2_sub_ne_top {m m' : EReal} (hm : m ≤ m') : Ideal.exp2 (m - m') ≠ ⊤ := by
  induction m' using EReal.rec with
  | bot => simp [le_bot_iff.mp hm]
  | top => simp
  | coe b =>
    induction m using EReal.rec with
    | bot => simp
    | top => simp at hm
    | coe a => rw [← EReal.coe_sub, Ideal.exp2_coe]; exact EReal.coe_ne_top _

/-- A finite nonnegative factor goes through a sum. -/
theorem sum_mul_of_nonneg {ι : Type*} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, ← ih]
    exact EReal.right_distrib_of_nonneg_of_ne_top h0 h1 _ _

/-- A weighted sum taken at the shift `m`, moved to the larger shift `m'`. -/
theorem sum_shift {ι : Type*} (s : Finset ι) (v t : ι → EReal) {m m' : EReal} (ht : ∀ i ∈ s, t i ≤ m)
    (hm : m ≤ m') (hb : m ≠ ⊥) :
    (∑ i ∈ s, v i * Ideal.exp2 (t i - m)) * Ideal.exp2 (m - m') = ∑ i ∈ s, v i * Ideal.exp2 (t i - m') := by
  rw [sum_mul_of_nonneg s _ (exp2_nonneg _) (exp2_sub_ne_top hm)]
  refine Finset.sum_congr rfl fun i hi => ?_
  rw [mul_assoc, exp2_shift (ht i hi) hm hb]

/-- The running maximum after `n` blocks, from `m₀`. -/
def runMax {J : Type*} [Fintype J] (m₀ : EReal) (t : ℕ → J → EReal) : ℕ → EReal
  | 0 => m₀
  | n + 1 => max (runMax m₀ t n) (Finset.univ.sup (t n))

/-- The running weighted sum after `n` blocks: rescaled to the new maximum, the block's terms added. -/
def runSum {J : Type*} [Fintype J] (m₀ : EReal) (t v : ℕ → J → EReal) : ℕ → EReal
  | 0 => 0
  | n + 1 => runSum m₀ t v n * Ideal.exp2 (runMax m₀ t n - runMax m₀ t (n + 1))
      + ∑ j, v n j * Ideal.exp2 (t n j - runMax m₀ t (n + 1))

section
variable {J : Type*} [Fintype J] {m₀ : EReal} {t v : ℕ → J → EReal}

theorem runMax_mono (n : ℕ) : runMax m₀ t n ≤ runMax m₀ t (n + 1) := le_max_left _ _

theorem le_runMax (n k : ℕ) (hk : k < n) (j : J) : t k j ≤ runMax m₀ t n := by
  induction n with
  | zero => omega
  | succ n ih =>
    rcases Nat.lt_succ_iff_lt_or_eq.mp hk with h | rfl
    · exact (ih h).trans (runMax_mono n)
    · exact (Finset.le_sup (f := t k) (Finset.mem_univ j)).trans (le_max_right _ _)

theorem init_le_runMax (n : ℕ) : m₀ ≤ runMax m₀ t n := by
  induction n with
  | zero => exact le_rfl
  | succ n ih => exact ih.trans (runMax_mono n)

/-- The running sum is the plain weighted sum of every block so far, at the current maximum. -/
theorem runSum_eq (hb : m₀ ≠ ⊥) (n : ℕ) :
    runSum m₀ t v n = ∑ k ∈ Finset.range n, ∑ j, v k j * Ideal.exp2 (t k j - runMax m₀ t n) := by
  induction n with
  | zero => simp [runSum]
  | succ n ih =>
    have hb' : runMax m₀ t n ≠ ⊥ := fun h => hb (le_bot_iff.mp (h ▸ init_le_runMax (t := t) n))
    rw [runSum, ih, Finset.sum_range_succ,
      sum_mul_of_nonneg _ _ (exp2_nonneg _) (exp2_sub_ne_top (runMax_mono n))]
    congr 1
    refine Finset.sum_congr rfl fun k hk => ?_
    exact sum_shift _ _ _ (fun j _ => le_runMax n k (Finset.mem_range.mp hk) j) (runMax_mono n) hb'

/-- The running maximum is the larger of the start and the maximum over every block. -/
theorem runMax_eq (n : ℕ) :
    runMax m₀ t n = max m₀ ((Finset.range n).sup fun k => Finset.univ.sup (t k)) := by
  induction n with
  | zero => simp [runMax]
  | succ n ih => rw [runMax, ih, Finset.range_add_one, Finset.sup_insert, max_assoc, max_comm (Finset.sup _ _)]

end

/-- `2 ^ (x / log 2) = exp x`, at every extended real. -/
theorem exp2_scale (x : ℝ) : Real.rpow 2 (x * (Real.log 2)⁻¹) = Real.exp x := by
  have h2 : Real.log 2 ≠ 0 := (Real.log_pos (by norm_num)).ne'
  show (2 : ℝ) ^ (x * (Real.log 2)⁻¹) = Real.exp x
  rw [Real.rpow_def_of_pos (by norm_num)]
  congr 1
  field_simp

/-- The quotient of two sums of base-two weights at any shift `M` no smaller than the scores is the quotient
    of the sums of natural weights at the scores' own maximum. -/
theorem quotient_eq {ι : Type*} [Fintype ι] (s v : ι → EReal) (m₀ : ℝ)
    {M : EReal} (hM : M = max (m₀ : EReal) (Finset.univ.sup fun i => s i * (((Real.log 2)⁻¹ : ℝ) : EReal))) :
    Ideal.div (∑ i, v i * Ideal.exp2 (s i * (((Real.log 2)⁻¹ : ℝ) : EReal) - M))
        (∑ i, Ideal.exp2 (s i * (((Real.log 2)⁻¹ : ℝ) : EReal) - M))
      = Ideal.div (∑ i, v i * Ideal.exp (s i - Finset.univ.sup s)) (∑ i, Ideal.exp (s i - Finset.univ.sup s)) := by
  have hl : (0 : ℝ) < (Real.log 2)⁻¹ := inv_pos.mpr (Real.log_pos (by norm_num))
  set κ : ℝ := (Real.log 2)⁻¹ with hκ
  have hκ0 : (0 : EReal) ≤ (κ : EReal) := EReal.coe_nonneg.mpr hl.le
  -- the supremum commutes with the scaling
  have hmono : Monotone fun x : EReal => x * (κ : EReal) := fun a b h => mul_le_mul_of_nonneg_right h hκ0
  have hsup : (Finset.univ.sup fun i => s i * (κ : EReal)) = Finset.univ.sup s * (κ : EReal) := by
    rw [Finset.comp_sup_eq_sup_comp_of_is_total (fun x : EReal => x * (κ : EReal)) hmono
      (EReal.bot_mul_coe_of_pos hl)]
    rfl
  rw [hsup] at hM
  have hle : ∀ i, s i ≤ Finset.univ.sup s := fun i => Finset.le_sup (f := s) (Finset.mem_univ i)
  generalize hS : Finset.univ.sup s = S at hM hle ⊢
  induction S using EReal.rec with
  | bot =>
    have hs : ∀ i, s i = ⊥ := fun i => le_bot_iff.mp (hle i)
    rw [EReal.bot_mul_coe_of_pos hl, max_bot_right] at hM
    subst hM
    simp [hs, EReal.bot_mul_coe_of_pos hl]
  | top =>
    rw [EReal.top_mul_coe_of_pos hl, max_top_right] at hM
    subst hM
    simp
  | coe S =>
    rw [← EReal.coe_mul, ← EReal.coe_strictMono.monotone.map_max] at hM
    -- the two weights differ by one positive factor
    set C : ℝ := Real.rpow 2 (S * κ - max m₀ (S * κ)) with hC
    have hCpos : 0 < C := Real.rpow_pos_of_pos (by norm_num) _
    have hw : ∀ i, Ideal.exp2 (s i * (κ : EReal) - M) = Ideal.exp (s i - S) * (C : EReal) := by
      intro i
      have hi := hle i
      induction hsi : s i using EReal.rec with
      | bot => simp [EReal.bot_mul_coe_of_pos hl]
      | top => simp [hsi] at hi
      | coe r =>
        rw [hM, ← EReal.coe_mul, ← EReal.coe_sub, ← EReal.coe_sub, Ideal.exp2_coe, Ideal.exp_coe, ← EReal.coe_mul,
          EReal.coe_eq_coe_iff, ← exp2_scale (r - S)]
        show (2 : ℝ) ^ (r * κ - max m₀ (S * κ)) = (2 : ℝ) ^ ((r - S) * κ) * (2 : ℝ) ^ (S * κ - max m₀ (S * κ))
        rw [← Real.rpow_add (by norm_num)]
        congr 1; ring
    have hC0 : (0 : EReal) ≤ (C : EReal) := EReal.coe_nonneg.mpr hCpos.le
    simp only [hw, ← mul_assoc]
    rw [← sum_mul_of_nonneg _ _ hC0 (EReal.coe_ne_top _), ← sum_mul_of_nonneg _ _ hC0 (EReal.coe_ne_top _)]
    -- the denominator is a positive real
    have hexp0 : ∀ i, 0 ≤ Ideal.exp (s i - S) := by
      intro i
      induction s i - (S : EReal) using EReal.rec with
      | bot => simp
      | top => simp
      | coe r => rw [Ideal.exp_coe, EReal.coe_nonneg]; exact (Real.exp_pos r).le
    have hreal : ∀ i, ∃ r : ℝ, Ideal.exp (s i - S) = r := by
      intro i
      have hi := hle i
      induction hsi : s i using EReal.rec with
      | bot => exact ⟨0, by simp⟩
      | top => simp [hsi] at hi
      | coe r => exact ⟨Real.exp (r - S), by rw [← EReal.coe_sub, Ideal.exp_coe]⟩
    choose g hg using hreal
    have hne : (Finset.univ : Finset ι).Nonempty := by
      by_contra h
      rw [Finset.not_nonempty_iff_eq_empty] at h
      rw [h, Finset.sup_empty] at hS
      exact absurd hS (EReal.bot_ne_coe S)
    obtain ⟨i₀, -, hi₀⟩ := Finset.exists_mem_eq_sup _ hne s
    have hL : (∑ i, Ideal.exp (s i - S)) = ((∑ i, g i : ℝ) : EReal) := by
      simp only [hg]
      exact (map_sum (⟨⟨Real.toEReal, rfl⟩, EReal.coe_add⟩ : ℝ →+ EReal) g Finset.univ).symm
    have hg0 : ∀ i, 0 ≤ g i := fun i => EReal.coe_nonneg.mp (hg i ▸ hexp0 i)
    have hg1 : g i₀ = 1 := by
      have := hg i₀
      rw [← hi₀, hS, ← EReal.coe_sub, sub_self, Ideal.exp_coe, Real.exp_zero] at this
      exact (EReal.coe_eq_coe_iff.mp this).symm
    have hLpos : 0 < ∑ i, g i :=
      lt_of_lt_of_le (by rw [hg1]; norm_num) (Finset.single_le_sum (fun i _ => hg0 i) (Finset.mem_univ i₀))
    rw [hL, ← EReal.coe_mul, Ideal.div_coe (mul_pos hLpos hCpos).ne', Ideal.div_coe hLpos.ne', mul_assoc,
      ← EReal.coe_mul]
    congr 2
    have := hLpos.ne'
    have := hCpos.ne'
    field_simp

end Cert.Softmax

end
-- ==== Proof.StepOut.lean ====
/- What a step leaves in the running maxima and sums, as a step of the online softmax. -/
module

public import proofs.«01_k».proof.Proof.Gen.KernelIdeal.Frame
public import proofs.«01_k».proof.Proof.StepSpec
public import proofs.«01_k».proof.Proof.MaskBits
public import proofs.«01_k».proof.Proof.QueryPack
public import proofs.«01_k».proof.Proof.Softmax

@[expose] public section

noncomputable section

namespace Cert.KernelIdeal.Val

open Idealize.ShloMosaic Idealize.SL.Sem Idealize.ShloMosaic.Pipeline Cert.KernelIdeal Cert.KernelIdeal.Gen Cert.Softmax

/-- What the carried scratches hold after `n` steps over the blocks `T`. -/
structure State (Q : Fin 2 → Fin 12 → Fin 100 → Fin 32 → EReal) (al : Fin 2 → Fin 100 → ℕ → Bool) (T : ℕ → Blk) (n : ℕ)
    (xs0 : Vec Ideal S2x3x416x256 .bf16) (xs1 : Vec Ideal S2x4x64x8x128 .i32)
    (xs4 : Vec Ideal S2x12x104x128 .f32) (xs5 : Vec Ideal S2x6x80x208 .f32) : Prop where
  q : QSpec xs0 Q
  w : WSpec xs1 al
  m : ∀ b h (r : Fin 100) j, (xs4 (ix4 b h (row r) j) : EReal) = runMax mStart (fun k => (T k).score b h r) n
  chan : ∀ b p e (r : Fin 100) d, (xs5 (ix4 b p (chan e d) (col e r)) : EReal)
    = runSum mStart (fun k => (T k).score b (hp p e) r) (fun k => (T k).val b (hp p e) d) n
  ones : ∀ b p e (r : Fin 100), (xs5 (ix4 b p 64 (col e r)) : EReal)
    = runSum mStart (fun k => (T k).score b (hp p e) r) (fun _ _ => 1) n

theorem mIdx (b : Fin 2) (h : Fin 12) : mB (12 * b.val + h.val) = b ∧ mH (12 * b.val + h.val) = h := by
  constructor <;> refine Fin.ext ?_
  · show (12 * b.val + h.val) / 12 % 2 = b.val; omega
  · show (12 * b.val + h.val) % 12 = h.val; omega

theorem aIdx (b : Fin 2) (p : Fin 6) : aB (6 * b.val + p.val) = b ∧ aP (6 * b.val + p.val) = p := by
  constructor <;> refine Fin.ext ?_
  · show (6 * b.val + p.val) / 6 % 2 = b.val; omega
  · show (6 * b.val + p.val) % 6 = p.val; omega

theorem mCast (x : FVec Ideal S104x128 .f32) (n : Fin 104) (j : Fin 128) :
    (shapeCast S1x1x104x128 x shapeCasts_S104x128_S1x1x104x128 (ix4 0 0 n j) : EReal) = x (ix2 n j) := by
  simp only [pointwise]

theorem aCast (x : FVec Ideal S80x208 .f32) (n : Fin 80) (j : Fin 208) :
    (shapeCast S1x1x80x208 x shapeCasts_S80x208_S1x1x80x208 (ix4 0 0 n j) : EReal) = x (ix2 n j) := by
  simp only [pointwise]

theorem canon_mPieces (L : Loads Ideal) (b : Fin 2) (h : Fin 12) (n : Fin 104) (j : Fin 128) :
    View.canon (mPieces L 24) (ix4 b h n j) = mNew L b h (ix2 n j) := by
  refine (canon_m [] (fun k _ => shapeCast S1x1x104x128 (mNew L (mB k) (mH k)) shapeCasts_S104x128_S1x1x104x128) b h n j).trans ?_
  rw [(mIdx b h).1, (mIdx b h).2]
  exact mCast _ n j

theorem canon_aPieces (L : Loads Ideal) (t : Fin 2 → Fin 12 → Fin 8 → Vec Ideal S1x104x256 .f32) (b : Fin 2) (p : Fin 6)
    (n : Fin 80) (j : Fin 208) :
    View.canon (aPieces L t 12) (ix4 b p n j) = accNew L t b p (ix2 n j) := by
  refine (canon_a [] (fun k _ => shapeCast S1x1x80x208 (accNew L t (aB k) (aP k)) shapeCasts_S80x208_S1x1x80x208) b p n j).trans ?_
  rw [(aIdx b p).1, (aIdx b p).2]
  exact aCast _ n j

theorem canon_mListA (L : Loads Ideal) (v : View sig .tc .vmem S2x12x104x128 .f32) (b : Fin 2) (h : Fin 12) (n : Fin 104)
    (j : Fin 128) :
    View.canon (mListA L v 24) (ix4 b h n j)
      = mNew { L with m := fun b h => v.readCov (mListA L v (12 * b.val + h.val)) (moRect b h).toLoadRect } b h (ix2 n j) := by
  refine (canon_m mInit (fun k l => shapeCast S1x1x104x128
    (mNew { L with m := fun b h => v.readCov l (moRect b h).toLoadRect } (mB k) (mH k)) shapeCasts_S104x128_S1x1x104x128)
    b h n j).trans ?_
  rw [(mIdx b h).1, (mIdx b h).2]
  exact mCast _ n j

theorem canon_aListA (L : Loads Ideal) (t : Fin 2 → Fin 12 → Fin 8 → Vec Ideal S1x104x256 .f32)
    (v : View sig .tc .vmem S2x6x80x208 .f32) (b : Fin 2) (p : Fin 6) (n : Fin 80) (j : Fin 208) :
    View.canon (aListA L t v 12) (ix4 b p n j)
      = accNew { L with acc := fun b p => v.readCov (aListA L t v (6 * b.val + p.val)) (aoRect b p).toLoadRect } t b p
          (ix2 n j) := by
  refine (canon_a aInit (fun k l => shapeCast S1x1x80x208
    (accNew { L with acc := fun b p => v.readCov l (aoRect b p).toLoadRect } t (aB k) (aP k)) shapeCasts_S80x208_S1x1x80x208)
    b p n j).trans ?_
  rw [(aIdx b p).1, (aIdx b p).2]
  exact aCast _ n j

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (x0 : Vec Ideal S2x12x32x100 .bf16) (x1 : Vec Ideal S2x12x32x2048 .fp8e4m3) (x2 : Vec Ideal S12x2x2048 .f32)
  (x3 : Vec Ideal S2x12x32x2048 .fp8e4m3) (x4 : Vec Ideal S12x2x2048 .f32) (x5 : Vec Ideal S100x2x2048 .i32)
  (Q : Fin 2 → Fin 12 → Fin 100 → Fin 32 → EReal) (al : Fin 2 → Fin 100 → ℕ → Bool) (T : ℕ → Blk)
  (xs0 : Vec Ideal S2x3x416x256 .bf16) (xs1 : Vec Ideal S2x4x64x8x128 .i32)
  (xs4 : Vec Ideal S2x12x104x128 .f32) (xs5 : Vec Ideal S2x6x80x208 .f32)

/-- The maxima and sums a step past the first stores. -/
theorem next_BC (k : ℕ) (H : State Q al T k xs0 xs1 xs4 xs5) (hT : T k = blkOf Q al (i 0).val x1 x2 x3 x4) :
    (∀ b h (r : Fin 100) j, View.canon (mPieces (loadsBC i arg2 harg2 arg3 harg3 arg4 harg4 arg5 harg5 arg8 harg8 arg9 harg9 arg10 arg12 harg12 arg13 harg13 x1 x2 x3 x4 xs0 xs1 xs4 xs5) 24) (ix4 b h (row r) j)
      = runMax mStart (fun k => (T k).score b h r) (k + 1))
    ∧ (∀ b p e (r : Fin 100) d, View.canon (aPieces (loadsBC i arg2 harg2 arg3 harg3 arg4 harg4 arg5 harg5 arg8 harg8 arg9 harg9 arg10 arg12 harg12 arg13 harg13 x1 x2 x3 x4 xs0 xs1 xs4 xs5) (tBack arg11.view (loadsBC i arg2 harg2 arg3 harg3 arg4 harg4 arg5 harg5 arg8 harg8 arg9 harg9 arg10 arg12 harg12 arg13 harg13 x1 x2 x3 x4 xs0 xs1 xs4 xs5)) 12)
          (ix4 b p (chan e d) (col e r))
      = runSum mStart (fun k => (T k).score b (hp p e) r) (fun k => (T k).val b (hp p e) d) (k + 1))
    ∧ (∀ b p e (r : Fin 100), View.canon (aPieces (loadsBC i arg2 harg2 arg3 harg3 arg4 harg4 arg5 harg5 arg8 harg8 arg9 harg9 arg10 arg12 harg12 arg13 harg13 x1 x2 x3 x4 xs0 xs1 xs4 xs5) (tBack arg11.view (loadsBC i arg2 harg2 arg3 harg3 arg4 harg4 arg5 harg5 arg8 harg8 arg9 harg9 arg10 arg12 harg12 arg13 harg13 x1 x2 x3 x4 xs0 xs1 xs4 xs5)) 12) (ix4 b p 64 (col e r))
      = runSum mStart (fun k => (T k).score b (hp p e) r) (fun _ _ => 1) (k + 1)) := by
  have S := loadsBC_spec arg2 harg2 arg3 harg3 arg4 harg4 arg5 harg5 arg10 x1 x2 x3 x4 Q al i arg8 harg8 arg9 harg9 arg12
    harg12 arg13 harg13 xs0 xs1 xs4 xs5 H.q H.w (fun b h r => runMax mStart (fun k => (T k).score b h r) k)
    (fun b p r x => xs5 (ix4 b p r x)) H.m (fun _ _ _ _ => rfl)
  rw [← hT] at S
  refine ⟨fun b h r j => ?_, fun b p e r d => ?_, fun b p e r => ?_⟩
  · rw [canon_mPieces, S.mNew]
    rfl
  · rw [canon_aPieces, S.acc_chan (tBack_apply arg11.view _), H.chan]
    rfl
  · rw [canon_aPieces, S.acc_ones (tBack_apply arg11.view _), H.ones]
    rfl

theorem step_B (hc0 : ¬cond0_0 i) (hc1 : ¬cond0_1 i) (k : ℕ) (H : State Q al T k xs0 xs1 xs4 xs5)
    (hT : T k = blkOf Q al (i 0).val x1 x2 x3 x4) :
    State Q al T (k + 1) xs0 xs1
      (sout0_B_4 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5)
      (sout0_B_5 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5) := by
  obtain ⟨n1, n2, n3⟩ := next_BC i arg2 harg2 arg3 harg3 arg4 harg4 arg5 harg5 arg8 harg8 arg9 harg9 arg10 arg11 arg12 harg12 arg13 harg13 x1 x2 x3 x4 Q al T xs0 xs1 xs4 xs5 k H hT
  refine ⟨H.q, H.w, fun b h r j => ?_, fun b p e r d => ?_, fun b p e r => ?_⟩
  · refine (congrFun (View.read_writes_junk_eq_canon VS0_4 _) _).trans ?_
    rw [mStores_B]
    exact n1 b h r j
  · refine (congrFun (View.read_writes_junk_eq_canon VS0_5 _) _).trans ?_
    rw [aStores_B]
    exact n2 b p e r d
  · refine (congrFun (View.read_writes_junk_eq_canon VS0_5 _) _).trans ?_
    rw [aStores_B]
    exact n3 b p e r

/-- The maxima and sums the first step stores. -/
theorem next_A (lq : List (View.Piece (Elt Ideal) S2x3x416x256 .bf16)) (lw : List (View.Piece (Elt Ideal) S2x4x64x8x128 .i32))
    (hQ : QSpec (View.canon lq) Q) (hW : WSpec (View.canon lw) al) (hT : T 0 = blkOf Q al (i 0).val x1 x2 x3 x4) :
    (∀ b h (r : Fin 100) j, View.canon (mListA (baseA i arg2 harg2 arg3 harg3 arg4 harg4 arg5 harg5 arg8 arg9 arg10 x1 x2 x3 x4 lq lw) arg12.view 24) (ix4 b h (row r) j)
      = runMax mStart (fun k => (T k).score b h r) 1)
    ∧ (∀ b p e (r : Fin 100) d, View.canon (aListA (midA i arg2 harg2 arg3 harg3 arg4 harg4 arg5 harg5 arg8 arg9 arg10 arg12 x1 x2 x3 x4 lq lw)
          (tBack arg11.view (baseA i arg2 harg2 arg3 harg3 arg4 harg4 arg5 harg5 arg8 arg9 arg10 x1 x2 x3 x4 lq lw)) arg13.view 12) (ix4 b p (chan e d) (col e r))
      = runSum mStart (fun k => (T k).score b (hp p e) r) (fun k => (T k).val b (hp p e) d) 1)
    ∧ (∀ b p e (r : Fin 100), View.canon (aListA (midA i arg2 harg2 arg3 harg3 arg4 harg4 arg5 harg5 arg8 arg9 arg10 arg12 x1 x2 x3 x4 lq lw)
          (tBack arg11.view (baseA i arg2 harg2 arg3 harg3 arg4 harg4 arg5 harg5 arg8 arg9 arg10 x1 x2 x3 x4 lq lw)) arg13.view 12) (ix4 b p 64 (col e r))
      = runSum mStart (fun k => (T k).score b (hp p e) r) (fun _ _ => 1) 1) := by
  have S := midA_spec arg2 harg2 arg3 harg3 arg4 harg4 arg5 harg5 arg10 x1 x2 x3 x4 Q al i arg8 arg9 arg12 lq lw hQ hW
  rw [← hT] at S
  have S' := S.with_acc (fun b' p' => arg13.view.readCov (aListA (midA i arg2 harg2 arg3 harg3 arg4 harg4 arg5 harg5 arg8 arg9 arg10 arg12 x1 x2 x3 x4 lq lw)
      (tBack arg11.view (baseA i arg2 harg2 arg3 harg3 arg4 harg4 arg5 harg5 arg8 arg9 arg10 x1 x2 x3 x4 lq lw)) arg13.view (6 * b'.val + p'.val)) (aoRect b' p').toLoadRect) (fun _ _ _ _ => 0)
    fun b p r x => (congrFun (View.readCov_eq_canon' arg13.view _ _) _).trans
      ((congrArg (View.canon _) (aoIdx b p r x)).trans ((canon_a_miss aInit _ b p r x).trans (aInit_apply b p r x)))
  refine ⟨fun b h r j => ?_, fun b p e r d => ?_, fun b p e r => ?_⟩
  · rw [canon_mListA]
    exact S.mNew b h r j
  · rw [canon_aListA]
    exact S'.acc_chan (tBack_apply arg11.view _) b p e r d
  · rw [canon_aListA]
    exact S'.acc_ones (tBack_apply arg11.view _) b p e r

/-- The first step, from nothing. -/
theorem step_A (hc0 : cond0_0 i) (hc1 : ¬cond0_1 i)
    (hT : T 0 = blkOf (fun b h n d => x0 (ix4 b h d n)) (allowed x5) (i 0).val x1 x2 x3 x4) :
    State (fun b h n d => x0 (ix4 b h d n)) (allowed x5) T 1
      (sout0_A_0 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5)
      (sout0_A_1 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5)
      (sout0_A_4 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5)
      (sout0_A_5 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5) := by
  have hQ := qSpec_pieces arg1 harg1 x0
  rw [← qStores_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5] at hQ
  have hW := wSpec_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5
  obtain ⟨n1, n2, n3⟩ := next_A i arg2 harg2 arg3 harg3 arg4 harg4 arg5 harg5 arg8 arg9 arg10 arg11 arg12 arg13 x1 x2 x3 x4 _ _ T _ _ hQ hW hT
  refine ⟨?_, ?_, fun b h r j => ?_, fun b p e r d => ?_, fun b p e r => ?_⟩
  · have e : sout0_A_0 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 = View.canon (kernelRun0_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5).2.1 :=
      View.read_writes_junk_eq_canon VS0_0 _
    rw [e]
    exact hQ
  · have e : sout0_A_1 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 = View.canon (kernelRun0_A c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5).2.2.1 :=
      View.read_writes_junk_eq_canon VS0_1 _
    rw [e]
    exact hW
  · refine (congrFun (View.read_writes_junk_eq_canon VS0_4 _) _).trans ?_
    rw [mStores_A]
    exact n1 b h r j
  · refine (congrFun (View.read_writes_junk_eq_canon VS0_5 _) _).trans ?_
    rw [aStores_A]
    exact n2 b p e r d
  · refine (congrFun (View.read_writes_junk_eq_canon VS0_5 _) _).trans ?_
    rw [aStores_A]
    exact n3 b p e r

end Cert.KernelIdeal.Val
-- ==== Proof.PiecesC.lean ====
/- What the last grid step stores into its result block: for each batch, the heads' sums divided, transposed. -/
module

public import proofs.«01_k».proof.Proof.PiecesB
public import proofs.«01_k».proof.Proof.Lists
public import proofs.«01_k».proof.Proof.Gen.KernelIdeal.Frame.RunC

@[expose] public section

set_option maxRecDepth 16384

noncomputable section

namespace Cert.KernelIdeal.Val

open Idealize.ShloMosaic Idealize.SL.Sem Idealize.ShloMosaic.Pipeline Idealize.ShloMosaic.Tactic Cert.KernelIdeal Cert.KernelIdeal.Gen

variable {F : FTy → Type} [FloatOps F] [Named F]

/-- A head's quotients: its pair's sums over the pair's summed weights. -/
def quot0 (a : Vec F S1x1x80x208 .f32) : FVec F S32x104 .f32 :=
  divf (extractStridedSlice S32x104 ![0, 0] (shapeCast S80x208 a shapeCasts_S1x1x80x208_S80x208 : FVec F S80x208 .f32)
      slices_S80x208_o0_0_S32x104)
    (broadcastTo S32x104
      (extractStridedSlice S1x104 ![0, 0]
        (extractStridedSlice S1x208 ![64, 0] (shapeCast S80x208 a shapeCasts_S1x1x80x208_S80x208 : FVec F S80x208 .f32)
          slices_S80x208_o64_0_S1x208)
        slices_S1x208_o0_0_S1x104)
      broadcasts_S1x104_S32x104)
def quot1 (a : Vec F S1x1x80x208 .f32) : FVec F S32x104 .f32 :=
  divf (extractStridedSlice S32x104 ![32, 104] (shapeCast S80x208 a shapeCasts_S1x1x80x208_S80x208 : FVec F S80x208 .f32)
      slices_S80x208_o32_104_S32x104)
    (broadcastTo S32x104
      (extractStridedSlice S1x104 ![0, 104]
        (extractStridedSlice S1x208 ![64, 0] (shapeCast S80x208 a shapeCasts_S1x1x80x208_S80x208 : FVec F S80x208 .f32)
          slices_S80x208_o64_0_S1x208)
        slices_S1x208_o0_104_S1x104)
      broadcasts_S1x104_S32x104)

/-- A batch's result rows, from its pairs' sums. -/
def outRows (a : Fin 6 → Vec F S1x1x80x208 .f32) : FVec F S1x100x384 .bf16 :=
  shapeCast S1x100x384
    (truncf .bf16
      (extractStridedSlice S100x384 ![0, 0]
        (transpose S104x384 [1, 0]
          (concatenate S384x104 0
            [⟨S32x104, quot0 (a 0)⟩, ⟨S32x104, quot1 (a 0)⟩, ⟨S32x104, quot0 (a 1)⟩, ⟨S32x104, quot1 (a 1)⟩,
             ⟨S32x104, quot0 (a 2)⟩, ⟨S32x104, quot1 (a 2)⟩, ⟨S32x104, quot0 (a 3)⟩, ⟨S32x104, quot1 (a 3)⟩,
             ⟨S32x104, quot0 (a 4)⟩, ⟨S32x104, quot1 (a 4)⟩, ⟨S32x104, quot0 (a 5)⟩, ⟨S32x104, quot1 (a 5)⟩]
            concatenates_S32x104_S32x104_S32x104_S32x104_S32x104_S32x104_S32x104_S32x104_S32x104_S32x104_S32x104_S32x104_S384x104_d0)
          transposes_S384x104_p1_0_S104x384)
        slices_S104x384_o0_0_S100x384 : FVec F S100x384 .f32)
      bitsLt_bf16_f32 : FVec F S100x384 .bf16)
    shapeCasts_S100x384_S1x100x384

theorem oInb (b : Fin 2) : ∀ a, (![b.val, 0, 0] : Fin 3 → ℕ) a + S1x100x384.size a ≤ S2x100x384.size a := by
  intro a
  fin_cases a
  · show b.val + 1 ≤ 2; omega
  · show 0 + 100 ≤ 100; omega
  · show 0 + 384 ≤ 384; omega

/-- The two stores of result rows, last first. -/
def oPieces (a : Fin 2 → Fin 6 → Vec F S1x1x80x208 .f32) : List (View.Piece (Elt F) S2x100x384 .bf16) :=
  [⟨Rect.unit (s := S2x100x384) ![(1 : Fin 2).val, 0, 0] S1x100x384.size (oInb 1), outRows (a 1)⟩,
   ⟨Rect.unit (s := S2x100x384) ![(0 : Fin 2).val, 0, 0] S1x100x384.size (oInb 0), outRows (a 0)⟩]

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (hc0 : ¬cond0_0 i) (hc1 : cond0_1 i)
  (x0 : Vec F S2x12x32x100 .bf16) (x1 : Vec F S2x12x32x2048 .fp8e4m3) (x2 : Vec F S12x2x2048 .f32)
  (x3 : Vec F S2x12x32x2048 .fp8e4m3) (x4 : Vec F S12x2x2048 .f32) (x5 : Vec F S100x2x2048 .i32)
  (xs0 : Vec F S2x3x416x256 .bf16) (xs1 : Vec F S2x4x64x8x128 .i32)
  (xs4 : Vec F S2x12x104x128 .f32) (xs5 : Vec F S2x6x80x208 .f32)

theorem oStores_C :
    (kernelRun0_C c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5).1
      = oPieces fun b p => arg13.view.readCov
          (aPieces (loadsBC i arg2 harg2 arg3 harg3 arg4 harg4 arg5 harg5 arg8 harg8 arg9 harg9 arg10 arg12 harg12 arg13 harg13
            x1 x2 x3 x4 xs0 xs1 xs4 xs5)
            (tBack arg11.view (loadsBC i arg2 harg2 arg3 harg3 arg4 harg4 arg5 harg5 arg8 harg8 arg9 harg9 arg10 arg12 harg12
              arg13 harg13 x1 x2 x3 x4 xs0 xs1 xs4 xs5)) 12)
          (aoRect b p).toLoadRect := by
  sl_kernel_rfl

end Cert.KernelIdeal.Val

end
-- ==== Proof.StepEnd.lean ====
/- The result rows the last step stores, as quotients of the online softmax's sums. -/
module

public import proofs.«01_k».proof.Proof.StepOut
public import proofs.«01_k».proof.Proof.PiecesC

@[expose] public section

noncomputable section

namespace Cert.KernelIdeal.Val

open Idealize.ShloMosaic Idealize.SL.Sem Idealize.ShloMosaic.Pipeline Cert.KernelIdeal Cert.KernelIdeal.Gen Cert.Softmax

theorem quot0_apply (a : Vec Ideal S1x1x80x208 .f32) (d : Fin 32) (n : Fin 100) :
    (quot0 a (ix2 d (row n)) : EReal) = Ideal.div (a (ix4 0 0 (chan 0 d) (col 0 n))) (a (ix4 0 0 64 (col 0 n))) := by
  unfold quot0
  simp only [pointwise]
  refine congrArg₂ Ideal.div (congrArg a ?_) (congrArg a ?_)
  · refine congrArg₂ (ix4 0 0) (Fin.ext ?_) (Fin.ext ?_)
    · show 0 + d.val = 32 * 0 + d.val; omega
    · show 0 + n.val = 104 * 0 + n.val; omega
  · refine congrArg₂ (ix4 0 0) (Fin.ext ?_) (Fin.ext ?_)
    · rfl
    · show 0 + (0 + n.val) = 104 * 0 + n.val; omega

theorem quot1_apply (a : Vec Ideal S1x1x80x208 .f32) (d : Fin 32) (n : Fin 100) :
    (quot1 a (ix2 d (row n)) : EReal) = Ideal.div (a (ix4 0 0 (chan 1 d) (col 1 n))) (a (ix4 0 0 64 (col 1 n))) := by
  unfold quot1
  simp only [pointwise]
  refine congrArg₂ Ideal.div (congrArg a ?_) (congrArg a ?_)
  · refine congrArg₂ (ix4 0 0) (Fin.ext ?_) (Fin.ext ?_)
    · show 32 + d.val = 32 * 1 + d.val; omega
    · show 104 + n.val = 104 * 1 + n.val; omega
  · refine congrArg₂ (ix4 0 0) (Fin.ext ?_) (Fin.ext ?_)
    · rfl
    · show 0 + (104 + n.val) = 104 * 1 + n.val; omega

/-- A result channel of a pair's head. -/
def lane (p : Fin 6) (e : Fin 2) (d : Fin 32) : Fin 384 := ⟨32 * (2 * p.val + e.val) + d.val, by omega⟩

/-- The piece of twelve of 32 rows an index falls in. -/
theorem pick_twelve (f : Fin 12 → Fin 32 → EReal) (k : Fin 12) (d : Fin 32) (x : ℕ) (hx : x = 32 * k.val + d.val) :
    (if h0 : x < 32 then f 0 ⟨x, h0⟩ else
      if h1 : x - 32 < 32 then f 1 ⟨x - 32, h1⟩ else
      if h2 : x - 32 - 32 < 32 then f 2 ⟨x - 32 - 32, h2⟩ else
      if h3 : x - 32 - 32 - 32 < 32 then f 3 ⟨x - 32 - 32 - 32, h3⟩ else
      if h4 : x - 32 - 32 - 32 - 32 < 32 then f 4 ⟨x - 32 - 32 - 32 - 32, h4⟩ else
      if h5 : x - 32 - 32 - 32 - 32 - 32 < 32 then f 5 ⟨x - 32 - 32 - 32 - 32 - 32, h5⟩ else
      if h6 : x - 32 - 32 - 32 - 32 - 32 - 32 < 32 then f 6 ⟨x - 32 - 32 - 32 - 32 - 32 - 32, h6⟩ else
      if h7 : x - 32 - 32 - 32 - 32 - 32 - 32 - 32 < 32 then f 7 ⟨x - 32 - 32 - 32 - 32 - 32 - 32 - 32, h7⟩ else
      if h8 : x - 32 - 32 - 32 - 32 - 32 - 32 - 32 - 32 < 32 then f 8 ⟨x - 32 - 32 - 32 - 32 - 32 - 32 - 32 - 32, h8⟩ else
      if h9 : x - 32 - 32 - 32 - 32 - 32 - 32 - 32 - 32 - 32 < 32 then f 9 ⟨x - 32 - 32 - 32 - 32 - 32 - 32 - 32 - 32 - 32, h9⟩ else
      if h10 : x - 32 - 32 - 32 - 32 - 32 - 32 - 32 - 32 - 32 - 32 < 32 then f 10 ⟨x - 32 - 32 - 32 - 32 - 32 - 32 - 32 - 32 - 32 - 32, h10⟩ else
      f 11 ⟨x - 32 - 32 - 32 - 32 - 32 - 32 - 32 - 32 - 32 - 32 - 32, by omega⟩) = f k d := by
  obtain ⟨k, hk⟩ := k
  dsimp only at hx
  interval_cases k
  all_goals repeat first | refine (dif_pos (by omega)).trans ?_ | refine (dif_neg (by omega)).trans ?_
  all_goals exact congrArg (f _) (Fin.ext (by dsimp only; omega))

theorem stack_apply (f : Fin 12 → FVec Ideal S32x104 .f32) (k : Fin 12) (d : Fin 32) (r : Fin 104) :
    (concatenate S384x104 0 [⟨S32x104, f 0⟩, ⟨S32x104, f 1⟩, ⟨S32x104, f 2⟩, ⟨S32x104, f 3⟩, ⟨S32x104, f 4⟩, ⟨S32x104, f 5⟩, ⟨S32x104, f 6⟩, ⟨S32x104, f 7⟩, ⟨S32x104, f 8⟩, ⟨S32x104, f 9⟩, ⟨S32x104, f 10⟩, ⟨S32x104, f 11⟩]
      concatenates_S32x104_S32x104_S32x104_S32x104_S32x104_S32x104_S32x104_S32x104_S32x104_S32x104_S32x104_S32x104_S384x104_d0
      (ix2 ⟨32 * k.val + d.val, by omega⟩ r) : EReal) = f k (ix2 d r) := by
  simp only [pointwise]
  exact pick_twelve (fun k d => f k (ix2 d r)) k d _ rfl

theorem rows_apply (C : FVec Ideal S384x104 .f32) (n : Fin 100) (j : Fin 384) :
    (shapeCast S1x100x384
      (truncf .bf16
        (extractStridedSlice S100x384 ![0, 0] (transpose S104x384 [1, 0] C transposes_S384x104_p1_0_S104x384)
          slices_S104x384_o0_0_S100x384 : FVec Ideal S100x384 .f32)
        bitsLt_bf16_f32 : FVec Ideal S100x384 .bf16)
      shapeCasts_S100x384_S1x100x384 (ix3 0 n j) : EReal) = C (ix2 j (row n)) := by
  simp only [pointwise]
  exact congrArg C (congrArg₂ ix2 (Fin.ext (by show 0 + j.val = j.val; omega)) (Fin.ext (by show 0 + n.val = n.val; omega)))

theorem outRows_apply (a : Fin 6 → Vec Ideal S1x1x80x208 .f32) (n : Fin 100) (p : Fin 6) (e : Fin 2) (d : Fin 32) :
    (outRows a (ix3 0 n (lane p e d)) : EReal)
      = Ideal.div (a p (ix4 0 0 (chan e d) (col e n))) (a p (ix4 0 0 64 (col e n))) := by
  refine (rows_apply _ n _).trans ?_
  refine (stack_apply (fun k => if k.val % 2 = 0 then quot0 (a ⟨k.val / 2, by omega⟩) else quot1 (a ⟨k.val / 2, by omega⟩))
    ⟨2 * p.val + e.val, by omega⟩ d (row n)).trans ?_
  have hp : (⟨(2 * p.val + e.val) / 2, by omega⟩ : Fin 6) = p := Fin.ext (by show (2 * p.val + e.val) / 2 = p.val; omega)
  show ((if (2 * p.val + e.val) % 2 = 0 then quot0 (a ⟨(2 * p.val + e.val) / 2, _⟩)
    else quot1 (a ⟨(2 * p.val + e.val) / 2, _⟩)) (ix2 d (row n)) : EReal) = _
  rw [hp]
  obtain rfl | rfl : e = 0 ∨ e = 1 := by omega
  · rw [if_pos (by show (2 * p.val + 0) % 2 = 0; omega)]
    exact quot0_apply (a p) d n
  · rw [if_neg (by show ¬(2 * p.val + 1) % 2 = 0; omega)]
    exact quot1_apply (a p) d n

theorem canon_oPieces (a : Fin 2 → Fin 6 → Vec Ideal S1x1x80x208 .f32) (b : Fin 2) (n : Fin 100) (j : Fin 384) :
    View.canon (oPieces a) (ix3 b n j) = outRows (a b) (ix3 0 n j) := by
  have e : ∀ b : Fin 2, (Rect.unit (s := S2x100x384) ![b.val, 0, 0] S1x100x384.size (oInb b)).emb (ix3 0 n j) = ix3 b n j := by
    intro b
    refine Rect.emb_eq_of_coords _ _ _ fun a => ?_
    match a with
    | ⟨0, _⟩ => show b.val = b.val + 1 * 0; omega
    | ⟨1, _⟩ => show n.val = 0 + 1 * n.val; omega
    | ⟨2, _⟩ => show j.val = 0 + 1 * j.val; omega
  obtain rfl | rfl : b = 0 ∨ b = 1 := by omega
  · unfold oPieces
    rw [View.canon_cons_of_not_mem]
    · rw [← e 0]
      exact View.canon_cons_emb _ _ _ _
    · intro h
      have := ((Rect.mem_set_unit (inb := oInb 1)).mp h) 0
      have : (1 : ℕ) ≤ 0 := this.1
      omega
  · rw [← e 1]
    exact View.canon_cons_emb _ _ _ _

variable (c : Dev nD) (i : grid0.Coords)
  (arg1 : Memref sig .tc .vmem S2x12x32x100 .bf16) (harg1 : arg1.IsWhole)
  (arg2 : Memref sig .tc .vmem S2x12x32x2048 .fp8e4m3) (harg2 : arg2.IsWhole)
  (arg3 : Memref sig .tc .vmem S12x2x2048 .f32) (harg3 : arg3.IsWhole)
  (arg4 : Memref sig .tc .vmem S2x12x32x2048 .fp8e4m3) (harg4 : arg4.IsWhole)
  (arg5 : Memref sig .tc .vmem S12x2x2048 .f32) (harg5 : arg5.IsWhole)
  (arg6 : Memref sig .tc .vmem S100x2x2048 .i32) (harg6 : arg6.IsWhole)
  (arg7 : Memref sig .tc .vmem S2x100x384 .bf16) (harg7 : arg7.IsWhole)
  (arg8 : Memref sig .tc .vmem S2x3x416x256 .bf16) (harg8 : arg8.IsWhole)
  (arg9 : Memref sig .tc .vmem S2x4x64x8x128 .i32) (harg9 : arg9.IsWhole)
  (arg10 : Memref sig .tc .vmem S2x128x2048 .fp8e4m3) (harg10 : arg10.IsWhole)
  (arg11 : Memref sig .tc .vmem S2x416x2048 .f32) (harg11 : arg11.IsWhole)
  (arg12 : Memref sig .tc .vmem S2x12x104x128 .f32) (harg12 : arg12.IsWhole)
  (arg13 : Memref sig .tc .vmem S2x6x80x208 .f32) (harg13 : arg13.IsWhole)
  (x0 : Vec Ideal S2x12x32x100 .bf16) (x1 : Vec Ideal S2x12x32x2048 .fp8e4m3) (x2 : Vec Ideal S12x2x2048 .f32)
  (x3 : Vec Ideal S2x12x32x2048 .fp8e4m3) (x4 : Vec Ideal S12x2x2048 .f32) (x5 : Vec Ideal S100x2x2048 .i32)
  (Q : Fin 2 → Fin 12 → Fin 100 → Fin 32 → EReal) (al : Fin 2 → Fin 100 → ℕ → Bool) (T : ℕ → Blk)
  (xs0 : Vec Ideal S2x3x416x256 .bf16) (xs1 : Vec Ideal S2x4x64x8x128 .i32)
  (xs4 : Vec Ideal S2x12x104x128 .f32) (xs5 : Vec Ideal S2x6x80x208 .f32)

/-- A result of the last step. -/
theorem out_C (hc0 : ¬cond0_0 i) (hc1 : cond0_1 i) (k : ℕ) (H : State Q al T k xs0 xs1 xs4 xs5)
    (hT : T k = blkOf Q al (i 0).val x1 x2 x3 x4) (b : Fin 2) (n : Fin 100) (p : Fin 6) (e : Fin 2) (d : Fin 32) :
    (out0_C_6 c i arg1 harg1 arg2 harg2 arg3 harg3 arg4 harg4 arg5 harg5 arg6 harg6 arg7 harg7 arg8 harg8 arg9 harg9
      arg10 harg10 arg11 harg11 arg12 harg12 arg13 harg13 hc0 hc1 x0 x1 x2 x3 x4 x5 xs0 xs1 xs4 xs5 (ix3 b n (lane p e d)) : EReal)
      = Ideal.div (runSum mStart (fun k => (T k).score b (hp p e) n) (fun k => (T k).val b (hp p e) d) (k + 1))
          (runSum mStart (fun k => (T k).score b (hp p e) n) (fun _ _ => 1) (k + 1)) := by
  obtain ⟨-, n2, n3⟩ := next_BC i arg2 harg2 arg3 harg3 arg4 harg4 arg5 harg5 arg8 harg8 arg9 harg9 arg10 arg11 arg12 harg12
    arg13 harg13 x1 x2 x3 x4 Q al T xs0 xs1 xs4 xs5 k H hT
  refine (congrFun (View.read_writes_junk_eq_canon VO0_6 _) _).trans ?_
  refine (congrFun (congrArg View.canon (oStores_C c i arg1 harg1 arg2 harg2 arg3 harg3 arg4 harg4 arg5 harg5 arg6 harg6 arg7 harg7 arg8 harg8 arg9 harg9
      arg10 harg10 arg11 harg11 arg12 harg12 arg13 harg13
      hc0 hc1 x0 x1 x2 x3 x4 x5 xs0 xs1 xs4 xs5)) _).trans ?_
  refine (canon_oPieces _ b n _).trans ?_
  refine (outRows_apply _ n p e d).trans (congrArg₂ Ideal.div ?_ ?_)
  · exact ((congrFun (View.readCov_eq_canon' arg13.view _ _) _).trans
      (congrArg (View.canon _) (aoIdx b p _ _))).trans (n2 b p e n d)
  · exact ((congrFun (View.readCov_eq_canon' arg13.view _ _) _).trans
      (congrArg (View.canon _) (aoIdx b p _ _))).trans (n3 b p e n)

end Cert.KernelIdeal.Val
-- ==== Proof.HostSide.lean ====
/- What the windows' blocks hold, in terms of the kernel's arguments. -/
module

public import proofs.«01_k».proof.Proof.Gen.KernelIdeal.Frame
public import Idealize.ShloMosaic.Lib.Pipeline.Value
public import Idealize.ShloMosaic.Lib.Pointwise

@[expose] public section

noncomputable section

namespace Cert.KernelIdeal.Val

open Idealize.ShloMosaic Idealize.ShloMosaic.TcCoe Idealize.SL.Sem Idealize.ShloMosaic.Pipeline Cert.KernelIdeal Cert.KernelIdeal.Gen

variable (m : (ℓ : Loc nD τ sig) → Buf (Elt Ideal) ℓ) (c : Dev nD)

theorem V_v0 : V m c main_v0 = transpose S2x12x32x100 [0, 2, 3, 1] (m ((c : Thread nD τ).loc main_arg0)) transposes_S2x100x12x32_S2x12x32x100_0_2_3_1 := by
  simp only [V, hostOps0, StableHlo.after_cons, StableHlo.after_nil]
  rfl

theorem V_v1 : V m c main_v1 = transpose S2x12x32x65536 [0, 2, 3, 1] (m ((c : Thread nD τ).loc main_arg1)) transposes_S2x65536x12x32_S2x12x32x65536_0_2_3_1 := by
  simp only [V, hostOps0, StableHlo.after_cons, StableHlo.after_nil]
  rfl

theorem V_v2 : V m c main_v2 = transpose S2x12x32x65536 [0, 2, 3, 1] (m ((c : Thread nD τ).loc main_arg3)) transposes_S2x65536x12x32_S2x12x32x65536_0_2_3_1 := by
  simp only [V, hostOps0, StableHlo.after_cons, StableHlo.after_nil]
  rfl

theorem V_v3 : V m c main_v3 = transpose S12x2x65536 [2, 0, 1] (m ((c : Thread nD τ).loc main_arg2)) transposes_S2x65536x12_S12x2x65536_2_0_1 := by
  simp only [V, hostOps0, StableHlo.after_cons, StableHlo.after_nil]
  rfl

theorem V_v4 : V m c main_v4 = transpose S12x2x65536 [2, 0, 1] (m ((c : Thread nD τ).loc main_arg4)) transposes_S2x65536x12_S12x2x65536_2_0_1 := by
  simp only [V, hostOps0, StableHlo.after_cons, StableHlo.after_nil]
  rfl

theorem V_v5 : V m c main_v5 = transpose S100x2x2048 [1, 0, 2] (m ((c : Thread nD τ).loc main_arg5)) transposes_S2x100x2048_S100x2x2048_1_0_2 := by
  simp only [V, hostOps0, StableHlo.after_cons, StableHlo.after_nil]
  rfl

theorem N32 (t : Fin cfg0.N) : t.val < 32 := lt_of_lt_of_eq t.isLt (show cfg0.N = 32 from N_0)

theorem coord0 : ∀ t : Fin cfg0.N, (grid0.coords t 0).val = t.val := (by decide +kernel : ∀ t : Fin grid0.N, _)

/-- A pixel of a grid point's block. -/
def pix (t : Fin cfg0.N) (j : Fin 2048) : Fin 65536 := ⟨2048 * t.val + j.val, by have := N32 t; omega⟩

theorem index_0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

theorem iblk_0 (t : Fin cfg0.N) (b : Fin 2) (h : Fin 12) (d : Fin 32) (n : Fin 100) :
    (iblk m c 0 t : Vec Ideal S2x12x32x100 .bf16) (ix4 b h d n) = m ((c : Thread nD τ).loc main_arg0) (ix4 b n h d) := by
  obtain ⟨h0, h1, h2, h3⟩ := index_0 t
  have e : (win0_0.rect t).emb (ix4 b h d n) = ix4 b h d n := by
    funext a
    match a with
    | ⟨0, _⟩ => exact Fin.ext ((Window.rect_emb_val win0_0 t _ (0 : Fin 4)).trans (by
        rw [h0]; show 0 * 2 + b.val = b.val; omega))
    | ⟨1, _⟩ => exact Fin.ext ((Window.rect_emb_val win0_0 t _ (1 : Fin 4)).trans (by
        rw [h1]; show 0 * 12 + h.val = h.val; omega))
    | ⟨2, _⟩ => exact Fin.ext ((Window.rect_emb_val win0_0 t _ (2 : Fin 4)).trans (by
        rw [h2]; show 0 * 32 + d.val = d.val; omega))
    | ⟨3, _⟩ => exact Fin.ext ((Window.rect_emb_val win0_0 t _ (3 : Fin 4)).trans (by
        rw [h3]; show 0 * 100 + n.val = n.val; omega))
  show V m c main_v0 ((win0_0.rect t).emb (ix4 b h d n)) = _
  rw [e, V_v0]
  simp only [pointwise]

theorem index_1 : ∀ t : Fin cfg0.N, win0_1.index t (0 : Fin 4) = 0 ∧ win0_1.index t (1 : Fin 4) = 0 ∧ win0_1.index t (2 : Fin 4) = 0 ∧ win0_1.index t (3 : Fin 4) = t.val :=
  (by decide +kernel : ∀ t : Fin grid0.N, _)

theorem iblk_1 (t : Fin cfg0.N) (b : Fin 2) (h : Fin 12) (d : Fin 32) (j : Fin 2048) :
    (iblk m c 1 t : Vec Ideal S2x12x32x2048 .fp8e4m3) (ix4 b h d j) = m ((c : Thread nD τ).loc main_arg1) (ix4 b (pix t j) h d) := by
  obtain ⟨h0, h1, h2, h3⟩ := index_1 t
  have e : (win0_1.rect t).emb (ix4 b h d j) = ix4 b h d (pix t j) := by
    funext a
    match a with
    | ⟨0, _⟩ => exact Fin.ext ((Window.rect_emb_val win0_1 t _ (0 : Fin 4)).trans (by
        rw [h0]; show 0 * 2 + b.val = b.val; omega))
    | ⟨1, _⟩ => exact Fin.ext ((Window.rect_emb_val win0_1 t _ (1 : Fin 4)).trans (by
        rw [h1]; show 0 * 12 + h.val = h.val; omega))
    | ⟨2, _⟩ => exact Fin.ext ((Window.rect_emb_val win0_1 t _ (2 : Fin 4)).trans (by
        rw [h2]; show 0 * 32 + d.val = d.val; omega))
    | ⟨3, _⟩ => exact Fin.ext ((Window.rect_emb_val win0_1 t _ (3 : Fin 4)).trans (by
        rw [h3]; show t.val * 2048 + j.val = 2048 * t.val + j.val; omega))
  show V m c main_v1 ((win0_1.rect t).emb (ix4 b h d j)) = _
  rw [e, V_v1]
  simp only [pointwise]

theorem index_2 : ∀ t : Fin cfg0.N, win0_2.index t (0 : Fin 3) = 0 ∧ win0_2.index t (1 : Fin 3) = 0 ∧ win0_2.index t (2 : Fin 3) = t.val :=
  (by decide +kernel : ∀ t : Fin grid0.N, _)

theorem iblk_2 (t : Fin cfg0.N) (h : Fin 12) (b : Fin 2) (j : Fin 2048) :
    (iblk m c 2 t : Vec Ideal S12x2x2048 .f32) (ix3 h b j) = m ((c : Thread nD τ).loc main_arg2) (ix3 b (pix t j) h) := by
  obtain ⟨h0, h1, h2⟩ := index_2 t
  have e : (win0_2.rect t).emb (ix3 h b j) = ix3 h b (pix t j) := by
    funext a
    match a with
    | ⟨0, _⟩ => exact Fin.ext ((Window.rect_emb_val win0_2 t _ (0 : Fin 3)).trans (by
        rw [h0]; show 0 * 12 + h.val = h.val; omega))
    | ⟨1, _⟩ => exact Fin.ext ((Window.rect_emb_val win0_2 t _ (1 : Fin 3)).trans (by
        rw [h1]; show 0 * 2 + b.val = b.val; omega))
    | ⟨2, _⟩ => exact Fin.ext ((Window.rect_emb_val win0_2 t _ (2 : Fin 3)).trans (by
        rw [h2]; show t.val * 2048 + j.val = 2048 * t.val + j.val; omega))
  show V m c main_v3 ((win0_2.rect t).emb (ix3 h b j)) = _
  rw [e, V_v3]
  simp only [pointwise]

theorem index_3 : ∀ t : Fin cfg0.N, win0_3.index t (0 : Fin 4) = 0 ∧ win0_3.index t (1 : Fin 4) = 0 ∧ win0_3.index t (2 : Fin 4) = 0 ∧ win0_3.index t (3 : Fin 4) = t.val :=
  (by decide +kernel : ∀ t : Fin grid0.N, _)

theorem iblk_3 (t : Fin cfg0.N) (b : Fin 2) (h : Fin 12) (d : Fin 32) (j : Fin 2048) :
    (iblk m c 3 t : Vec Ideal S2x12x32x2048 .fp8e4m3) (ix4 b h d j) = m ((c : Thread nD τ).loc main_arg3) (ix4 b (pix t j) h d) := by
  obtain ⟨h0, h1, h2, h3⟩ := index_3 t
  have e : (win0_3.rect t).emb (ix4 b h d j) = ix4 b h d (pix t j) := by
    funext a
    match a with
    | ⟨0, _⟩ => exact Fin.ext ((Window.rect_emb_val win0_3 t _ (0 : Fin 4)).trans (by
        rw [h0]; show 0 * 2 + b.val = b.val; omega))
    | ⟨1, _⟩ => exact Fin.ext ((Window.rect_emb_val win0_3 t _ (1 : Fin 4)).trans (by
        rw [h1]; show 0 * 12 + h.val = h.val; omega))
    | ⟨2, _⟩ => exact Fin.ext ((Window.rect_emb_val win0_3 t _ (2 : Fin 4)).trans (by
        rw [h2]; show 0 * 32 + d.val = d.val; omega))
    | ⟨3, _⟩ => exact Fin.ext ((Window.rect_emb_val win0_3 t _ (3 : Fin 4)).trans (by
        rw [h3]; show t.val * 2048 + j.val = 2048 * t.val + j.val; omega))
  show V m c main_v2 ((win0_3.rect t).emb (ix4 b h d j)) = _
  rw [e, V_v2]
  simp only [pointwise]

theorem index_4 : ∀ t : Fin cfg0.N, win0_4.index t (0 : Fin 3) = 0 ∧ win0_4.index t (1 : Fin 3) = 0 ∧ win0_4.index t (2 : Fin 3) = t.val :=
  (by decide +kernel : ∀ t : Fin grid0.N, _)

theorem iblk_4 (t : Fin cfg0.N) (h : Fin 12) (b : Fin 2) (j : Fin 2048) :
    (iblk m c 4 t : Vec Ideal S12x2x2048 .f32) (ix3 h b j) = m ((c : Thread nD τ).loc main_arg4) (ix3 b (pix t j) h) := by
  obtain ⟨h0, h1, h2⟩ := index_4 t
  have e : (win0_4.rect t).emb (ix3 h b j) = ix3 h b (pix t j) := by
    funext a
    match a with
    | ⟨0, _⟩ => exact Fin.ext ((Window.rect_emb_val win0_4 t _ (0 : Fin 3)).trans (by
        rw [h0]; show 0 * 12 + h.val = h.val; omega))
    | ⟨1, _⟩ => exact Fin.ext ((Window.rect_emb_val win0_4 t _ (1 : Fin 3)).trans (by
        rw [h1]; show 0 * 2 + b.val = b.val; omega))
    | ⟨2, _⟩ => exact Fin.ext ((Window.rect_emb_val win0_4 t _ (2 : Fin 3)).trans (by
        rw [h2]; show t.val * 2048 + j.val = 2048 * t.val + j.val; omega))
  show V m c main_v4 ((win0_4.rect t).emb (ix3 h b j)) = _
  rw [e, V_v4]
  simp only [pointwise]

theorem index_5 : ∀ t : Fin cfg0.N, win0_5.index t (0 : Fin 3) = 0 ∧ win0_5.index t (1 : Fin 3) = 0 ∧ win0_5.index t (2 : Fin 3) = 0 :=
  (by decide +kernel : ∀ t : Fin grid0.N, _)

theorem iblk_5 (t : Fin cfg0.N) (n : Fin 100) (b : Fin 2) (j : Fin 2048) :
    (iblk m c 5 t : Vec Ideal S100x2x2048 .i32) (ix3 n b j) = m ((c : Thread nD τ).loc main_arg5) (ix3 b n j) := by
  obtain ⟨h0, h1, h2⟩ := index_5 t
  have e : (win0_5.rect t).emb (ix3 n b j) = ix3 n b j := by
    funext a
    match a with
    | ⟨0, _⟩ => exact Fin.ext ((Window.rect_emb_val win0_5 t _ (0 : Fin 3)).trans (by
        rw [h0]; show 0 * 100 + n.val = n.val; omega))
    | ⟨1, _⟩ => exact Fin.ext ((Window.rect_emb_val win0_5 t _ (1 : Fin 3)).trans (by
        rw [h1]; show 0 * 2 + b.val = b.val; omega))
    | ⟨2, _⟩ => exact Fin.ext ((Window.rect_emb_val win0_5 t _ (2 : Fin 3)).trans (by
        rw [h2]; show 0 * 2048 + j.val = j.val; omega))
  show V m c main_v5 ((win0_5.rect t).emb (ix3 n b j)) = _
  rw [e, V_v5]
  simp only [pointwise]

end Cert.KernelIdeal.Val
-- ==== Proof.Fold.lean ====
/- What the run leaves after each grid step, and the result after the last. -/
module

public import proofs.«01_k».proof.Proof.StepEnd
public import proofs.«01_k».proof.Proof.HostSide
public import proofs.«01_k».proof.Proof.Gen.KernelIdeal.Value

@[expose] public section

noncomputable section

namespace Cert.KernelIdeal.Val

open Idealize.ShloMosaic Idealize.ShloMosaic.TcCoe Idealize.SL.Sem Idealize.ShloMosaic.Pipeline Cert.KernelIdeal Cert.KernelIdeal.Gen
open Cert.Softmax

variable (m : (ℓ : Loc nD τ sig) → Buf (Elt Ideal) ℓ) (c : Dev nD)

/-- A grid point by its number. -/
def pt (k : ℕ) : Fin cfg0.N := ⟨k % 32, lt_of_lt_of_eq (Nat.mod_lt k (by omega)) N_0.symm⟩

theorem pt_val (t : Fin cfg0.N) : pt t.val = t := Fin.ext (Nat.mod_eq_of_lt (N32 t))

/-- The queries, the pixels allowed and the steps' blocks, as the windows hold them. -/
def kQ (b : Fin 2) (h : Fin 12) (n : Fin 100) (d : Fin 32) : EReal := (iblk m c 0 (pt 0) : Vec Ideal S2x12x32x100 .bf16) (ix4 b h d n)
def kA : Fin 2 → Fin 100 → ℕ → Bool := allowed (iblk m c 5 (pt 0))
def kT (k : ℕ) : Blk := blkOf (kQ m c) (kA m c) k (iblk m c 1 (pt k)) (iblk m c 2 (pt k)) (iblk m c 3 (pt k)) (iblk m c 4 (pt k))

theorem kT_at (t : Fin cfg0.N) : kT m c t.val
    = blkOf (kQ m c) (kA m c) (grid0.coords t 0).val (iblk m c 1 t) (iblk m c 2 t) (iblk m c 3 t) (iblk m c 4 t) := by
  unfold kT
  rw [pt_val, coord0]

/-- A step's outputs and scratches hold the state `n` steps leave. -/
def Holds (n : ℕ) (o : Vec Ideal S2x100x384 .bf16 × Vec Ideal S2x3x416x256 .bf16 × Vec Ideal S2x4x64x8x128 .i32
    × Vec Ideal S2x12x104x128 .f32 × Vec Ideal S2x6x80x208 .f32) : Prop :=
  State (kQ m c) (kA m c) (kT m c) n o.2.1 o.2.2.1 o.2.2.2.1 o.2.2.2.2

theorem Holds.of_eq {n : ℕ} {o : Vec Ideal S2x100x384 .bf16 × Vec Ideal S2x3x416x256 .bf16 × Vec Ideal S2x4x64x8x128 .i32
    × Vec Ideal S2x12x104x128 .f32 × Vec Ideal S2x6x80x208 .f32} {a0 a1 a2 a3 a4} (e : o = (a0, a1, a2, a3, a4))
    (h : State (kQ m c) (kA m c) (kT m c) n a1 a2 a3 a4) : Holds m c n o := by
  subst e
  exact h

theorem fst_of_eq {o : Vec Ideal S2x100x384 .bf16 × Vec Ideal S2x3x416x256 .bf16 × Vec Ideal S2x4x64x8x128 .i32
    × Vec Ideal S2x12x104x128 .f32 × Vec Ideal S2x6x80x208 .f32} {a0 a1 a2 a3 a4} (e : o = (a0, a1, a2, a3, a4)) {i} {v : EReal}
    (h : (a0 i : EReal) = v) : (o.1 i : EReal) = v := by
  subst e
  exact h

theorem holds_first (t : Fin cfg0.N) (ht : t = pt 0) (h0 : t.val % 32 = 0) (h1 : ¬t.val % 32 = 31) :
    Holds m c 1 (outsAt0 m c t.val t.isLt) := by
  refine Holds.of_eq m c (outsAt0_A m c t h0 h1) ?_
  have hz : t.val = 0 := by rw [ht]; rfl
  have hT := kT_at m c t
  rw [hz] at hT
  have eQ : kQ m c = fun b h n d => (iblk m c 0 t : Vec Ideal S2x12x32x100 .bf16) (ix4 b h d n) := by rw [ht]; rfl
  have eA : kA m c = allowed (iblk m c 5 t) := by rw [ht]; rfl
  rw [eQ, eA] at hT ⊢
  have h := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (kT m c)
    ((hcond0_0 t).mpr h0) (fun h => h1 ((hcond0_1 t).mp h)) hT
  exact h

theorem holds_next (t : Fin cfg0.N) (h0 : ¬t.val % 32 = 0) (h1 : ¬t.val % 32 = 31)
    (H : Holds m c t.val (outsAt0 m c (t.val - 1) (Nat.lt_of_le_of_lt (Nat.sub_le _ _) t.isLt))) :
    Holds m c (t.val + 1) (outsAt0 m c t.val t.isLt) := by
  refine Holds.of_eq m c (outsAt0_B m c t h0 h1) ?_
  unfold Holds at H
  generalize outsAt0 m c (t.val - 1) _ = o at H ⊢
  have h := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (kQ m c) (kA m c) (kT m c) o.2.1 o.2.2.1 o.2.2.2.1 o.2.2.2.2
    (fun h => h0 ((hcond0_0 t).mp h)) (fun h => h1 ((hcond0_1 t).mp h)) t.val H (kT_at m c t)
  exact h

theorem holds (n : ℕ) (hn : n < cfg0.N) (h31 : n < 31) : Holds m c (n + 1) (outsAt0 m c n hn) := by
  induction n with
  | zero => exact holds_first m c ⟨0, hn⟩ (Fin.ext rfl) rfl (by show ¬(0 : ℕ) % 32 = 31; omega)
  | succ n ih =>
    exact holds_next m c ⟨n + 1, hn⟩ (by show ¬(n + 1) % 32 = 0; omega) (by show ¬(n + 1) % 32 = 31; omega)
      (ih (Nat.lt_of_succ_lt hn) (by omega))

theorem last_step (t : Fin cfg0.N) (h0 : ¬t.val % 32 = 0) (h1 : t.val % 32 = 31)
    (H : Holds m c t.val (outsAt0 m c (t.val - 1) (Nat.lt_of_le_of_lt (Nat.sub_le _ _) t.isLt)))
    (b : Fin 2) (n : Fin 100) (p : Fin 6) (e : Fin 2) (d : Fin 32) :
    ((outsAt0 m c t.val t.isLt).1 (ix3 b n (lane p e d)) : EReal)
      = Ideal.div (runSum mStart (fun k => (kT m c k).score b (hp p e) n) (fun k => (kT m c k).val b (hp p e) d) (t.val + 1))
          (runSum mStart (fun k => (kT m c k).score b (hp p e) n) (fun _ _ => 1) (t.val + 1)) := by
  refine fst_of_eq (outsAt0_C m c t h0 h1) ?_
  unfold Holds at H
  generalize outsAt0 m c (t.val - 1) _ = o at H ⊢
  have h := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (iblk m c 4 t) (iblk m c 5 t) (kQ m c) (kA m c) (kT m c) o.2.1 o.2.2.1 o.2.2.2.1 o.2.2.2.2
    (fun h => h0 ((hcond0_0 t).mp h)) ((hcond0_1 t).mpr h1) t.val H (kT_at m c t) b n p e d
  exact h

theorem last_step_at (k l : ℕ) (hl : l < cfg0.N) (hk : l = k + 1) (h31 : l = 31)
    (b : Fin 2) (n : Fin 100) (p : Fin 6) (e : Fin 2) (d : Fin 32) :
    ((outsAt0 m c l hl).1 (ix3 b n (lane p e d)) : EReal)
      = Ideal.div (runSum mStart (fun k => (kT m c k).score b (hp p e) n) (fun k => (kT m c k).val b (hp p e) d) (l + 1))
          (runSum mStart (fun k => (kT m c k).score b (hp p e) n) (fun _ _ => 1) (l + 1)) := by
  subst hk
  exact last_step m c ⟨k + 1, hl⟩ (by show ¬(k + 1) % 32 = 0; omega) (by show (k + 1) % 32 = 31; omega)
    (holds m c k (Nat.lt_of_succ_lt hl) (by omega)) b n p e d

theorem G6_at (l : ℕ) (hl : l < cfg0.N) (h31 : l = 31) : Value.G6 m c = (outsAt0 m c l hl).1 := by
  have h := congrArg (·.1) (Value.outsAt0_sweep m c l hl)
  refine Eq.trans ?_ h.symm
  subst h31
  exact Value.G6_last m c

theorem G6_apply_at (l : ℕ) (hl : l < cfg0.N) (h31 : l = 31) (b : Fin 2) (n : Fin 100) (p : Fin 6) (e : Fin 2) (d : Fin 32) :
    (Value.G6 m c (ix3 b n (lane p e d)) : EReal)
      = Ideal.div (runSum mStart (fun k => (kT m c k).score b (hp p e) n) (fun k => (kT m c k).val b (hp p e) d) (l + 1))
          (runSum mStart (fun k => (kT m c k).score b (hp p e) n) (fun _ _ => 1) (l + 1)) :=
  (congrFun (G6_at m c l hl h31) _).trans (last_step_at m c 30 l hl h31 h31 b n p e d)

/-- The kernel's result. -/
theorem G6_apply (b : Fin 2) (n : Fin 100) (p : Fin 6) (e : Fin 2) (d : Fin 32) :
    (Value.G6 m c (ix3 b n (lane p e d)) : EReal)
      = Ideal.div (runSum mStart (fun k => (kT m c k).score b (hp p e) n) (fun k => (kT m c k).val b (hp p e) d) 32)
          (runSum mStart (fun k => (kT m c k).score b (hp p e) n) (fun _ _ => 1) 32) :=
  G6_apply_at m c 31 (lt_of_lt_of_eq (by decide) N_0.symm) rfl b n p e d

end Cert.KernelIdeal.Val
-- ==== Proof.RefRun.lean ====
/- The reference run, read: its result as one term over the arguments and what its widening region leaves. -/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 2's): not opened here. -/
def reg_main_v0_0 (c : Dev nD) : Buf (Elt F) ((c.tc : Thread nD τ).loc main_v0_0) := (Gen.dats m 0 c).arrAt 2 cfg0.N
/-- What the kernel region leaves in its result array `main_v0_1` (window 3's): not opened here. -/
def reg_main_v0_1 (c : Dev nD) : Buf (Elt F) ((c.tc : Thread nD τ).loc main_v0_1) := (Gen.dats m 0 c).arrAt 3 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 2
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 3

set_option maxRecDepth 8192 in
/-- `main_v46`'s composed term of the arguments and the region's results (named: it is long). -/
def res_main_v46 (c : Dev nD) : Buf (Elt F) ((c.tc : Thread nD τ).loc main_v46) :=
  truncf .bf16 (shapeCast _ (transpose S2x100x12x32 [0, 2, 1, 3] (Host.divf (Host.dotGeneral dot_S2x12x100x65536_S2x65536x12x32_S2x12x100x32_3_1_2_3_01_02 none (truncf .bf16 (mulf (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (m ((c.tc : Thread nD τ).loc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (m ((c.tc : Thread nD τ).loc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (m ((c.tc : Thread nD τ).loc main_arg0)) (reg_main_v0_0 m c)) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (m ((c.tc : Thread nD τ).loc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (m ((c.tc : Thread nD τ).loc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (m ((c.tc : Thread nD τ).loc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (m ((c.tc : Thread nD τ).loc main_arg0)) (reg_main_v0_0 m c)) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (m ((c.tc : Thread nD τ).loc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (broadcastInDim S2x12x100x65536 ![0, 1, 2, 3] bcast_S2x12x1x65536_S2x12x100x65536_0_1_2_3 (broadcastInDim S2x12x1x65536 ![0, 1, 3] bcast_S2x12x65536_S2x12x1x65536_0_1_3 (transpose S2x12x65536 [0, 2, 1] (m ((c.tc : Thread nD τ).loc main_arg4)) transposes_S2x65536x12_S2x12x65536_0_2_1)))) bitsLt_bf16_f32) (reg_main_v0_1 m c)) (broadcastInDim S2x12x100x32 ![0, 1, 2, 3] bcast_S2x12x100x1_S2x12x100x32_0_1_2_3 (broadcastInDim S2x12x100x1 ![0, 1, 2] bcast_S2x12x100_S2x12x100x1_0_1_2 (Host.reduceAdd (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (m ((c.tc : Thread nD τ).loc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (m ((c.tc : Thread nD τ).loc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (m ((c.tc : Thread nD τ).loc main_arg0)) (reg_main_v0_0 m c)) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (m ((c.tc : Thread nD τ).loc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (m ((c.tc : Thread nD τ).loc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (m ((c.tc : Thread nD τ).loc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (m ((c.tc : Thread nD τ).loc main_arg0)) (reg_main_v0_0 m c)) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (m ((c.tc : Thread nD τ).loc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (constant S_ .f32 0x00000000#32) reducesTo_S2x12x100x65536_S2x12x100_d3 h_S_)))) transposes_S2x12x100x32_S2x100x12x32_0_2_1_3) shapeCasts_S2x100x12x32_S2x100x384) bitsLt_bf16_f32

/-- `res_main_v46` by its position among the values @main returns, 0 counting from 0: the name for hand proofs to cite, since
    a re-print renumbers `main_v46`. An abbreviation: it unfolds to the `res_main_v46` that `run` states. -/
abbrev res_out0 (c : Dev nD) : Buf (Elt F) ((c.tc : Thread nD τ).loc main_v46) := res_main_v46 m c

set_option maxRecDepth 8192 in
set_option maxHeartbeats 2000000 in
/-- The later operations from any contents `V0`, read at result `main_v46`. -/
theorem tail_main_v46 (V0 : Valuation τ sig (Elt F)) :
    after (List.flatten [Gen.hostOps1, Gen.hostOps1_1, Gen.hostOps1_2]) V0 (Proc.devRef .tc main_v46) = truncf .bf16 (shapeCast _ (transpose S2x100x12x32 [0, 2, 1, 3] (Host.divf (Host.dotGeneral dot_S2x12x100x65536_S2x65536x12x32_S2x12x100x32_3_1_2_3_01_02 none (truncf .bf16 (mulf (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (broadcastInDim S2x12x100x65536 ![0, 1, 2, 3] bcast_S2x12x1x65536_S2x12x100x65536_0_1_2_3 (broadcastInDim S2x12x1x65536 ![0, 1, 3] bcast_S2x12x65536_S2x12x1x65536_0_1_3 (transpose S2x12x65536 [0, 2, 1] (V0 (Proc.devRef .tc main_arg4)) transposes_S2x65536x12_S2x12x65536_0_2_1)))) bitsLt_bf16_f32) (V0 (Proc.devRef .tc main_v0_1))) (broadcastInDim S2x12x100x32 ![0, 1, 2, 3] bcast_S2x12x100x1_S2x12x100x32_0_1_2_3 (broadcastInDim S2x12x100x1 ![0, 1, 2] bcast_S2x12x100_S2x12x100x1_0_1_2 (Host.reduceAdd (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (constant S_ .f32 0x00000000#32) reducesTo_S2x12x100x65536_S2x12x100_d3 h_S_)))) transposes_S2x12x100x32_S2x100x12x32_0_2_1_3) shapeCasts_S2x100x12x32_S2x100x384) bitsLt_bf16_f32 := by
  simp only [Gen.hostOps1, Gen.hostOps1_1, Gen.hostOps1_2, TRef.ternary, TRef.unary, TRef.toBuf, TRef.ofBuf, cast_eq, List.flatten_cons, List.flatten_nil, List.append_nil, List.cons_append, List.nil_append]
  after_results_simp <;> rfl
/-- Result `main_v46` after the later operations from the region's exit contents. -/
theorem fin_main_v46 (c : Dev nD) :
    Pipeline.afterTail₀ cfgs (Gen.dats m) 0 (Gen.V0 m) [Gen.hostOps1, Gen.hostOps1_1, Gen.hostOps1_2] c main_v46 = res_main_v46 m c :=
  by unfold res_main_v46; exact (tail_main_v46 (exitV m c)).trans (by rw [exit_main_arg0, exit_main_arg2, exit_main_arg4, exit_main_arg5, exit_main_v0_0, exit_main_v0_1]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v46) = res_main_v46 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v46 (Pipeline.mem_restRefs_of main_v46 (by decide) (by decide))).trans (fin_main_v46 m c),
      ((h c).2 main_arg0 (Pipeline.mem_restRefs_of main_arg0 (by decide) (by decide))).trans (Gen.W_main_arg0 m (Gen.dats m) c),
      ((h c).1 0).trans (((Gen.dats m 0 c).arrAt_in 0 rfl _).trans ((Gen.A_eq m c 0).trans (Gen.V_main_arg1 m c))),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩) (Gen.run_main m ρ)

end Cert.ReferenceIdeal.Value

end
-- ==== Proof.RefRead.lean ====
/- The reference result read operation by operation, each at an index. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %1 = stablehlo.bitcast_convert %arg5 : (tensor<2x100x2048xi32>) -> tensor<2x100x2048xui32>
def val_main_v1 (x5 : (⟨S2x100x2048, .i32⟩ : BufTy).Contents (Elt F)) : (⟨S2x100x2048, .i32⟩ : BufTy).Contents (Elt F) :=
  id (x5)
theorem val_main_v1_apply (x5 : (⟨S2x100x2048, .i32⟩ : BufTy).Contents (Elt F)) (i : S2x100x2048.Idx) :
    val_main_v1 (F := F) x5 i = (x5 i) := rfl

-- %2 = stablehlo.iota dim = 0 : tensor<32xui32>
def val_main_v2 : (⟨S32, .i32⟩ : BufTy).Contents (Elt F) :=
  iotaInDim S32 32 0
theorem val_main_v2_apply (i : S32.Idx) :
    val_main_v2 (F := F) i = BitVec.ofNat 32 (i 0).val := rfl

-- %3 = stablehlo.broadcast_in_dim %1, dims = [0, 1, 2] : (tensor<2x100x2048xui32>) -> tensor<2x100x2048x1xui32>
def val_main_v3 (x5 : (⟨S2x100x2048, .i32⟩ : BufTy).Contents (Elt F)) : (⟨S2x100x2048x1, .i32⟩ : BufTy).Contents (Elt F) :=
  broadcastInDim S2x100x2048x1 ![0, 1, 2] bcast_S2x100x2048_S2x100x2048x1_0_1_2 (val_main_v1 (F := F) x5)
abbrev idx_main_v3 (i : S2x100x2048x1.Idx) : S2x100x2048.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v3_apply (x5 : (⟨S2x100x2048, .i32⟩ : BufTy).Contents (Elt F)) (i : S2x100x2048x1.Idx) :
    val_main_v3 (F := F) x5 i = val_main_v1 (F := F) x5 (idx_main_v3 i) := by
  unfold val_main_v3
  generalize val_main_v1 (F := F) x5 = y
  exact broadcastInDim_apply _ bcast_S2x100x2048_S2x100x2048x1_0_1_2 y i (idx_main_v3 i) (fun a => match a with
    | ⟨0, _⟩ => by show (i 0).val = if (2 : Nat) = 1 then 0 else (i 0).val; rw [if_neg (by decide)]
    | ⟨1, _⟩ => by show (i 1).val = if (100 : Nat) = 1 then 0 else (i 1).val; rw [if_neg (by decide)]
    | ⟨2, _⟩ => by show (i 2).val = if (2048 : Nat) = 1 then 0 else (i 2).val; rw [if_neg (by decide)])

-- %4 = stablehlo.broadcast_in_dim %2, dims = [3] : (tensor<32xui32>) -> tensor<1x1x1x32xui32>
def val_main_v4 : (⟨S1x1x1x32, .i32⟩ : BufTy).Contents (Elt F) :=
  broadcastInDim S1x1x1x32 ![3] bcast_S32_S1x1x1x32_3 (val_main_v2 (F := F))
abbrev idx_main_v4 (i : S1x1x1x32.Idx) : S32.Idx := fun a => match a with
  | ⟨0, _⟩ => ⟨(i 3).val, (i 3).isLt⟩
theorem val_main_v4_apply (i : S1x1x1x32.Idx) :
    val_main_v4 (F := F) i = val_main_v2 (F := F) (idx_main_v4 i) := by
  unfold val_main_v4
  generalize val_main_v2 (F := F) = y
  exact broadcastInDim_apply _ bcast_S32_S1x1x1x32_3 y i (idx_main_v4 i) (fun a => match a with
    | ⟨0, _⟩ => by show (i 3).val = if (32 : Nat) = 1 then 0 else (i 3).val; rw [if_neg (by decide)])

-- %5 = stablehlo.broadcast_in_dim %3, dims = [0, 1, 2, 3] : (tensor<2x100x2048x1xui32>) -> tensor<2x100x2048x32xui32>
def val_main_v5 (x5 : (⟨S2x100x2048, .i32⟩ : BufTy).Contents (Elt F)) : (⟨S2x100x2048x32, .i32⟩ : BufTy).Contents (Elt F) :=
  broadcastInDim S2x100x2048x32 ![0, 1, 2, 3] bcast_S2x100x2048x1_S2x100x2048x32_0_1_2_3 (val_main_v3 (F := F) x5)
abbrev idx_main_v5 (i : S2x100x2048x32.Idx) : S2x100x2048x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v5_apply (x5 : (⟨S2x100x2048, .i32⟩ : BufTy).Contents (Elt F)) (i : S2x100x2048x32.Idx) :
    val_main_v5 (F := F) x5 i = val_main_v3 (F := F) x5 (idx_main_v5 i) := by
  unfold val_main_v5
  generalize val_main_v3 (F := F) x5 = y
  exact broadcastInDim_apply _ bcast_S2x100x2048x1_S2x100x2048x32_0_1_2_3 y i (idx_main_v5 i) (fun a => match a with
    | ⟨0, _⟩ => by show (i 0).val = if (2 : Nat) = 1 then 0 else (i 0).val; rw [if_neg (by decide)]
    | ⟨1, _⟩ => by show (i 1).val = if (100 : Nat) = 1 then 0 else (i 1).val; rw [if_neg (by decide)]
    | ⟨2, _⟩ => by show (i 2).val = if (2048 : Nat) = 1 then 0 else (i 2).val; rw [if_neg (by decide)]
    | ⟨3, _⟩ => by show 0 = if (1 : Nat) = 1 then 0 else (i 3).val; rw [if_pos rfl])

-- %6 = stablehlo.broadcast_in_dim %4, dims = [0, 1, 2, 3] : (tensor<1x1x1x32xui32>) -> tensor<2x100x2048x32xui32>
def val_main_v6 : (⟨S2x100x2048x32, .i32⟩ : BufTy).Contents (Elt F) :=
  broadcastInDim S2x100x2048x32 ![0, 1, 2, 3] bcast_S1x1x1x32_S2x100x2048x32_0_1_2_3 (val_main_v4 (F := F))
abbrev idx_main_v6 (i : S2x100x2048x32.Idx) : S1x1x1x32.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
theorem val_main_v6_apply (i : S2x100x2048x32.Idx) :
    val_main_v6 (F := F) i = val_main_v4 (F := F) (idx_main_v6 i) := by
  unfold val_main_v6
  generalize val_main_v4 (F := F) = y
  exact broadcastInDim_apply _ bcast_S1x1x1x32_S2x100x2048x32_0_1_2_3 y i (idx_main_v6 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (32 : Nat) = 1 then 0 else (i 3).val; rw [if_neg (by decide)])

-- %7 = stablehlo.shift_right_logical %5, %6 : tensor<2x100x2048x32xui32>
def val_main_v7 (x5 : (⟨S2x100x2048, .i32⟩ : BufTy).Contents (Elt F)) : (⟨S2x100x2048x32, .i32⟩ : BufTy).Contents (Elt F) :=
  Host.shrui (val_main_v5 (F := F) x5) (val_main_v6 (F := F))
theorem val_main_v7_apply (x5 : (⟨S2x100x2048, .i32⟩ : BufTy).Contents (Elt F)) (i : S2x100x2048x32.Idx) :
    val_main_v7 (F := F) x5 i = IntOp.shrui .host (val_main_v5 (F := F) x5 i) (val_main_v6 (F := F) i) := rfl

-- %c = stablehlo.constant dense<1> : tensor<ui32>
def val_main_c : (⟨S_, .i32⟩ : BufTy).Contents (Elt F) :=
  constantI S_ 32 1#32
theorem val_main_c_apply (i : S_.Idx) :
    val_main_c (F := F) i = 1#32 := rfl

-- %8 = stablehlo.broadcast_in_dim %c, dims = [] : (tensor<ui32>) -> tensor<2x100x2048x32xui32>
def val_main_v8 : (⟨S2x100x2048x32, .i32⟩ : BufTy).Contents (Elt F) :=
  broadcastInDim S2x100x2048x32 ![] bcast_S_S2x100x2048x32 (val_main_c (F := F))
abbrev idx_main_v8 (i : S2x100x2048x32.Idx) : S_.Idx := fun a => a.elim0
theorem val_main_v8_apply (i : S2x100x2048x32.Idx) :
    val_main_v8 (F := F) i = val_main_c (F := F) (idx_main_v8 i) := by
  unfold val_main_v8
  generalize val_main_c (F := F) = y
  exact broadcastInDim_apply _ bcast_S_S2x100x2048x32 y i (idx_main_v8 i) (fun a => a.elim0)

-- %9 = stablehlo.and %7, %8 : tensor<2x100x2048x32xui32>
def val_main_v9 (x5 : (⟨S2x100x2048, .i32⟩ : BufTy).Contents (Elt F)) : (⟨S2x100x2048x32, .i32⟩ : BufTy).Contents (Elt F) :=
  andi (val_main_v7 (F := F) x5) (val_main_v8 (F := F))
theorem val_main_v9_apply (x5 : (⟨S2x100x2048, .i32⟩ : BufTy).Contents (Elt F)) (i : S2x100x2048x32.Idx) :
    val_main_v9 (F := F) x5 i = IntOp.andi (val_main_v7 (F := F) x5 i) (val_main_v8 (F := F) i) := rfl

-- %c_0 = stablehlo.constant dense<0> : tensor<ui32>
def val_main_c_0 : (⟨S_, .i32⟩ : BufTy).Contents (Elt F) :=
  constantI S_ 32 0#32
theorem val_main_c_0_apply (i : S_.Idx) :
    val_main_c_0 (F := F) i = 0#32 := rfl

-- %10 = stablehlo.broadcast_in_dim %c_0, dims = [] : (tensor<ui32>) -> tensor<2x100x2048x32xui32>
def val_main_v10 : (⟨S2x100x2048x32, .i32⟩ : BufTy).Contents (Elt F) :=
  broadcastInDim S2x100x2048x32 ![] bcast_S_S2x100x2048x32 (val_main_c_0 (F := F))
abbrev idx_main_v10 (i : S2x100x2048x32.Idx) : S_.Idx := fun a => a.elim0
theorem val_main_v10_apply (i : S2x100x2048x32.Idx) :
    val_main_v10 (F := F) i = val_main_c_0 (F := F) (idx_main_v10 i) := by
  unfold val_main_v10
  generalize val_main_c_0 (F := F) = y
  exact broadcastInDim_apply _ bcast_S_S2x100x2048x32 y i (idx_main_v10 i) (fun a => a.elim0)

-- %11 = stablehlo.compare NE, %9, %10, UNSIGNED : (tensor<2x100x2048x32xui32>, tensor<2x100x2048x32xui32>) -> tensor<2x100x2048x32xi1>
def val_main_v11 (x5 : (⟨S2x100x2048, .i32⟩ : BufTy).Contents (Elt F)) : (⟨S2x100x2048x32, .i1⟩ : BufTy).Contents (Elt F) :=
  cmpi .ne (val_main_v9 (F := F) x5) (val_main_v10 (F := F))
theorem val_main_v11_apply (x5 : (⟨S2x100x2048, .i32⟩ : BufTy).Contents (Elt F)) (i : S2x100x2048x32.Idx) :
    val_main_v11 (F := F) x5 i = IntOp.cmpi .ne (val_main_v9 (F := F) x5 i) (val_main_v10 (F := F) i) := rfl

-- %12 = stablehlo.convert %11 : tensor<2x100x2048x32xi1>
def val_main_v12 (x5 : (⟨S2x100x2048, .i32⟩ : BufTy).Contents (Elt F)) : (⟨S2x100x2048x32, .i1⟩ : BufTy).Contents (Elt F) :=
  id (val_main_v11 (F := F) x5)
theorem val_main_v12_apply (x5 : (⟨S2x100x2048, .i32⟩ : BufTy).Contents (Elt F)) (i : S2x100x2048x32.Idx) :
    val_main_v12 (F := F) x5 i = (val_main_v11 (F := F) x5 i) := rfl

-- %13 = stablehlo.reshape %12 : (tensor<2x100x2048x32xi1>) -> tensor<2x100x65536xi1>
def val_main_v13 (x5 : (⟨S2x100x2048, .i32⟩ : BufTy).Contents (Elt F)) : (⟨S2x100x65536, .i1⟩ : BufTy).Contents (Elt F) :=
  shapeCast _ (val_main_v12 (F := F) x5) shapeCasts_S2x100x2048x32_S2x100x65536
set_option backward.proofsInPublic true in
abbrev idx_main_v13 (i : S2x100x65536.Idx) : S2x100x2048x32.Idx := fun a => match a with
  | ⟨0, _⟩ => ⟨(((i 0).val * 100 + (i 1).val) * 65536 + (i 2).val) / 6553600, by have h0 : (i 0).val < 2 := (i 0).isLt; have h1 : (i 1).val < 100 := (i 1).isLt; have h2 : (i 2).val < 65536 := (i 2).isLt; show (((i 0).val * 100 + (i 1).val) * 65536 + (i 2).val) / 6553600 < 2; omega⟩
  | ⟨1, _⟩ => ⟨(((i 0).val * 100 + (i 1).val) * 65536 + (i 2).val) / 65536 % 100, by have h0 : (i 0).val < 2 := (i 0).isLt; have h1 : (i 1).val < 100 := (i 1).isLt; have h2 : (i 2).val < 65536 := (i 2).isLt; show (((i 0).val * 100 + (i 1).val) * 65536 + (i 2).val) / 65536 % 100 < 100; omega⟩
  | ⟨2, _⟩ => ⟨(((i 0).val * 100 + (i 1).val) * 65536 + (i 2).val) / 32 % 2048, by have h0 : (i 0).val < 2 := (i 0).isLt; have h1 : (i 1).val < 100 := (i 1).isLt; have h2 : (i 2).val < 65536 := (i 2).isLt; show (((i 0).val * 100 + (i 1).val) * 65536 + (i 2).val) / 32 % 2048 < 2048; omega⟩
  | ⟨3, _⟩ => ⟨(((i 0).val * 100 + (i 1).val) * 65536 + (i 2).val) % 32, by have h0 : (i 0).val < 2 := (i 0).isLt; have h1 : (i 1).val < 100 := (i 1).isLt; have h2 : (i 2).val < 65536 := (i 2).isLt; show (((i 0).val * 100 + (i 1).val) * 65536 + (i 2).val) % 32 < 32; omega⟩
theorem val_main_v13_apply (x5 : (⟨S2x100x2048, .i32⟩ : BufTy).Contents (Elt F)) (i : S2x100x65536.Idx) :
    val_main_v13 (F := F) x5 i = val_main_v12 (F := F) x5 (idx_main_v13 i) := by
  unfold val_main_v13
  generalize val_main_v12 (F := F) x5 = y
  exact shapeCast_apply y shapeCasts_S2x100x2048x32_S2x100x65536 i (idx_main_v13 i)
    (by rewrite [Shape.rowMajor_val_four, Shape.rowMajor_val_three]; have h0 : (i 0).val < 2 := (i 0).isLt; have h1 : (i 1).val < 100 := (i 1).isLt; have h2 : (i 2).val < 65536 := (i 2).isLt; show (((((i 0).val * 100 + (i 1).val) * 65536 + (i 2).val) / 6553600 * 100 + (((i 0).val * 100 + (i 1).val) * 65536 + (i 2).val) / 65536 % 100) * 2048 + (((i 0).val * 100 + (i 1).val) * 65536 + (i 2).val) / 32 % 2048) * 32 + (((i 0).val * 100 + (i 1).val) * 65536 + (i 2).val) % 32 = ((i 0).val * 100 + (i 1).val) * 65536 + (i 2).val; omega)

-- %c_1 = stablehlo.constant dense<0> : tensor<ui32>
def val_main_c_1 : (⟨S_, .i32⟩ : BufTy).Contents (Elt F) :=
  constantI S_ 32 0#32
theorem val_main_c_1_apply (i : S_.Idx) :
    val_main_c_1 (F := F) i = 0#32 := rfl

-- %14 = stablehlo.broadcast_in_dim %c_1, dims = [] : (tensor<ui32>) -> tensor<2x100x2048xui32>
def val_main_v14 : (⟨S2x100x2048, .i32⟩ : BufTy).Contents (Elt F) :=
  broadcastInDim S2x100x2048 ![] bcast_S_S2x100x2048 (val_main_c_1 (F := F))
abbrev idx_main_v14 (i : S2x100x2048.Idx) : S_.Idx := fun a => a.elim0
theorem val_main_v14_apply (i : S2x100x2048.Idx) :
    val_main_v14 (F := F) i = val_main_c_1 (F := F) (idx_main_v14 i) := by
  unfold val_main_v14
  generalize val_main_c_1 (F := F) = y
  exact broadcastInDim_apply _ bcast_S_S2x100x2048 y i (idx_main_v14 i) (fun a => a.elim0)

-- %15 = stablehlo.compare EQ, %1, %14, UNSIGNED : (tensor<2x100x2048xui32>, tensor<2x100x2048xui32>) -> tensor<2x100x2048xi1>
def val_main_v15 (x5 : (⟨S2x100x2048, .i32⟩ : BufTy).Contents (Elt F)) : (⟨S2x100x2048, .i1⟩ : BufTy).Contents (Elt F) :=
  cmpi .eq (val_main_v1 (F := F) x5) (val_main_v14 (F := F))
theorem val_main_v15_apply (x5 : (⟨S2x100x2048, .i32⟩ : BufTy).Contents (Elt F)) (i : S2x100x2048.Idx) :
    val_main_v15 (F := F) x5 i = IntOp.cmpi .eq (val_main_v1 (F := F) x5 i) (val_main_v14 (F := F) i) := rfl

-- %c_2 = stablehlo.constant dense<true> : tensor<i1>
def val_main_c_2 : (⟨S_, .i1⟩ : BufTy).Contents (Elt F) :=
  constantI S_ 1 1#1
theorem val_main_c_2_apply (i : S_.Idx) :
    val_main_c_2 (F := F) i = 1#1 := rfl

-- %16 = stablehlo.reduce(%15 init: %c_2) applies stablehlo.and across dimensions = [2] : (tensor<2x100x2048xi1>, tensor<i1>) -> tensor<2x100xi1> {
def val_main_v16 (x5 : (⟨S2x100x2048, .i32⟩ : BufTy).Contents (Elt F)) : (⟨S2x100, .i1⟩ : BufTy).Contents (Elt F) :=
  Host.reduce IntOp.andi (val_main_v15 (F := F) x5) (val_main_c_2 (F := F)) reducesTo_S2x100x2048_S2x100_d2 h_S_

-- %17 = stablehlo.broadcast_in_dim %16, dims = [0, 1] : (tensor<2x100xi1>) -> tensor<2x100x1xi1>
def val_main_v17 (x5 : (⟨S2x100x2048, .i32⟩ : BufTy).Contents (Elt F)) : (⟨S2x100x1, .i1⟩ : BufTy).Contents (Elt F) :=
  broadcastInDim S2x100x1 ![0, 1] bcast_S2x100_S2x100x1_0_1 (val_main_v16 (F := F) x5)
abbrev idx_main_v17 (i : S2x100x1.Idx) : S2x100.Idx := fun a => match a with
  | ⟨0, _⟩ => ⟨(i 0).val, (i 0).isLt⟩
  | ⟨1, _⟩ => ⟨(i 1).val, (i 1).isLt⟩
theorem val_main_v17_apply (x5 : (⟨S2x100x2048, .i32⟩ : BufTy).Contents (Elt F)) (i : S2x100x1.Idx) :
    val_main_v17 (F := F) x5 i = val_main_v16 (F := F) x5 (idx_main_v17 i) := by
  unfold val_main_v17
  generalize val_main_v16 (F := F) x5 = y
  exact broadcastInDim_apply _ bcast_S2x100_S2x100x1_0_1 y i (idx_main_v17 i) (fun a => match a with
    | ⟨0, _⟩ => by show (i 0).val = if (2 : Nat) = 1 then 0 else (i 0).val; rw [if_neg (by decide)]
    | ⟨1, _⟩ => by show (i 1).val = if (100 : Nat) = 1 then 0 else (i 1).val; rw [if_neg (by decide)])

-- %18 = stablehlo.broadcast_in_dim %17, dims = [0, 1, 2] : (tensor<2x100x1xi1>) -> tensor<2x100x65536xi1>
def val_main_v18 (x5 : (⟨S2x100x2048, .i32⟩ : BufTy).Contents (Elt F)) : (⟨S2x100x65536, .i1⟩ : BufTy).Contents (Elt F) :=
  broadcastInDim S2x100x65536 ![0, 1, 2] bcast_S2x100x1_S2x100x65536_0_1_2 (val_main_v17 (F := F) x5)
abbrev idx_main_v18 (i : S2x100x65536.Idx) : S2x100x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v18_apply (x5 : (⟨S2x100x2048, .i32⟩ : BufTy).Contents (Elt F)) (i : S2x100x65536.Idx) :
    val_main_v18 (F := F) x5 i = val_main_v17 (F := F) x5 (idx_main_v18 i) := by
  unfold val_main_v18
  generalize val_main_v17 (F := F) x5 = y
  exact broadcastInDim_apply _ bcast_S2x100x1_S2x100x65536_0_1_2 y i (idx_main_v18 i) (fun a => match a with
    | ⟨0, _⟩ => by show (i 0).val = if (2 : Nat) = 1 then 0 else (i 0).val; rw [if_neg (by decide)]
    | ⟨1, _⟩ => by show (i 1).val = if (100 : Nat) = 1 then 0 else (i 1).val; rw [if_neg (by decide)]
    | ⟨2, _⟩ => by show 0 = if (1 : Nat) = 1 then 0 else (i 2).val; rw [if_pos rfl])

-- %19 = stablehlo.or %13, %18 : tensor<2x100x65536xi1>
def val_main_v19 (x5 : (⟨S2x100x2048, .i32⟩ : BufTy).Contents (Elt F)) : (⟨S2x100x65536, .i1⟩ : BufTy).Contents (Elt F) :=
  ori (val_main_v13 (F := F) x5) (val_main_v18 (F := F) x5)
theorem val_main_v19_apply (x5 : (⟨S2x100x2048, .i32⟩ : BufTy).Contents (Elt F)) (i : S2x100x65536.Idx) :
    val_main_v19 (F := F) x5 i = IntOp.ori (val_main_v13 (F := F) x5 i) (val_main_v18 (F := F) x5 i) := rfl

-- %20 = stablehlo.dot_general %arg0, %0#0, batching_dims = [0, 2] x [0, 2], contracting_dims = [3] x [3], precision = [DEFAULT, DEFAULT] : (tensor<2x100x12x32xbf16>, tensor<2x65536x12x32xbf16>) -> tensor<2x12x100x65536xf32>
def val_main_v20 (x0 : (⟨S2x100x12x32, .bf16⟩ : BufTy).Contents (Elt F)) (r0 : (⟨S2x65536x12x32, .bf16⟩ : BufTy).Contents (Elt F)) : (⟨S2x12x100x65536, .f32⟩ : BufTy).Contents (Elt F) :=
  Host.dotGeneral dot_S2x100x12x32_S2x65536x12x32_S2x12x100x65536_3_3_1_1_02_02 none (x0) (r0)
theorem lhs_main_v20_0 (i : S2x12x100x65536.Idx) (q : dot_S2x100x12x32_S2x65536x12x32_S2x12x100x65536_3_3_1_1_02_02.contr.Idx) :
    (dot_S2x100x12x32_S2x65536x12x32_S2x12x100x65536_3_3_1_1_02_02.lhsIdx i q 0).val = (i 0).val := by
  unfold DotDims.lhsIdx
  rw [dif_pos (show (0 : Fin S2x100x12x32.rank) ∈ dot_S2x100x12x32_S2x65536x12x32_S2x12x100x65536_3_3_1_1_02_02.lhsBatch by decide)]
  rfl
theorem lhs_main_v20_1 (i : S2x12x100x65536.Idx) (q : dot_S2x100x12x32_S2x65536x12x32_S2x12x100x65536_3_3_1_1_02_02.contr.Idx) :
    (dot_S2x100x12x32_S2x65536x12x32_S2x12x100x65536_3_3_1_1_02_02.lhsIdx i q 1).val = (i 2).val := by
  unfold DotDims.lhsIdx
  rw [dif_neg (show ¬(1 : Fin S2x100x12x32.rank) ∈ dot_S2x100x12x32_S2x65536x12x32_S2x12x100x65536_3_3_1_1_02_02.lhsBatch by decide), dif_pos (show (1 : Fin S2x100x12x32.rank) ∈ dot_S2x100x12x32_S2x65536x12x32_S2x12x100x65536_3_3_1_1_02_02.lhsNonContracting by decide)]
  rfl
theorem lhs_main_v20_2 (i : S2x12x100x65536.Idx) (q : dot_S2x100x12x32_S2x65536x12x32_S2x12x100x65536_3_3_1_1_02_02.contr.Idx) :
    (dot_S2x100x12x32_S2x65536x12x32_S2x12x100x65536_3_3_1_1_02_02.lhsIdx i q 2).val = (i 1).val := by
  unfold DotDims.lhsIdx
  rw [dif_pos (show (2 : Fin S2x100x12x32.rank) ∈ dot_S2x100x12x32_S2x65536x12x32_S2x12x100x65536_3_3_1_1_02_02.lhsBatch by decide)]
  rfl
theorem lhs_main_v20_3 (i : S2x12x100x65536.Idx) (q : dot_S2x100x12x32_S2x65536x12x32_S2x12x100x65536_3_3_1_1_02_02.contr.Idx) :
    (dot_S2x100x12x32_S2x65536x12x32_S2x12x100x65536_3_3_1_1_02_02.lhsIdx i q 3).val = (q ⟨0, by decide⟩).val :=
  dot_S2x100x12x32_S2x65536x12x32_S2x12x100x65536_3_3_1_1_02_02.lhsIdx_val_of_single rfl i q
theorem rhs_main_v20_0 (i : S2x12x100x65536.Idx) (q : dot_S2x100x12x32_S2x65536x12x32_S2x12x100x65536_3_3_1_1_02_02.contr.Idx) :
    (dot_S2x100x12x32_S2x65536x12x32_S2x12x100x65536_3_3_1_1_02_02.rhsIdx i q 0).val = (i 0).val := by
  unfold DotDims.rhsIdx
  rw [dif_pos (show (0 : Fin S2x65536x12x32.rank) ∈ dot_S2x100x12x32_S2x65536x12x32_S2x12x100x65536_3_3_1_1_02_02.rhsBatch by decide)]
  rfl
theorem rhs_main_v20_1 (i : S2x12x100x65536.Idx) (q : dot_S2x100x12x32_S2x65536x12x32_S2x12x100x65536_3_3_1_1_02_02.contr.Idx) :
    (dot_S2x100x12x32_S2x65536x12x32_S2x12x100x65536_3_3_1_1_02_02.rhsIdx i q 1).val = (i 3).val := by
  unfold DotDims.rhsIdx
  rw [dif_neg (show ¬(1 : Fin S2x65536x12x32.rank) ∈ dot_S2x100x12x32_S2x65536x12x32_S2x12x100x65536_3_3_1_1_02_02.rhsBatch by decide), dif_pos (show (1 : Fin S2x65536x12x32.rank) ∈ dot_S2x100x12x32_S2x65536x12x32_S2x12x100x65536_3_3_1_1_02_02.rhsNonContracting by decide)]
  rfl
theorem rhs_main_v20_2 (i : S2x12x100x65536.Idx) (q : dot_S2x100x12x32_S2x65536x12x32_S2x12x100x65536_3_3_1_1_02_02.contr.Idx) :
    (dot_S2x100x12x32_S2x65536x12x32_S2x12x100x65536_3_3_1_1_02_02.rhsIdx i q 2).val = (i 1).val := by
  unfold DotDims.rhsIdx
  rw [dif_pos (show (2 : Fin S2x65536x12x32.rank) ∈ dot_S2x100x12x32_S2x65536x12x32_S2x12x100x65536_3_3_1_1_02_02.rhsBatch by decide)]
  rfl
theorem rhs_main_v20_3 (i : S2x12x100x65536.Idx) (q : dot_S2x100x12x32_S2x65536x12x32_S2x12x100x65536_3_3_1_1_02_02.contr.Idx) :
    (dot_S2x100x12x32_S2x65536x12x32_S2x12x100x65536_3_3_1_1_02_02.rhsIdx i q 3).val = (q ⟨0, by decide⟩).val :=
  dot_S2x100x12x32_S2x65536x12x32_S2x12x100x65536_3_3_1_1_02_02.rhsIdx_val_of_single rfl i q
abbrev lidx_main_v20 (i : S2x12x100x65536.Idx) (k : Fin 32) : S2x100x12x32.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨k.val, k.isLt⟩
abbrev ridx_main_v20 (i : S2x12x100x65536.Idx) (k : Fin 32) : S2x65536x12x32.Idx := fun a => match a with
  | ⟨0, _⟩ => ⟨(i 0).val, (i 0).isLt⟩
  | ⟨1, _⟩ => ⟨(i 3).val, (i 3).isLt⟩
  | ⟨2, _⟩ => ⟨(i 1).val, (i 1).isLt⟩
  | ⟨3, _⟩ => ⟨k.val, k.isLt⟩
/-- Stated at `F := Ideal`, where the host's `dot_general` is this sum; at a bit-exact instance it is an opaque function of its operands. -/
theorem val_main_v20_apply (x0 : (⟨S2x100x12x32, .bf16⟩ : BufTy).Contents (Elt Ideal)) (r0 : (⟨S2x65536x12x32, .bf16⟩ : BufTy).Contents (Elt Ideal)) (i : S2x12x100x65536.Idx) :
    val_main_v20 (F := Ideal) x0 r0 i = ∑ k : Fin 32, x0 (lidx_main_v20 i k) * r0 (ridx_main_v20 i k) := by
  unfold val_main_v20
  simp only [Host.dotGeneral]
  rw [Ideal.dotGeneral_apply, ← Equiv.sum_comp (ValueIdx.contrEquiv1 dot_S2x100x12x32_S2x65536x12x32_S2x12x100x65536_3_3_1_1_02_02 32 rfl rfl).symm]
  refine Finset.sum_congr rfl fun k _ => ?_
  have hk := ValueIdx.contrEquiv1_symm_val dot_S2x100x12x32_S2x65536x12x32_S2x12x100x65536_3_3_1_1_02_02 32 rfl rfl k
  have el : dot_S2x100x12x32_S2x65536x12x32_S2x12x100x65536_3_3_1_1_02_02.lhsIdx i ((ValueIdx.contrEquiv1 dot_S2x100x12x32_S2x65536x12x32_S2x12x100x65536_3_3_1_1_02_02 32 rfl rfl).symm k) = lidx_main_v20 i k := funext fun a => Fin.ext (by
    match a with
    | ⟨0, _⟩ => exact lhs_main_v20_0 _ _
    | ⟨1, _⟩ => exact lhs_main_v20_1 _ _
    | ⟨2, _⟩ => exact lhs_main_v20_2 _ _
    | ⟨3, _⟩ => exact (lhs_main_v20_3 _ _).trans hk)
  have er : dot_S2x100x12x32_S2x65536x12x32_S2x12x100x65536_3_3_1_1_02_02.rhsIdx i ((ValueIdx.contrEquiv1 dot_S2x100x12x32_S2x65536x12x32_S2x12x100x65536_3_3_1_1_02_02 32 rfl rfl).symm k) = ridx_main_v20 i k := funext fun a => Fin.ext (by
    match a with
    | ⟨0, _⟩ => exact rhs_main_v20_0 _ _
    | ⟨1, _⟩ => exact rhs_main_v20_1 _ _
    | ⟨2, _⟩ => exact rhs_main_v20_2 _ _
    | ⟨3, _⟩ => exact (rhs_main_v20_3 _ _).trans hk)
  rw [el, er]

-- %21 = stablehlo.transpose %arg2, dims = [0, 2, 1] : (tensor<2x65536x12xf32>) -> tensor<2x12x65536xf32>
def val_main_v21 (x2 : (⟨S2x65536x12, .f32⟩ : BufTy).Contents (Elt F)) : (⟨S2x12x65536, .f32⟩ : BufTy).Contents (Elt F) :=
  transpose S2x12x65536 [0, 2, 1] (x2) transposes_S2x65536x12_S2x12x65536_0_2_1
abbrev idx_main_v21 (i : S2x12x65536.Idx) : S2x65536x12.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v21_apply (x2 : (⟨S2x65536x12, .f32⟩ : BufTy).Contents (Elt F)) (i : S2x12x65536.Idx) :
    val_main_v21 (F := F) x2 i = x2 (idx_main_v21 i) := by
  unfold val_main_v21
  exact transpose_apply [0, 2, 1] x2 transposes_S2x65536x12_S2x12x65536_0_2_1 i (idx_main_v21 i) (fun b => match b with
    | ⟨0, _⟩ => rfl
    | ⟨1, _⟩ => rfl
    | ⟨2, _⟩ => rfl)

-- %cst = stablehlo.constant dense<0.176776692> : tensor<f32>
def val_main_cst : (⟨S_, .f32⟩ : BufTy).Contents (Elt F) :=
  constant S_ .f32 0x3E3504F3#32
theorem val_main_cst_apply (i : S_.Idx) :
    val_main_cst (F := F) i = FloatOps.ofBits .f32 0x3E3504F3#32 := rfl

-- %22 = stablehlo.broadcast_in_dim %cst, dims = [] : (tensor<f32>) -> tensor<2x12x65536xf32>
def val_main_v22 : (⟨S2x12x65536, .f32⟩ : BufTy).Contents (Elt F) :=
  broadcastInDim S2x12x65536 ![] bcast_S_S2x12x65536 (val_main_cst (F := F))
abbrev idx_main_v22 (i : S2x12x65536.Idx) : S_.Idx := fun a => a.elim0
theorem val_main_v22_apply (i : S2x12x65536.Idx) :
    val_main_v22 (F := F) i = val_main_cst (F := F) (idx_main_v22 i) := by
  unfold val_main_v22
  generalize val_main_cst (F := F) = y
  exact broadcastInDim_apply _ bcast_S_S2x12x65536 y i (idx_main_v22 i) (fun a => a.elim0)

-- %23 = stablehlo.multiply %21, %22 : tensor<2x12x65536xf32>
def val_main_v23 (x2 : (⟨S2x65536x12, .f32⟩ : BufTy).Contents (Elt F)) : (⟨S2x12x65536, .f32⟩ : BufTy).Contents (Elt F) :=
  mulf (val_main_v21 (F := F) x2) (val_main_v22 (F := F))
theorem val_main_v23_apply (x2 : (⟨S2x65536x12, .f32⟩ : BufTy).Contents (Elt F)) (i : S2x12x65536.Idx) :
    val_main_v23 (F := F) x2 i = FloatOps.mulf (val_main_v21 (F := F) x2 i) (val_main_v22 (F := F) i) := rfl

-- %24 = stablehlo.broadcast_in_dim %23, dims = [0, 1, 3] : (tensor<2x12x65536xf32>) -> tensor<2x12x1x65536xf32>
def val_main_v24 (x2 : (⟨S2x65536x12, .f32⟩ : BufTy).Contents (Elt F)) : (⟨S2x12x1x65536, .f32⟩ : BufTy).Contents (Elt F) :=
  broadcastInDim S2x12x1x65536 ![0, 1, 3] bcast_S2x12x65536_S2x12x1x65536_0_1_3 (val_main_v23 (F := F) x2)
abbrev idx_main_v24 (i : S2x12x1x65536.Idx) : S2x12x65536.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v24_apply (x2 : (⟨S2x65536x12, .f32⟩ : BufTy).Contents (Elt F)) (i : S2x12x1x65536.Idx) :
    val_main_v24 (F := F) x2 i = val_main_v23 (F := F) x2 (idx_main_v24 i) := by
  unfold val_main_v24
  generalize val_main_v23 (F := F) x2 = y
  exact broadcastInDim_apply _ bcast_S2x12x65536_S2x12x1x65536_0_1_3 y i (idx_main_v24 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 3).val = if (65536 : Nat) = 1 then 0 else (i 3).val; rw [if_neg (by decide)])

-- %25 = stablehlo.broadcast_in_dim %24, dims = [0, 1, 2, 3] : (tensor<2x12x1x65536xf32>) -> tensor<2x12x100x65536xf32>
def val_main_v25 (x2 : (⟨S2x65536x12, .f32⟩ : BufTy).Contents (Elt F)) : (⟨S2x12x100x65536, .f32⟩ : BufTy).Contents (Elt F) :=
  broadcastInDim S2x12x100x65536 ![0, 1, 2, 3] bcast_S2x12x1x65536_S2x12x100x65536_0_1_2_3 (val_main_v24 (F := F) x2)
abbrev idx_main_v25 (i : S2x12x100x65536.Idx) : S2x12x1x65536.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v25_apply (x2 : (⟨S2x65536x12, .f32⟩ : BufTy).Contents (Elt F)) (i : S2x12x100x65536.Idx) :
    val_main_v25 (F := F) x2 i = val_main_v24 (F := F) x2 (idx_main_v25 i) := by
  unfold val_main_v25
  generalize val_main_v24 (F := F) x2 = y
  exact broadcastInDim_apply _ bcast_S2x12x1x65536_S2x12x100x65536_0_1_2_3 y i (idx_main_v25 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show 0 = if (1 : Nat) = 1 then 0 else (i 2).val; rw [if_pos rfl]
    | ⟨3, _⟩ => by show (i 3).val = if (65536 : Nat) = 1 then 0 else (i 3).val; rw [if_neg (by decide)])

-- %26 = stablehlo.multiply %20, %25 : tensor<2x12x100x65536xf32>
def val_main_v26 (x0 : (⟨S2x100x12x32, .bf16⟩ : BufTy).Contents (Elt F)) (x2 : (⟨S2x65536x12, .f32⟩ : BufTy).Contents (Elt F)) (r0 : (⟨S2x65536x12x32, .bf16⟩ : BufTy).Contents (Elt F)) : (⟨S2x12x100x65536, .f32⟩ : BufTy).Contents (Elt F) :=
  mulf (val_main_v20 (F := F) x0 r0) (val_main_v25 (F := F) x2)
theorem val_main_v26_apply (x0 : (⟨S2x100x12x32, .bf16⟩ : BufTy).Contents (Elt F)) (x2 : (⟨S2x65536x12, .f32⟩ : BufTy).Contents (Elt F)) (r0 : (⟨S2x65536x12x32, .bf16⟩ : BufTy).Contents (Elt F)) (i : S2x12x100x65536.Idx) :
    val_main_v26 (F := F) x0 x2 r0 i = FloatOps.mulf (val_main_v20 (F := F) x0 r0 i) (val_main_v25 (F := F) x2 i) := rfl

-- %27 = stablehlo.broadcast_in_dim %19, dims = [0, 2, 3] : (tensor<2x100x65536xi1>) -> tensor<2x1x100x65536xi1>
def val_main_v27 (x5 : (⟨S2x100x2048, .i32⟩ : BufTy).Contents (Elt F)) : (⟨S2x1x100x65536, .i1⟩ : BufTy).Contents (Elt F) :=
  broadcastInDim S2x1x100x65536 ![0, 2, 3] bcast_S2x100x65536_S2x1x100x65536_0_2_3 (val_main_v19 (F := F) x5)
abbrev idx_main_v27 (i : S2x1x100x65536.Idx) : S2x100x65536.Idx := fun a => match a with
  | ⟨0, _⟩ => ⟨(i 0).val, (i 0).isLt⟩
  | ⟨1, _⟩ => ⟨(i 2).val, (i 2).isLt⟩
  | ⟨2, _⟩ => ⟨(i 3).val, (i 3).isLt⟩
theorem val_main_v27_apply (x5 : (⟨S2x100x2048, .i32⟩ : BufTy).Contents (Elt F)) (i : S2x1x100x65536.Idx) :
    val_main_v27 (F := F) x5 i = val_main_v19 (F := F) x5 (idx_main_v27 i) := by
  unfold val_main_v27
  generalize val_main_v19 (F := F) x5 = y
  exact broadcastInDim_apply _ bcast_S2x100x65536_S2x1x100x65536_0_2_3 y i (idx_main_v27 i) (fun a => match a with
    | ⟨0, _⟩ => by show (i 0).val = if (2 : Nat) = 1 then 0 else (i 0).val; rw [if_neg (by decide)]
    | ⟨1, _⟩ => by show (i 2).val = if (100 : Nat) = 1 then 0 else (i 2).val; rw [if_neg (by decide)]
    | ⟨2, _⟩ => by show (i 3).val = if (65536 : Nat) = 1 then 0 else (i 3).val; rw [if_neg (by decide)])

-- %cst_3 = stablehlo.constant dense<0xFF800000> : tensor<f32>
def val_main_cst_3 : (⟨S_, .f32⟩ : BufTy).Contents (Elt F) :=
  constant S_ .f32 0xFF800000#32
theorem val_main_cst_3_apply (i : S_.Idx) :
    val_main_cst_3 (F := F) i = FloatOps.ofBits .f32 0xFF800000#32 := rfl

-- @_where's %0 = stablehlo.convert %arg2 : tensor<f32>, in %28 = func.call @_where(…) (record main_call0)
def val_main_call0_v0 : (⟨S_, .f32⟩ : BufTy).Contents (Elt F) :=
  id (val_main_cst_3 (F := F))
theorem val_main_call0_v0_apply (i : S_.Idx) :
    val_main_call0_v0 (F := F) i = (val_main_cst_3 (F := F) i) := rfl

-- @_where's %1 = stablehlo.broadcast_in_dim %arg0, dims = [0, 1, 2, 3] : (tensor<2x1x100x65536xi1>) -> tensor<2x12x100x65536xi1>, in %28 = func.call @_where(…) (record main_call0)
def val_main_call0_v1 (x5 : (⟨S2x100x2048, .i32⟩ : BufTy).Contents (Elt F)) : (⟨S2x12x100x65536, .i1⟩ : BufTy).Contents (Elt F) :=
  broadcastInDim S2x12x100x65536 ![0, 1, 2, 3] bcast_S2x1x100x65536_S2x12x100x65536_0_1_2_3 (val_main_v27 (F := F) x5)
abbrev idx_main_call0_v1 (i : S2x12x100x65536.Idx) : S2x1x100x65536.Idx := fun a => match a with
  | ⟨0, _⟩ => ⟨(i 0).val, (i 0).isLt⟩
  | ⟨1, _⟩ => ⟨0, Nat.one_pos⟩
  | ⟨2, _⟩ => ⟨(i 2).val, (i 2).isLt⟩
  | ⟨3, _⟩ => ⟨(i 3).val, (i 3).isLt⟩
theorem val_main_call0_v1_apply (x5 : (⟨S2x100x2048, .i32⟩ : BufTy).Contents (Elt F)) (i : S2x12x100x65536.Idx) :
    val_main_call0_v1 (F := F) x5 i = val_main_v27 (F := F) x5 (idx_main_call0_v1 i) := by
  unfold val_main_call0_v1
  generalize val_main_v27 (F := F) x5 = y
  exact broadcastInDim_apply _ bcast_S2x1x100x65536_S2x12x100x65536_0_1_2_3 y i (idx_main_call0_v1 i) (fun a => match a with
    | ⟨0, _⟩ => by show (i 0).val = if (2 : Nat) = 1 then 0 else (i 0).val; rw [if_neg (by decide)]
    | ⟨1, _⟩ => by show 0 = if (1 : Nat) = 1 then 0 else (i 1).val; rw [if_pos rfl]
    | ⟨2, _⟩ => by show (i 2).val = if (100 : Nat) = 1 then 0 else (i 2).val; rw [if_neg (by decide)]
    | ⟨3, _⟩ => by show (i 3).val = if (65536 : Nat) = 1 then 0 else (i 3).val; rw [if_neg (by decide)])

-- @_where's %2 = stablehlo.broadcast_in_dim %0, dims = [] : (tensor<f32>) -> tensor<2x12x100x65536xf32>, in %28 = func.call @_where(…) (record main_call0)
def val_main_call0_v2 : (⟨S2x12x100x65536, .f32⟩ : BufTy).Contents (Elt F) :=
  broadcastInDim S2x12x100x65536 ![] bcast_S_S2x12x100x65536 (val_main_call0_v0 (F := F))
abbrev idx_main_call0_v2 (i : S2x12x100x65536.Idx) : S_.Idx := fun a => a.elim0
theorem val_main_call0_v2_apply (i : S2x12x100x65536.Idx) :
    val_main_call0_v2 (F := F) i = val_main_call0_v0 (F := F) (idx_main_call0_v2 i) := by
  unfold val_main_call0_v2
  generalize val_main_call0_v0 (F := F) = y
  exact broadcastInDim_apply _ bcast_S_S2x12x100x65536 y i (idx_main_call0_v2 i) (fun a => a.elim0)

-- %28 = func.call @_where(…) (record main_call0) result 0: @_where's %3 = stablehlo.select %1, %arg1, %2 : tensor<2x12x100x65536xi1>, tensor<2x12x100x65536xf32>
def val_main_v28 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .f32⟩ : BufTy).Contents (Elt F) :=
  select (val_main_call0_v1 (F := F) x5) (val_main_v26 (F := F) x0 x2 r0) (val_main_call0_v2 (F := F))
theorem val_main_v28_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v28 (F := F) x0 x2 x5 r0 i = Scalar.select (val_main_call0_v1 (F := F) x5 i) (val_main_v26 (F := F) x0 x2 r0 i) (val_main_call0_v2 (F := F) i) := rfl

-- %cst_4 = stablehlo.constant dense<0xFF800000> : tensor<f32>
def val_main_cst_4 : (⟨S_, .f32⟩ : BufTy).Contents (Elt F) :=
  constant S_ .f32 0xFF800000#32
theorem val_main_cst_4_apply (i : S_.Idx) :
    val_main_cst_4 (F := F) i = FloatOps.ofBits .f32 0xFF800000#32 := rfl

-- %29 = stablehlo.reduce(%28 init: %cst_4) applies stablehlo.maximum across dimensions = [3] : (tensor<2x12x100x65536xf32>, tensor<f32>) -> tensor<2x12x100xf32> {
def val_main_v29 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100, .f32⟩ : BufTy).Contents (Elt F) :=
  Host.reduce FloatOps.maximumf (val_main_v28 (F := F) x0 x2 x5 r0) (val_main_cst_4 (F := F)) reducesTo_S2x12x100x65536_S2x12x100_d3 h_S_

-- %30 = stablehlo.broadcast_in_dim %29, dims = [0, 1, 2] : (tensor<2x12x100xf32>) -> tensor<2x12x100x1xf32>
def val_main_v30 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x1, .f32⟩ : BufTy).Contents (Elt F) :=
  broadcastInDim S2x12x100x1 ![0, 1, 2] bcast_S2x12x100_S2x12x100x1_0_1_2 (val_main_v29 (F := F) x0 x2 x5 r0)
abbrev idx_main_v30 (i : S2x12x100x1.Idx) : S2x12x100.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v30_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x1.Idx) :
    val_main_v30 (F := F) x0 x2 x5 r0 i = val_main_v29 (F := F) x0 x2 x5 r0 (idx_main_v30 i) := by
  unfold val_main_v30
  generalize val_main_v29 (F := F) x0 x2 x5 r0 = y
  exact broadcastInDim_apply _ bcast_S2x12x100_S2x12x100x1_0_1_2 y i (idx_main_v30 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 2).val = if (100 : Nat) = 1 then 0 else (i 2).val; rw [if_neg (by decide)])

-- %31 = stablehlo.broadcast_in_dim %30, dims = [0, 1, 2, 3] : (tensor<2x12x100x1xf32>) -> tensor<2x12x100x65536xf32>
def val_main_v31 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .f32⟩ : BufTy).Contents (Elt F) :=
  broadcastInDim S2x12x100x65536 ![0, 1, 2, 3] bcast_S2x12x100x1_S2x12x100x65536_0_1_2_3 (val_main_v30 (F := F) x0 x2 x5 r0)
abbrev idx_main_v31 (i : S2x12x100x65536.Idx) : S2x12x100x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v31_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v31 (F := F) x0 x2 x5 r0 i = val_main_v30 (F := F) x0 x2 x5 r0 (idx_main_v31 i) := by
  unfold val_main_v31
  generalize val_main_v30 (F := F) x0 x2 x5 r0 = y
  exact broadcastInDim_apply _ bcast_S2x12x100x1_S2x12x100x65536_0_1_2_3 y i (idx_main_v31 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 2).val = if (100 : Nat) = 1 then 0 else (i 2).val; rw [if_neg (by decide)]
    | ⟨3, _⟩ => by show 0 = if (1 : Nat) = 1 then 0 else (i 3).val; rw [if_pos rfl])

-- %32 = stablehlo.subtract %28, %31 : tensor<2x12x100x65536xf32>
def val_main_v32 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .f32⟩ : BufTy).Contents (Elt F) :=
  subf (val_main_v28 (F := F) x0 x2 x5 r0) (val_main_v31 (F := F) x0 x2 x5 r0)
theorem val_main_v32_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v32 (F := F) x0 x2 x5 r0 i = FloatOps.subf (val_main_v28 (F := F) x0 x2 x5 r0 i) (val_main_v31 (F := F) x0 x2 x5 r0 i) := rfl

-- %33 = stablehlo.exponential %32 : tensor<2x12x100x65536xf32>
def val_main_v33 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .f32⟩ : BufTy).Contents (Elt F) :=
  Host.exp (val_main_v32 (F := F) x0 x2 x5 r0)
theorem val_main_v33_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v33 (F := F) x0 x2 x5 r0 i = FloatOps.hostUnary .exp (val_main_v32 (F := F) x0 x2 x5 r0 i) := rfl

-- %34 = stablehlo.transpose %arg4, dims = [0, 2, 1] : (tensor<2x65536x12xf32>) -> tensor<2x12x65536xf32>
def val_main_v34 (x4 : (⟨S2x65536x12, .f32⟩ : BufTy).Contents (Elt F)) : (⟨S2x12x65536, .f32⟩ : BufTy).Contents (Elt F) :=
  transpose S2x12x65536 [0, 2, 1] (x4) transposes_S2x65536x12_S2x12x65536_0_2_1
abbrev idx_main_v34 (i : S2x12x65536.Idx) : S2x65536x12.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v34_apply (x4 : (⟨S2x65536x12, .f32⟩ : BufTy).Contents (Elt F)) (i : S2x12x65536.Idx) :
    val_main_v34 (F := F) x4 i = x4 (idx_main_v34 i) := by
  unfold val_main_v34
  exact transpose_apply [0, 2, 1] x4 transposes_S2x65536x12_S2x12x65536_0_2_1 i (idx_main_v34 i) (fun b => match b with
    | ⟨0, _⟩ => rfl
    | ⟨1, _⟩ => rfl
    | ⟨2, _⟩ => rfl)

-- %35 = stablehlo.broadcast_in_dim %34, dims = [0, 1, 3] : (tensor<2x12x65536xf32>) -> tensor<2x12x1x65536xf32>
def val_main_v35 (x4 : (⟨S2x65536x12, .f32⟩ : BufTy).Contents (Elt F)) : (⟨S2x12x1x65536, .f32⟩ : BufTy).Contents (Elt F) :=
  broadcastInDim S2x12x1x65536 ![0, 1, 3] bcast_S2x12x65536_S2x12x1x65536_0_1_3 (val_main_v34 (F := F) x4)
abbrev idx_main_v35 (i : S2x12x1x65536.Idx) : S2x12x65536.Idx := fun a => match a with
  | ⟨0, _⟩ => ⟨(i 0).val, (i 0).isLt⟩
  | ⟨1, _⟩ => ⟨(i 1).val, (i 1).isLt⟩
  | ⟨2, _⟩ => ⟨(i 3).val, (i 3).isLt⟩
theorem val_main_v35_apply (x4 : (⟨S2x65536x12, .f32⟩ : BufTy).Contents (Elt F)) (i : S2x12x1x65536.Idx) :
    val_main_v35 (F := F) x4 i = val_main_v34 (F := F) x4 (idx_main_v35 i) := by
  unfold val_main_v35
  generalize val_main_v34 (F := F) x4 = y
  exact broadcastInDim_apply _ bcast_S2x12x65536_S2x12x1x65536_0_1_3 y i (idx_main_v35 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 3).val = if (65536 : Nat) = 1 then 0 else (i 3).val; rw [if_neg (by decide)])

-- %36 = stablehlo.broadcast_in_dim %35, dims = [0, 1, 2, 3] : (tensor<2x12x1x65536xf32>) -> tensor<2x12x100x65536xf32>
def val_main_v36 (x4 : (⟨S2x65536x12, .f32⟩ : BufTy).Contents (Elt F)) : (⟨S2x12x100x65536, .f32⟩ : BufTy).Contents (Elt F) :=
  broadcastInDim S2x12x100x65536 ![0, 1, 2, 3] bcast_S2x12x1x65536_S2x12x100x65536_0_1_2_3 (val_main_v35 (F := F) x4)
abbrev idx_main_v36 (i : S2x12x100x65536.Idx) : S2x12x1x65536.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
theorem val_main_v36_apply (x4 : (⟨S2x65536x12, .f32⟩ : BufTy).Contents (Elt F)) (i : S2x12x100x65536.Idx) :
    val_main_v36 (F := F) x4 i = val_main_v35 (F := F) x4 (idx_main_v36 i) := by
  unfold val_main_v36
  generalize val_main_v35 (F := F) x4 = y
  exact broadcastInDim_apply _ bcast_S2x12x1x65536_S2x12x100x65536_0_1_2_3 y i (idx_main_v36 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show 0 = if (1 : Nat) = 1 then 0 else (i 2).val; rw [if_pos rfl]
    | ⟨3, _⟩ => by show (i 3).val = if (65536 : Nat) = 1 then 0 else (i 3).val; rw [if_neg (by decide)])

-- %37 = stablehlo.multiply %33, %36 : tensor<2x12x100x65536xf32>
def val_main_v37 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .f32⟩ : BufTy).Contents (Elt F) :=
  mulf (val_main_v33 (F := F) x0 x2 x5 r0) (val_main_v36 (F := F) x4)
theorem val_main_v37_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v37 (F := F) x0 x2 x4 x5 r0 i = FloatOps.mulf (val_main_v33 (F := F) x0 x2 x5 r0 i) (val_main_v36 (F := F) x4 i) := rfl

-- %38 = stablehlo.convert %37 : (tensor<2x12x100x65536xf32>) -> tensor<2x12x100x65536xbf16>
def val_main_v38 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x65536, .bf16⟩ : BufTy).Contents (Elt F) :=
  truncf .bf16 (val_main_v37 (F := F) x0 x2 x4 x5 r0) bitsLt_bf16_f32
theorem val_main_v38_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x65536.Idx) :
    val_main_v38 (F := F) x0 x2 x4 x5 r0 i = FloatOps.truncf .bf16 bitsLt_bf16_f32 (val_main_v37 (F := F) x0 x2 x4 x5 r0 i) := rfl

-- %39 = stablehlo.dot_general %38, %0#1, batching_dims = [0, 1] x [0, 2], contracting_dims = [3] x [1], precision = [DEFAULT, DEFAULT] : (tensor<2x12x100x65536xbf16>, tensor<2x65536x12x32xbf16>) -> tensor<2x12x100x32xf32>
def val_main_v39 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) : (⟨S2x12x100x32, .f32⟩ : BufTy).Contents (Elt F) :=
  Host.dotGeneral dot_S2x12x100x65536_S2x65536x12x32_S2x12x100x32_3_1_2_3_01_02 none (val_main_v38 (F := F) x0 x2 x4 x5 r0) (r1)
theorem lhs_main_v39_0 (i : S2x12x100x32.Idx) (q : dot_S2x12x100x65536_S2x65536x12x32_S2x12x100x32_3_1_2_3_01_02.contr.Idx) :
    (dot_S2x12x100x65536_S2x65536x12x32_S2x12x100x32_3_1_2_3_01_02.lhsIdx i q 0).val = (i 0).val := by
  unfold DotDims.lhsIdx
  rw [dif_pos (show (0 : Fin S2x12x100x65536.rank) ∈ dot_S2x12x100x65536_S2x65536x12x32_S2x12x100x32_3_1_2_3_01_02.lhsBatch by decide)]
  rfl
theorem lhs_main_v39_1 (i : S2x12x100x32.Idx) (q : dot_S2x12x100x65536_S2x65536x12x32_S2x12x100x32_3_1_2_3_01_02.contr.Idx) :
    (dot_S2x12x100x65536_S2x65536x12x32_S2x12x100x32_3_1_2_3_01_02.lhsIdx i q 1).val = (i 1).val := by
  unfold DotDims.lhsIdx
  rw [dif_pos (show (1 : Fin S2x12x100x65536.rank) ∈ dot_S2x12x100x65536_S2x65536x12x32_S2x12x100x32_3_1_2_3_01_02.lhsBatch by decide)]
  rfl
theorem lhs_main_v39_2 (i : S2x12x100x32.Idx) (q : dot_S2x12x100x65536_S2x65536x12x32_S2x12x100x32_3_1_2_3_01_02.contr.Idx) :
    (dot_S2x12x100x65536_S2x65536x12x32_S2x12x100x32_3_1_2_3_01_02.lhsIdx i q 2).val = (i 2).val := by
  unfold DotDims.lhsIdx
  rw [dif_neg (show ¬(2 : Fin S2x12x100x65536.rank) ∈ dot_S2x12x100x65536_S2x65536x12x32_S2x12x100x32_3_1_2_3_01_02.lhsBatch by decide), dif_pos (show (2 : Fin S2x12x100x65536.rank) ∈ dot_S2x12x100x65536_S2x65536x12x32_S2x12x100x32_3_1_2_3_01_02.lhsNonContracting by decide)]
  rfl
theorem lhs_main_v39_3 (i : S2x12x100x32.Idx) (q : dot_S2x12x100x65536_S2x65536x12x32_S2x12x100x32_3_1_2_3_01_02.contr.Idx) :
    (dot_S2x12x100x65536_S2x65536x12x32_S2x12x100x32_3_1_2_3_01_02.lhsIdx i q 3).val = (q ⟨0, by decide⟩).val :=
  dot_S2x12x100x65536_S2x65536x12x32_S2x12x100x32_3_1_2_3_01_02.lhsIdx_val_of_single rfl i q
theorem rhs_main_v39_0 (i : S2x12x100x32.Idx) (q : dot_S2x12x100x65536_S2x65536x12x32_S2x12x100x32_3_1_2_3_01_02.contr.Idx) :
    (dot_S2x12x100x65536_S2x65536x12x32_S2x12x100x32_3_1_2_3_01_02.rhsIdx i q 0).val = (i 0).val := by
  unfold DotDims.rhsIdx
  rw [dif_pos (show (0 : Fin S2x65536x12x32.rank) ∈ dot_S2x12x100x65536_S2x65536x12x32_S2x12x100x32_3_1_2_3_01_02.rhsBatch by decide)]
  rfl
theorem rhs_main_v39_1 (i : S2x12x100x32.Idx) (q : dot_S2x12x100x65536_S2x65536x12x32_S2x12x100x32_3_1_2_3_01_02.contr.Idx) :
    (dot_S2x12x100x65536_S2x65536x12x32_S2x12x100x32_3_1_2_3_01_02.rhsIdx i q 1).val = (q ⟨0, by decide⟩).val :=
  dot_S2x12x100x65536_S2x65536x12x32_S2x12x100x32_3_1_2_3_01_02.rhsIdx_val_of_single rfl i q
theorem rhs_main_v39_2 (i : S2x12x100x32.Idx) (q : dot_S2x12x100x65536_S2x65536x12x32_S2x12x100x32_3_1_2_3_01_02.contr.Idx) :
    (dot_S2x12x100x65536_S2x65536x12x32_S2x12x100x32_3_1_2_3_01_02.rhsIdx i q 2).val = (i 1).val := by
  unfold DotDims.rhsIdx
  rw [dif_pos (show (2 : Fin S2x65536x12x32.rank) ∈ dot_S2x12x100x65536_S2x65536x12x32_S2x12x100x32_3_1_2_3_01_02.rhsBatch by decide)]
  rfl
theorem rhs_main_v39_3 (i : S2x12x100x32.Idx) (q : dot_S2x12x100x65536_S2x65536x12x32_S2x12x100x32_3_1_2_3_01_02.contr.Idx) :
    (dot_S2x12x100x65536_S2x65536x12x32_S2x12x100x32_3_1_2_3_01_02.rhsIdx i q 3).val = (i 3).val := by
  unfold DotDims.rhsIdx
  rw [dif_neg (show ¬(3 : Fin S2x65536x12x32.rank) ∈ dot_S2x12x100x65536_S2x65536x12x32_S2x12x100x32_3_1_2_3_01_02.rhsBatch by decide), dif_pos (show (3 : Fin S2x65536x12x32.rank) ∈ dot_S2x12x100x65536_S2x65536x12x32_S2x12x100x32_3_1_2_3_01_02.rhsNonContracting by decide)]
  rfl
abbrev lidx_main_v39 (i : S2x12x100x32.Idx) (k : Fin 65536) : S2x12x100x65536.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
abbrev ridx_main_v39 (i : S2x12x100x32.Idx) (k : Fin 65536) : S2x65536x12x32.Idx := fun a => match a with
  | ⟨0, _⟩ => ⟨(i 0).val, (i 0).isLt⟩
  | ⟨1, _⟩ => ⟨k.val, k.isLt⟩
  | ⟨2, _⟩ => ⟨(i 1).val, (i 1).isLt⟩
  | ⟨3, _⟩ => ⟨(i 3).val, (i 3).isLt⟩
/-- Stated at `F := Ideal`, where the host's `dot_general` is this sum; at a bit-exact instance it is an opaque function of its operands. -/
theorem val_main_v39_apply (x0 : (⟨S2x100x12x32, .bf16⟩ : BufTy).Contents (Elt Ideal)) (x2 x4 : (⟨S2x65536x12, .f32⟩ : BufTy).Contents (Elt Ideal)) (x5 : (⟨S2x100x2048, .i32⟩ : BufTy).Contents (Elt Ideal)) (r0 r1 : (⟨S2x65536x12x32, .bf16⟩ : BufTy).Contents (Elt Ideal)) (i : S2x12x100x32.Idx) :
    val_main_v39 (F := Ideal) x0 x2 x4 x5 r0 r1 i = ∑ k : Fin 65536, (val_main_v38 (F := Ideal) x0 x2 x4 x5 r0) (lidx_main_v39 i k) * r1 (ridx_main_v39 i k) := by
  unfold val_main_v39
  generalize val_main_v38 (F := Ideal) x0 x2 x4 x5 r0 = y0
  simp only [Host.dotGeneral]
  rw [Ideal.dotGeneral_apply, ← Equiv.sum_comp (ValueIdx.contrEquiv1 dot_S2x12x100x65536_S2x65536x12x32_S2x12x100x32_3_1_2_3_01_02 65536 rfl rfl).symm]
  refine Finset.sum_congr rfl fun k _ => ?_
  have hk := ValueIdx.contrEquiv1_symm_val dot_S2x12x100x65536_S2x65536x12x32_S2x12x100x32_3_1_2_3_01_02 65536 rfl rfl k
  have el : dot_S2x12x100x65536_S2x65536x12x32_S2x12x100x32_3_1_2_3_01_02.lhsIdx i ((ValueIdx.contrEquiv1 dot_S2x12x100x65536_S2x65536x12x32_S2x12x100x32_3_1_2_3_01_02 65536 rfl rfl).symm k) = lidx_main_v39 i k := funext fun a => Fin.ext (by
    match a with
    | ⟨0, _⟩ => exact lhs_main_v39_0 _ _
    | ⟨1, _⟩ => exact lhs_main_v39_1 _ _
    | ⟨2, _⟩ => exact lhs_main_v39_2 _ _
    | ⟨3, _⟩ => exact (lhs_main_v39_3 _ _).trans hk)
  have er : dot_S2x12x100x65536_S2x65536x12x32_S2x12x100x32_3_1_2_3_01_02.rhsIdx i ((ValueIdx.contrEquiv1 dot_S2x12x100x65536_S2x65536x12x32_S2x12x100x32_3_1_2_3_01_02 65536 rfl rfl).symm k) = ridx_main_v39 i k := funext fun a => Fin.ext (by
    match a with
    | ⟨0, _⟩ => exact rhs_main_v39_0 _ _
    | ⟨1, _⟩ => exact (rhs_main_v39_1 _ _).trans hk
    | ⟨2, _⟩ => exact rhs_main_v39_2 _ _
    | ⟨3, _⟩ => exact rhs_main_v39_3 _ _)
  rw [el, er]

-- %cst_5 = stablehlo.constant dense<0.000000e+00> : tensor<f32>
def val_main_cst_5 : (⟨S_, .f32⟩ : BufTy).Contents (Elt F) :=
  constant S_ .f32 0x00000000#32
theorem val_main_cst_5_apply (i : S_.Idx) :
    val_main_cst_5 (F := F) i = FloatOps.ofBits .f32 0x00000000#32 := rfl

-- %40 = stablehlo.reduce(%33 init: %cst_5) applies stablehlo.add across dimensions = [3] : (tensor<2x12x100x65536xf32>, tensor<f32>) -> tensor<2x12x100xf32> {
def val_main_v40 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100, .f32⟩ : BufTy).Contents (Elt F) :=
  Host.reduceAdd (val_main_v33 (F := F) x0 x2 x5 r0) (val_main_cst_5 (F := F)) reducesTo_S2x12x100x65536_S2x12x100_d3 h_S_
abbrev idx_main_v40 (i : S2x12x100.Idx) (k : Fin 65536) : S2x12x100x65536.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- Stated at `F := Ideal`, where the host's float sum is this sum; at a bit-exact instance it is an opaque function of its operand. -/
theorem val_main_v40_apply (x0 : (⟨S2x100x12x32, .bf16⟩ : BufTy).Contents (Elt Ideal)) (x2 : (⟨S2x65536x12, .f32⟩ : BufTy).Contents (Elt Ideal)) (x5 : (⟨S2x100x2048, .i32⟩ : BufTy).Contents (Elt Ideal)) (r0 : (⟨S2x65536x12x32, .bf16⟩ : BufTy).Contents (Elt Ideal)) (i : S2x12x100.Idx) :
    val_main_v40 (F := Ideal) x0 x2 x5 r0 i = (val_main_cst_5 (F := Ideal)) (Shape.Idx.first h_S_) + ∑ k : Fin 65536, (val_main_v33 (F := Ideal) x0 x2 x5 r0) (idx_main_v40 i k) := by
  unfold val_main_v40
  generalize val_main_v33 (F := Ideal) x0 x2 x5 r0 = y0
  simp only [Host.reduceAdd, Ideal.hostReduceAdd_def]
  rw [Ideal.hostReduceAdd_single reducesTo_S2x12x100x65536_S2x12x100_d3 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl))

-- %41 = stablehlo.broadcast_in_dim %40, dims = [0, 1, 2] : (tensor<2x12x100xf32>) -> tensor<2x12x100x1xf32>
def val_main_v41 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x1, .f32⟩ : BufTy).Contents (Elt F) :=
  broadcastInDim S2x12x100x1 ![0, 1, 2] bcast_S2x12x100_S2x12x100x1_0_1_2 (val_main_v40 (F := F) x0 x2 x5 r0)
abbrev idx_main_v41 (i : S2x12x100x1.Idx) : S2x12x100.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v41_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x1.Idx) :
    val_main_v41 (F := F) x0 x2 x5 r0 i = val_main_v40 (F := F) x0 x2 x5 r0 (idx_main_v41 i) := by
  unfold val_main_v41
  generalize val_main_v40 (F := F) x0 x2 x5 r0 = y
  exact broadcastInDim_apply _ bcast_S2x12x100_S2x12x100x1_0_1_2 y i (idx_main_v41 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 2).val = if (100 : Nat) = 1 then 0 else (i 2).val; rw [if_neg (by decide)])

-- %42 = stablehlo.broadcast_in_dim %41, dims = [0, 1, 2, 3] : (tensor<2x12x100x1xf32>) -> tensor<2x12x100x32xf32>
def val_main_v42 (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) : (⟨S2x12x100x32, .f32⟩ : BufTy).Contents (Elt F) :=
  broadcastInDim S2x12x100x32 ![0, 1, 2, 3] bcast_S2x12x100x1_S2x12x100x32_0_1_2_3 (val_main_v41 (F := F) x0 x2 x5 r0)
abbrev idx_main_v42 (i : S2x12x100x32.Idx) : S2x12x100x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v42_apply (x0 : (⟨S2x100x12x32, .bf16⟩ : BufTy).Contents (Elt F)) (x2 : (⟨S2x65536x12, .f32⟩ : BufTy).Contents (Elt F)) (x5 : (⟨S2x100x2048, .i32⟩ : BufTy).Contents (Elt F)) (r0 : (⟨S2x65536x12x32, .bf16⟩ : BufTy).Contents (Elt F)) (i : S2x12x100x32.Idx) :
    val_main_v42 (F := F) x0 x2 x5 r0 i = val_main_v41 (F := F) x0 x2 x5 r0 (idx_main_v42 i) := by
  unfold val_main_v42
  generalize val_main_v41 (F := F) x0 x2 x5 r0 = y
  exact broadcastInDim_apply _ bcast_S2x12x100x1_S2x12x100x32_0_1_2_3 y i (idx_main_v42 i) (fun a => match a with
    | ⟨0, _⟩ => by show (i 0).val = if (2 : Nat) = 1 then 0 else (i 0).val; rw [if_neg (by decide)]
    | ⟨1, _⟩ => by show (i 1).val = if (12 : Nat) = 1 then 0 else (i 1).val; rw [if_neg (by decide)]
    | ⟨2, _⟩ => by show (i 2).val = if (100 : Nat) = 1 then 0 else (i 2).val; rw [if_neg (by decide)]
    | ⟨3, _⟩ => by show 0 = if (1 : Nat) = 1 then 0 else (i 3).val; rw [if_pos rfl])

-- %43 = stablehlo.divide %39, %42 : tensor<2x12x100x32xf32>
def val_main_v43 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) : (⟨S2x12x100x32, .f32⟩ : BufTy).Contents (Elt F) :=
  Host.divf (val_main_v39 (F := F) x0 x2 x4 x5 r0 r1) (val_main_v42 (F := F) x0 x2 x5 r0)
theorem val_main_v43_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) (i : S2x12x100x32.Idx) :
    val_main_v43 (F := F) x0 x2 x4 x5 r0 r1 i = FloatOps.hostDivf (val_main_v39 (F := F) x0 x2 x4 x5 r0 r1 i) (val_main_v42 (F := F) x0 x2 x5 r0 i) := rfl

-- %44 = stablehlo.transpose %43, dims = [0, 2, 1, 3] : (tensor<2x12x100x32xf32>) -> tensor<2x100x12x32xf32>
def val_main_v44 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) : (⟨S2x100x12x32, .f32⟩ : BufTy).Contents (Elt F) :=
  transpose S2x100x12x32 [0, 2, 1, 3] (val_main_v43 (F := F) x0 x2 x4 x5 r0 r1) transposes_S2x12x100x32_S2x100x12x32_0_2_1_3
abbrev idx_main_v44 (i : S2x100x12x32.Idx) : S2x12x100x32.Idx := fun a => match a with
  | ⟨0, _⟩ => ⟨(i 0).val, (i 0).isLt⟩
  | ⟨1, _⟩ => ⟨(i 2).val, (i 2).isLt⟩
  | ⟨2, _⟩ => ⟨(i 1).val, (i 1).isLt⟩
  | ⟨3, _⟩ => ⟨(i 3).val, (i 3).isLt⟩
theorem val_main_v44_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) (i : S2x100x12x32.Idx) :
    val_main_v44 (F := F) x0 x2 x4 x5 r0 r1 i = val_main_v43 (F := F) x0 x2 x4 x5 r0 r1 (idx_main_v44 i) := by
  unfold val_main_v44
  generalize val_main_v43 (F := F) x0 x2 x4 x5 r0 r1 = y
  exact transpose_apply [0, 2, 1, 3] y transposes_S2x12x100x32_S2x100x12x32_0_2_1_3 i (idx_main_v44 i) (fun b => match b with
    | ⟨0, _⟩ => rfl
    | ⟨1, _⟩ => rfl
    | ⟨2, _⟩ => rfl
    | ⟨3, _⟩ => rfl)

-- %45 = stablehlo.reshape %44 : (tensor<2x100x12x32xf32>) -> tensor<2x100x384xf32>
def val_main_v45 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) : (⟨S2x100x384, .f32⟩ : BufTy).Contents (Elt F) :=
  shapeCast _ (val_main_v44 (F := F) x0 x2 x4 x5 r0 r1) shapeCasts_S2x100x12x32_S2x100x384
set_option backward.proofsInPublic true in
abbrev idx_main_v45 (i : S2x100x384.Idx) : S2x100x12x32.Idx := fun a => match a with
  | ⟨0, _⟩ => ⟨(((i 0).val * 100 + (i 1).val) * 384 + (i 2).val) / 38400, by have h0 : (i 0).val < 2 := (i 0).isLt; have h1 : (i 1).val < 100 := (i 1).isLt; have h2 : (i 2).val < 384 := (i 2).isLt; show (((i 0).val * 100 + (i 1).val) * 384 + (i 2).val) / 38400 < 2; omega⟩
  | ⟨1, _⟩ => ⟨(((i 0).val * 100 + (i 1).val) * 384 + (i 2).val) / 384 % 100, by have h0 : (i 0).val < 2 := (i 0).isLt; have h1 : (i 1).val < 100 := (i 1).isLt; have h2 : (i 2).val < 384 := (i 2).isLt; show (((i 0).val * 100 + (i 1).val) * 384 + (i 2).val) / 384 % 100 < 100; omega⟩
  | ⟨2, _⟩ => ⟨(((i 0).val * 100 + (i 1).val) * 384 + (i 2).val) / 32 % 12, by have h0 : (i 0).val < 2 := (i 0).isLt; have h1 : (i 1).val < 100 := (i 1).isLt; have h2 : (i 2).val < 384 := (i 2).isLt; show (((i 0).val * 100 + (i 1).val) * 384 + (i 2).val) / 32 % 12 < 12; omega⟩
  | ⟨3, _⟩ => ⟨(((i 0).val * 100 + (i 1).val) * 384 + (i 2).val) % 32, by have h0 : (i 0).val < 2 := (i 0).isLt; have h1 : (i 1).val < 100 := (i 1).isLt; have h2 : (i 2).val < 384 := (i 2).isLt; show (((i 0).val * 100 + (i 1).val) * 384 + (i 2).val) % 32 < 32; omega⟩
theorem val_main_v45_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) (i : S2x100x384.Idx) :
    val_main_v45 (F := F) x0 x2 x4 x5 r0 r1 i = val_main_v44 (F := F) x0 x2 x4 x5 r0 r1 (idx_main_v45 i) := by
  unfold val_main_v45
  generalize val_main_v44 (F := F) x0 x2 x4 x5 r0 r1 = y
  exact shapeCast_apply y shapeCasts_S2x100x12x32_S2x100x384 i (idx_main_v45 i)
    (by rewrite [Shape.rowMajor_val_four, Shape.rowMajor_val_three]; have h0 : (i 0).val < 2 := (i 0).isLt; have h1 : (i 1).val < 100 := (i 1).isLt; have h2 : (i 2).val < 384 := (i 2).isLt; show (((((i 0).val * 100 + (i 1).val) * 384 + (i 2).val) / 38400 * 100 + (((i 0).val * 100 + (i 1).val) * 384 + (i 2).val) / 384 % 100) * 12 + (((i 0).val * 100 + (i 1).val) * 384 + (i 2).val) / 32 % 12) * 32 + (((i 0).val * 100 + (i 1).val) * 384 + (i 2).val) % 32 = ((i 0).val * 100 + (i 1).val) * 384 + (i 2).val; omega)

-- %46 = stablehlo.convert %45 : (tensor<2x100x384xf32>) -> tensor<2x100x384xbf16>
def val_main_v46 (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) : (⟨S2x100x384, .bf16⟩ : BufTy).Contents (Elt F) :=
  truncf .bf16 (val_main_v45 (F := F) x0 x2 x4 x5 r0 r1) bitsLt_bf16_f32
theorem val_main_v46_apply (x0 : (⟨S2x100x12x32, .bf16⟩ : BufTy).Contents (Elt F)) (x2 x4 : (⟨S2x65536x12, .f32⟩ : BufTy).Contents (Elt F)) (x5 : (⟨S2x100x2048, .i32⟩ : BufTy).Contents (Elt F)) (r0 r1 : (⟨S2x65536x12x32, .bf16⟩ : BufTy).Contents (Elt F)) (i : S2x100x384.Idx) :
    val_main_v46 (F := F) x0 x2 x4 x5 r0 r1 i = FloatOps.truncf .bf16 bitsLt_bf16_f32 (val_main_v45 (F := F) x0 x2 x4 x5 r0 r1 i) := rfl

/-- The term the Run module states for `main_v46` over any contents `V0` is the stage. -/
theorem val_main_v46_eq (V0 : Valuation τ sig (Elt F)) :
    truncf .bf16 (shapeCast _ (transpose S2x100x12x32 [0, 2, 1, 3] (Host.divf (Host.dotGeneral dot_S2x12x100x65536_S2x65536x12x32_S2x12x100x32_3_1_2_3_01_02 none (truncf .bf16 (mulf (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (broadcastInDim S2x12x100x65536 ![0, 1, 2, 3] bcast_S2x12x1x65536_S2x12x100x65536_0_1_2_3 (broadcastInDim S2x12x1x65536 ![0, 1, 3] bcast_S2x12x65536_S2x12x1x65536_0_1_3 (transpose S2x12x65536 [0, 2, 1] (V0 (Proc.devRef .tc main_arg4)) transposes_S2x65536x12_S2x12x65536_0_2_1)))) bitsLt_bf16_f32) (V0 (Proc.devRef .tc main_v0_1))) (broadcastInDim S2x12x100x32 ![0, 1, 2, 3] bcast_S2x12x100x1_S2x12x100x32_0_1_2_3 (broadcastInDim S2x12x100x1 ![0, 1, 2] bcast_S2x12x100_S2x12x100x1_0_1_2 (Host.reduceAdd (Host.exp (subf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (broadcastInDim S2x12x100x65536 ![0, 1, 2, 3] bcast_S2x12x100x1_S2x12x100x65536_0_1_2_3 (broadcastInDim S2x12x100x1 ![0, 1, 2] bcast_S2x12x100_S2x12x100x1_0_1_2 (Host.reduce FloatOps.maximumf (select (broadcastInDim S2x12x100x65536 ![0, 1, 2, 3] bcast_S2x1x100x65536_S2x12x100x65536_0_1_2_3 (broadcastInDim S2x1x100x65536 ![0, 2, 3] bcast_S2x100x65536_S2x1x100x65536_0_2_3 (ori (shapeCast _ (id (cmpi .ne (andi (Host.shrui (broadcastInDim S2x100x2048x32 ![0, 1, 2, 3] bcast_S2x100x2048x1_S2x100x2048x32_0_1_2_3 (broadcastInDim S2x100x2048x1 ![0, 1, 2] bcast_S2x100x2048_S2x100x2048x1_0_1_2 (id (V0 (Proc.devRef .tc main_arg5))))) (broadcastInDim S2x100x2048x32 ![0, 1, 2, 3] bcast_S1x1x1x32_S2x100x2048x32_0_1_2_3 (broadcastInDim S1x1x1x32 ![3] bcast_S32_S1x1x1x32_3 (iotaInDim S32 32 0)))) (broadcastInDim S2x100x2048x32 ![] bcast_S_S2x100x2048x32 (constantI S_ 32 1#32))) (broadcastInDim S2x100x2048x32 ![] bcast_S_S2x100x2048x32 (constantI S_ 32 0#32)))) shapeCasts_S2x100x2048x32_S2x100x65536) (broadcastInDim S2x100x65536 ![0, 1, 2] bcast_S2x100x1_S2x100x65536_0_1_2 (broadcastInDim S2x100x1 ![0, 1] bcast_S2x100_S2x100x1_0_1 (Host.reduce IntOp.andi (cmpi .eq (id (V0 (Proc.devRef .tc main_arg5))) (broadcastInDim S2x100x2048 ![] bcast_S_S2x100x2048 (constantI S_ 32 0#32))) (constantI S_ 1 1#1) reducesTo_S2x100x2048_S2x100_d2 h_S_)))))) (mulf (Host.dotGeneral dot_S2x100x12x32_S2x65536x12x32_S2x12x100x65536_3_3_1_1_02_02 none (V0 (Proc.devRef .tc main_arg0)) (V0 (Proc.devRef .tc main_v0_0))) (broadcastInDim S2x12x100x65536 ![0, 1, 2, 3] bcast_S2x12x1x65536_S2x12x100x65536_0_1_2_3 (broadcastInDim S2x12x1x65536 ![0, 1, 3] bcast_S2x12x65536_S2x12x1x65536_0_1_3 (mulf (transpose S2x12x65536 [0, 2, 1] (V0 (Proc.devRef .tc main_arg2)) transposes_S2x65536x12_S2x12x65536_0_2_1) (broadcastInDim S2x12x65536 ![] bcast_S_S2x12x65536 (constant S_ .f32 0x3E3504F3#32)))))) (broadcastInDim S2x12x100x65536 ![] bcast_S_S2x12x100x65536 (id (constant S_ .f32 0xFF800000#32)))) (constant S_ .f32 0xFF800000#32) reducesTo_S2x12x100x65536_S2x12x100_d3 h_S_))))) (constant S_ .f32 0x00000000#32) reducesTo_S2x12x100x65536_S2x12x100_d3 h_S_)))) transposes_S2x12x100x32_S2x100x12x32_0_2_1_3) shapeCasts_S2x100x12x32_S2x100x384) bitsLt_bf16_f32
      = val_main_v46 (F := F) (V0 (Proc.devRef .tc main_arg0)) (V0 (Proc.devRef .tc main_arg2)) (V0 (Proc.devRef .tc main_arg4)) (V0 (Proc.devRef .tc main_arg5)) (V0 (Proc.devRef .tc main_v0_0)) (V0 (Proc.devRef .tc main_v0_1)) := rfl

end Cert.ReferenceIdeal.Read

end
-- ==== Proof.RefMask.lean ====
/- Which pixels the reference allows: a set bit of the mask word, or a row of words that are all zero. -/
module

public import proofs.«01_k».proof.Proof.RefRead
public import proofs.«01_k».proof.Proof.MaskBits

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

/-- The pixel's bit of the row's mask words is set, or the row has no set bit at all. -/
def Allowed (w : Fin 2048 → BitVec 32) (p : Fin 65536) : Prop :=
  (∀ j, w j = 0#32) ∨ (w ⟨p.val / 32, by omega⟩).getLsbD (p.val % 32) = true

/-- The kernel's mask says the same of the same words. -/
theorem allowed_iff (x5 : Vec Ideal Cert.KernelIdeal.S100x2x2048 .i32) (b : Fin 2) (n : Fin 100) (p : Fin 65536) :
    Cert.KernelIdeal.Val.allowed x5 b n p.val = true ↔ Allowed (fun j => x5 (ix3 n b j)) p := by
  have e : (⟨p.val / 32 % 2048, Nat.mod_lt _ (by decide)⟩ : Fin 2048) = ⟨p.val / 32, by omega⟩ := Fin.ext (by
    show p.val / 32 % 2048 = p.val / 32
    omega)
  unfold Cert.KernelIdeal.Val.allowed Allowed
  rw [e]
  simp

theorem fold_andi {ι : Type*} [DecidableEq ι] (s : Finset ι) (f : ι → BitVec 1) :
    s.fold IntOp.andi 1#1 f = 1#1 ↔ ∀ i ∈ s, f i = 1#1 := by
  induction s using Finset.induction_on with
  | empty => simp
  | insert a s ha ih =>
    rw [Finset.fold_insert ha, Finset.forall_mem_insert, ← ih]
    generalize s.fold IntOp.andi 1#1 f = y
    generalize f a = x
    revert x y
    decide

variable (x5 : (⟨S2x100x2048, .i32⟩ : BufTy).Contents (Elt Ideal))

theorem ofBool_eq (x : Bool) : BitVec.ofBool x = 1#1 ↔ x = true := by cases x <;> decide

theorem ori_eq (x y : BitVec 1) : IntOp.ori x y = 1#1 ↔ x = 1#1 ∨ y = 1#1 := by
  revert x y
  decide

theorem v15_iff (i : S2x100x2048.Idx) : val_main_v15 (F := Ideal) x5 i = 1#1 ↔ (x5 i : BitVec 32) = 0#32 := by
  rw [val_main_v15_apply, val_main_v14_apply, val_main_c_1_apply]
  exact (ofBool_eq _).trans beq_iff_eq

/-- The reduction over a row's words: all of them are zero. -/
theorem empty_iff (b : Fin 2) (n : Fin 100) :
    val_main_v16 (F := Ideal) x5 (ix2 b n) = 1#1 ↔ ∀ j : Fin 2048, (x5 (ix3 b n j) : BitVec 32) = 0#32 := by
  unfold val_main_v16
  rw [Host.reduce_eq_fold_single IntOp.andi _ _ reducesTo_S2x100x2048_S2x100_d2 (by decide) h_S_]
  rw [val_main_c_2_apply]
  have e (h : S2x100x2048.Reduces [2] S2x100) (j : Fin 2048) : h.lift (ix2 b n) j = ix3 b n j :=
    funext fun a => Fin.ext (by match a with | ⟨0, _⟩ => rfl | ⟨1, _⟩ => rfl | ⟨2, _⟩ => rfl)
  refine (fold_andi _ _).trans ⟨fun h j => ?_, fun h j _ => ?_⟩
  · have := (v15_iff x5 _).mp (h j (Finset.mem_univ _))
    exact (congrArg x5 (e _ j).symm).trans this
  · exact (v15_iff x5 _).mpr ((congrArg x5 (e _ j)).trans (h j))

/-- A word shifted right by `k` and cut to its lowest bit. -/
theorem shifted_bit (w : BitVec 32) (k : ℕ) (hk : k < 32) :
    IntOp.cmpi .ne (IntOp.andi (IntOp.shrui .host w (BitVec.ofNat 32 k)) 1#32) 0#32 = 1#1 ↔ w.getLsbD k = true := by
  have e : (BitVec.ofNat 32 k).toNat = k := by rw [BitVec.toNat_ofNat]; omega
  unfold IntOp.cmpi IntOp.shrui IntOp.andi
  rw [if_pos (by omega), ofBool_eq]
  show (w >>> (BitVec.ofNat 32 k) &&& 1#32 != 0#32) = true ↔ _
  rw [bne_iff_ne, BitVec.ushiftRight_eq', e]
  constructor
  · intro h
    by_contra hc
    refine h (BitVec.eq_of_getLsbD_eq fun i hi => ?_)
    rw [BitVec.getLsbD_and, BitVec.getLsbD_ushiftRight]
    rcases Nat.eq_zero_or_pos i with rfl | hp
    · simpa using hc
    · have : (1#32).getLsbD i = false := by simp; omega
      rw [this]; simp
  · intro h hc
    have := congrArg (fun v : BitVec 32 => v.getLsbD 0) hc
    simp [BitVec.getLsbD_and, BitVec.getLsbD_ushiftRight, h] at this

/-- The reference's mask at a pixel. -/
theorem v19_iff (b : Fin 2) (n : Fin 100) (p : Fin 65536) :
    val_main_v19 (F := Ideal) x5 (ix3 b n p) = 1#1 ↔ Allowed (fun j => x5 (ix3 b n j)) p := by
  rw [val_main_v19_apply, ori_eq, or_comm]
  refine or_congr ?_ ?_
  · rw [val_main_v18_apply, val_main_v17_apply, ← empty_iff]
    refine iff_of_eq (congrArg (· = 1#1) (congrArg (val_main_v16 (F := Ideal) x5) ?_))
    exact funext fun a => Fin.ext (by match a with | ⟨0, _⟩ => rfl | ⟨1, _⟩ => rfl)
  · rw [val_main_v13_apply, val_main_v12_apply, val_main_v11_apply, val_main_v10_apply, val_main_c_0_apply,
      val_main_v9_apply, val_main_v8_apply, val_main_c_apply, val_main_v7_apply, val_main_v6_apply, val_main_v4_apply,
      val_main_v2_apply, val_main_v5_apply, val_main_v3_apply, val_main_v1_apply]
    have hk : (((ix3 b n p : S2x100x65536.Idx) 0).val * 100 + ((ix3 b n p : S2x100x65536.Idx) 1).val) * 65536
        + ((ix3 b n p : S2x100x65536.Idx) 2).val = (b.val * 100 + n.val) * 65536 + p.val := rfl
    refine (shifted_bit _ _ (Nat.mod_lt _ (by decide))).trans ?_
    have e1 : ((b.val * 100 + n.val) * 65536 + p.val) % 32 = p.val % 32 := by omega
    have e2 : idx_main_v3 (idx_main_v5 (idx_main_v13 (ix3 b n p))) = ix3 b n ⟨p.val / 32, by omega⟩ :=
      funext fun a => Fin.ext (by
        match a with
        | ⟨0, _⟩ => show ((b.val * 100 + n.val) * 65536 + p.val) / 6553600 = b.val; omega
        | ⟨1, _⟩ => show ((b.val * 100 + n.val) * 65536 + p.val) / 65536 % 100 = n.val; omega
        | ⟨2, _⟩ => show ((b.val * 100 + n.val) * 65536 + p.val) / 32 % 2048 = p.val / 32; omega)
    rw [e2]
    refine iff_of_eq (congrArg (fun k => BitVec.getLsbD (x5 (ix3 b n ⟨p.val / 32, by omega⟩) : BitVec 32) k = true) ?_)
    exact e1

end Cert.ReferenceIdeal.Read

end
-- ==== Proof.RefSpec.lean ====
/- The reference result at an element: the quotient of two sums over the pixels. -/
module

public import proofs.«01_k».proof.Proof.RefMask
public import proofs.«01_k».proof.Proof.TileVal

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo
open Classical

/-- The scale the reference gives its scores, `1 / sqrt 32` as a float. -/
def refScale : EReal := Ideal.ofBits .f32 0x3E3504F3#32

/-- A pixel's score in the reference. -/
def refScore (q : Fin 32 → EReal) (k : Fin 65536 → Fin 32 → EReal) (ks : Fin 65536 → EReal) (al : Fin 65536 → Prop)
    (p : Fin 65536) : EReal :=
  if al p then (∑ d, q d * k p d) * (ks p * refScale) else ⊥

variable (x0 : (⟨S2x100x12x32, .bf16⟩ : BufTy).Contents (Elt Ideal)) (x2 x4 : (⟨S2x65536x12, .f32⟩ : BufTy).Contents (Elt Ideal))
  (x5 : (⟨S2x100x2048, .i32⟩ : BufTy).Contents (Elt Ideal)) (r0 r1 : (⟨S2x65536x12x32, .bf16⟩ : BufTy).Contents (Elt Ideal))

/-- The scores of one head and one query. -/
def scoreAt (b : Fin 2) (h : Fin 12) (n : Fin 100) : Fin 65536 → EReal :=
  refScore (fun d => x0 (ix4 b n h d)) (fun p d => r0 (ix4 b p h d)) (fun p => x2 (ix3 b p h))
    (Allowed fun j => x5 (ix3 b n j))

theorem v26_at (b : Fin 2) (h : Fin 12) (n : Fin 100) (p : Fin 65536) :
    (val_main_v26 (F := Ideal) x0 x2 r0 (ix4 b h n p) : EReal)
      = (∑ d : Fin 32, (x0 (ix4 b n h d) : EReal) * r0 (ix4 b p h d)) * ((x2 (ix3 b p h) : EReal) * refScale) := by
  rw [val_main_v26_apply, val_main_v20_apply, val_main_v25_apply, val_main_v24_apply, val_main_v23_apply, val_main_v22_apply,
    val_main_v21_apply, val_main_cst_apply]
  refine congrArg₂ (fun x y : EReal => x * y) (Finset.sum_congr rfl fun d _ => ?_) ?_
  · refine congrArg₂ (fun x y : EReal => x * y) (congrArg x0 (funext fun a => Fin.ext ?_)) (congrArg r0 (funext fun a => Fin.ext ?_))
    · match a with | ⟨0, _⟩ => rfl | ⟨1, _⟩ => rfl | ⟨2, _⟩ => rfl | ⟨3, _⟩ => rfl
    · match a with | ⟨0, _⟩ => rfl | ⟨1, _⟩ => rfl | ⟨2, _⟩ => rfl | ⟨3, _⟩ => rfl
  · refine congrArg (fun x : EReal => x * refScale) (congrArg x2 (funext fun a => Fin.ext ?_))
    match a with | ⟨0, _⟩ => rfl | ⟨1, _⟩ => rfl | ⟨2, _⟩ => rfl

/-- The masked score. -/
theorem v28_at (b : Fin 2) (h : Fin 12) (n : Fin 100) (p : Fin 65536) :
    (val_main_v28 (F := Ideal) x0 x2 x5 r0 (ix4 b h n p) : EReal) = scoreAt x0 x2 x5 r0 b h n p := by
  have hc : val_main_call0_v1 (F := Ideal) x5 (ix4 b h n p) = val_main_v19 (F := Ideal) x5 (ix3 b n p) := by
    rw [val_main_call0_v1_apply, val_main_v27_apply]
    refine congrArg (val_main_v19 (F := Ideal) x5) (funext fun a => Fin.ext ?_)
    match a with | ⟨0, _⟩ => rfl | ⟨1, _⟩ => rfl | ⟨2, _⟩ => rfl
  have hz : (val_main_call0_v2 (F := Ideal) (ix4 b h n p) : EReal) = ⊥ := by
    rw [val_main_call0_v2_apply, val_main_call0_v0_apply, val_main_cst_3_apply]
    exact Cert.KernelIdeal.Val.ofBits_neg_inf
  rw [val_main_v28_apply, hc, v26_at, hz]
  unfold Scalar.select scoreAt refScore
  exact if_congr (v19_iff x5 b n p) rfl rfl

/-- The greatest score. -/
theorem v29_at (b : Fin 2) (h : Fin 12) (n : Fin 100) :
    (val_main_v29 (F := Ideal) x0 x2 x5 r0 (ix3 b h n) : EReal) = Finset.univ.sup (scoreAt x0 x2 x5 r0 b h n) := by
  unfold val_main_v29
  rw [Host.reduce_eq_fold_single FloatOps.maximumf _ _ reducesTo_S2x12x100x65536_S2x12x100_d3 (by decide) h_S_]
  have e (g : S2x12x100x65536.Reduces [3] S2x12x100) (p : Fin 65536) : g.lift (ix3 b h n) p = ix4 b h n p :=
    funext fun a => Fin.ext (by match a with | ⟨0, _⟩ => rfl | ⟨1, _⟩ => rfl | ⟨2, _⟩ => rfl | ⟨3, _⟩ => rfl)
  have hz : (val_main_cst_4 (F := Ideal) (Shape.Idx.first h_S_) : EReal) = ⊥ := by
    rw [val_main_cst_4_apply]
    exact Cert.KernelIdeal.Val.ofBits_neg_inf
  have hf (g : S2x12x100x65536.Reduces [3] S2x12x100) :
      (fun p : Fin 65536 => val_main_v28 (F := Ideal) x0 x2 x5 r0 (g.lift (ix3 b h n) p)) = scoreAt x0 x2 x5 r0 b h n :=
    funext fun p => (congrArg (val_main_v28 (F := Ideal) x0 x2 x5 r0) (e g p)).trans (v28_at x0 x2 x5 r0 b h n p)
  refine Eq.trans ?_ (congrArg (fun g : Fin 65536 → EReal => Finset.univ.sup g) (hf (by decide)))
  rw [hz]
  rfl

/-- The weight of a pixel. -/
theorem v33_at (b : Fin 2) (h : Fin 12) (n : Fin 100) (p : Fin 65536) :
    (val_main_v33 (F := Ideal) x0 x2 x5 r0 (ix4 b h n p) : EReal)
      = Ideal.exp (scoreAt x0 x2 x5 r0 b h n p - Finset.univ.sup (scoreAt x0 x2 x5 r0 b h n)) := by
  have hm : (val_main_v31 (F := Ideal) x0 x2 x5 r0 (ix4 b h n p) : EReal) = Finset.univ.sup (scoreAt x0 x2 x5 r0 b h n) := by
    rw [val_main_v31_apply, val_main_v30_apply, ← v29_at]
    refine congrArg (val_main_v29 (F := Ideal) x0 x2 x5 r0) (funext fun a => Fin.ext ?_)
    match a with | ⟨0, _⟩ => rfl | ⟨1, _⟩ => rfl | ⟨2, _⟩ => rfl
  rw [val_main_v33_apply, val_main_v32_apply, hm, v28_at]
  rfl

/-- The weighted values summed over the pixels. -/
theorem v39_at (b : Fin 2) (h : Fin 12) (n : Fin 100) (d : Fin 32) :
    (val_main_v39 (F := Ideal) x0 x2 x4 x5 r0 r1 (ix4 b h n d) : EReal)
      = ∑ p : Fin 65536, (Ideal.exp (scoreAt x0 x2 x5 r0 b h n p - Finset.univ.sup (scoreAt x0 x2 x5 r0 b h n))
          * (x4 (ix3 b p h) : EReal)) * r1 (ix4 b p h d) := by
  rw [val_main_v39_apply]
  refine Finset.sum_congr rfl fun p _ => ?_
  refine congrArg₂ (fun x y : EReal => x * y) ?_ (congrArg r1 (funext fun a => Fin.ext ?_))
  · have hi : lidx_main_v39 (ix4 b h n d) p = ix4 b h n p := funext fun a => Fin.ext (by
      match a with | ⟨0, _⟩ => rfl | ⟨1, _⟩ => rfl | ⟨2, _⟩ => rfl | ⟨3, _⟩ => rfl)
    have hv : (val_main_v36 (F := Ideal) x4 (ix4 b h n p) : EReal) = x4 (ix3 b p h) := by
      rw [val_main_v36_apply, val_main_v35_apply, val_main_v34_apply]
      refine congrArg x4 (funext fun a => Fin.ext ?_)
      match a with | ⟨0, _⟩ => rfl | ⟨1, _⟩ => rfl | ⟨2, _⟩ => rfl
    rw [hi, val_main_v38_apply, val_main_v37_apply, hv, v33_at]
    rfl
  · match a with | ⟨0, _⟩ => rfl | ⟨1, _⟩ => rfl | ⟨2, _⟩ => rfl | ⟨3, _⟩ => rfl

/-- The weights summed over the pixels. -/
theorem v42_at (b : Fin 2) (h : Fin 12) (n : Fin 100) (d : Fin 32) :
    (val_main_v42 (F := Ideal) x0 x2 x5 r0 (ix4 b h n d) : EReal)
      = ∑ p : Fin 65536, Ideal.exp (scoreAt x0 x2 x5 r0 b h n p - Finset.univ.sup (scoreAt x0 x2 x5 r0 b h n)) := by
  rw [val_main_v42_apply, val_main_v41_apply, val_main_v40_apply, val_main_cst_5_apply]
  have hz : (FloatOps.ofBits (F := Ideal) .f32 0x00000000#32 : EReal) = 0 := Ideal.ofBits_zero_f32
  refine (congrArg₂ (fun x y : EReal => x + y) hz (Finset.sum_congr rfl fun p _ => ?_)).trans (zero_add _)
  refine Eq.trans (congrArg (val_main_v33 (F := Ideal) x0 x2 x5 r0) (funext fun a => Fin.ext ?_)) (v33_at x0 x2 x5 r0 b h n p)
  match a with | ⟨0, _⟩ => rfl | ⟨1, _⟩ => rfl | ⟨2, _⟩ => rfl | ⟨3, _⟩ => rfl

/-- The reference result at a query and a lane of a head. -/
theorem v46_at (b : Fin 2) (n : Fin 100) (h : Fin 12) (d : Fin 32) (l : Fin 384) (hl : l.val = 32 * h.val + d.val) :
    (val_main_v46 (F := Ideal) x0 x2 x4 x5 r0 r1 (ix3 b n l) : EReal)
      = Ideal.div
          (∑ p : Fin 65536, (Ideal.exp (scoreAt x0 x2 x5 r0 b h n p - Finset.univ.sup (scoreAt x0 x2 x5 r0 b h n))
            * (x4 (ix3 b p h) : EReal)) * r1 (ix4 b p h d))
          (∑ p : Fin 65536, Ideal.exp (scoreAt x0 x2 x5 r0 b h n p - Finset.univ.sup (scoreAt x0 x2 x5 r0 b h n))) := by
  have hi : idx_main_v44 (idx_main_v45 (ix3 b n l)) = ix4 b h n d := funext fun a => Fin.ext (by
    match a with
    | ⟨0, _⟩ => show ((b.val * 100 + n.val) * 384 + l.val) / 38400 = b.val; omega
    | ⟨1, _⟩ => show ((b.val * 100 + n.val) * 384 + l.val) / 32 % 12 = h.val; omega
    | ⟨2, _⟩ => show ((b.val * 100 + n.val) * 384 + l.val) / 384 % 100 = n.val; omega
    | ⟨3, _⟩ => show ((b.val * 100 + n.val) * 384 + l.val) % 32 = d.val; omega)
  rw [val_main_v46_apply, val_main_v45_apply, val_main_v44_apply, hi, val_main_v43_apply, v39_at, v42_at]
  rfl

end Cert.ReferenceIdeal.Read

end
-- ==== Proof.Quotient.lean ====
/- The running sums over the steps' blocks of pixels are sums over all pixels, and their quotient is the softmax's. -/
module

public import proofs.«01_k».proof.Proof.Softmax

@[expose] public section

noncomputable section

namespace Cert.Softmax

open Idealize.ShloMosaic

/-- A step, a chunk of its pixels and a pixel of the chunk, as one pixel of the whole. -/
def pixel : Fin 32 × (Fin 8 × Fin 256) ≃ Fin 65536 :=
  ((Equiv.refl (Fin 32)).prodCongr (finProdFinEquiv (m := 8) (n := 256))).trans (finProdFinEquiv (m := 32) (n := 8 * 256))

theorem pixel_val (k : Fin 32) (x : Fin 8 × Fin 256) : (pixel (k, x)).val = 2048 * k.val + (256 * x.1.val + x.2.val) := by
  show x.2.val + 256 * x.1.val + 8 * 256 * k.val = _
  omega

/-- A sum over the steps and their pixels is a sum over all pixels. -/
theorem sum_pixel (f : ℕ → Fin 8 × Fin 256 → EReal) (g : Fin 65536 → EReal)
    (h : ∀ (k : Fin 32) x, f k.val x = g (pixel (k, x))) :
    ∑ k ∈ Finset.range 32, ∑ x, f k x = ∑ p, g p := by
  rw [Finset.sum_range fun k => ∑ x, f k x, ← Equiv.sum_comp pixel, Fintype.sum_prod_type]
  exact Finset.sum_congr rfl fun k _ => Finset.sum_congr rfl fun x _ => h k x

/-- So is a supremum. -/
theorem sup_pixel (f : ℕ → Fin 8 × Fin 256 → EReal) (g : Fin 65536 → EReal)
    (h : ∀ (k : Fin 32) x, f k.val x = g (pixel (k, x))) :
    ((Finset.range 32).sup fun k => Finset.univ.sup (f k)) = Finset.univ.sup g := by
  apply le_antisymm
  · refine Finset.sup_le fun k hk => Finset.sup_le fun x _ => ?_
    exact (h ⟨k, Finset.mem_range.mp hk⟩ x).le.trans (Finset.le_sup (f := g) (Finset.mem_univ _))
  · refine Finset.sup_le fun p _ => ?_
    obtain ⟨⟨k, x⟩, rfl⟩ := pixel.surjective p
    rw [← h k x]
    exact (Finset.le_sup (f := f k.val) (Finset.mem_univ x)).trans
      (Finset.le_sup (f := fun k => Finset.univ.sup (f k)) (Finset.mem_range.mpr k.isLt))

/-- The quotient of the running sums, whose scores are the reference's in base two. -/
theorem running_quotient (sc vv : ℕ → Fin 8 × Fin 256 → EReal) (s v : Fin 65536 → EReal) (m₀ : ℝ)
    (hs : ∀ (k : Fin 32) x, sc k.val x = s (pixel (k, x)) * (((Real.log 2)⁻¹ : ℝ) : EReal))
    (hv : ∀ (k : Fin 32) x, vv k.val x = v (pixel (k, x))) :
    Ideal.div (runSum (m₀ : EReal) sc vv 32) (runSum (m₀ : EReal) sc (fun _ _ => 1) 32)
      = Ideal.div (∑ p, v p * Ideal.exp (s p - Finset.univ.sup s)) (∑ p, Ideal.exp (s p - Finset.univ.sup s)) := by
  rw [runSum_eq (EReal.coe_ne_bot m₀), runSum_eq (EReal.coe_ne_bot m₀)]
  have hM := runMax_eq (m₀ := (m₀ : EReal)) (t := sc) 32
  rw [sup_pixel sc (fun p => s p * (((Real.log 2)⁻¹ : ℝ) : EReal)) hs] at hM
  generalize runMax (m₀ : EReal) sc 32 = M at hM ⊢
  rw [sum_pixel _ (fun p => v p * Ideal.exp2 (s p * (((Real.log 2)⁻¹ : ℝ) : EReal) - M)) fun k x => by rw [hs, hv],
    sum_pixel _ (fun p => Ideal.exp2 (s p * (((Real.log 2)⁻¹ : ℝ) : EReal) - M)) fun k x => by rw [hs, one_mul]]
  exact quotient_eq s v m₀ hM

/-- Where a scale is large enough not to be raised, the kernel's score is the reference's in base two. -/
theorem score_eq {A : Prop} [Decidable A] (X ks f c κ t : EReal) (hc : c = f * κ) (ht : 0 < t) (hk : t ≤ ks * c) (hκ : 0 < κ) :
    (if A then X else ⊥) * max (ks * c) t = (if A then X * (ks * f) else ⊥) * κ := by
  rw [max_eq_left hk]
  split_ifs with h
  · rw [hc, ← mul_assoc ks, ← mul_assoc X]
  · rw [EReal.bot_mul_of_pos (ht.trans_le hk), EReal.bot_mul_of_pos hκ]

end Cert.Softmax

end
-- ==== Proof.Scales.lean ====
/- The two programs' score scales, and what the precondition says of a key scale. -/
module

public import proofs.«01_k».proof.Proof.RefSpec
public import proofs.«01_k».proof.Proof.Quotient
public import proofs.«01_k».proof.Proof.StepSpec
public import proofs.«01_k».proof.Defs
public import proofs.«01_k».proof.Proof.Gen.Pre_scales_normal

@[expose] public section

noncomputable section

namespace Cert.KernelIdeal.Val

open Idealize.ShloMosaic Idealize.ShloMosaic.TcCoe Cert.KernelIdeal
open Cert.ReferenceIdeal.Read (refScale)

/-- The least key scale the precondition admits. -/
def leastScale : EReal := Ideal.ofBits .f32 0x01800000#32

/-- `1 / log 2`, which turns a natural exponent into one of base two. -/
def toBaseTwo : EReal := (((Real.log 2)⁻¹ : ℝ) : EReal)

theorem toBaseTwo_pos : 0 < toBaseTwo := EReal.coe_pos.mpr (inv_pos.mpr (Real.log_pos (by norm_num)))

theorem refScale_eq : refScale = ((11863283 / 67108864 : ℝ) : EReal) := by
  unfold refScale
  simp [Ideal.ofBits, Ideal.ieee]
  norm_cast

theorem tiny_eq : tiny = (((2 ^ 126)⁻¹ : ℝ) : EReal) := by
  unfold tiny
  simp [Ideal.ofBits, Ideal.ieee]
  rw [← EReal.coe_mul]
  exact congrArg _ (by norm_num)

theorem leastScale_eq : leastScale = (((2 ^ 124)⁻¹ : ℝ) : EReal) := by
  unfold leastScale
  simp [Ideal.ofBits, Ideal.ieee]
  rw [← EReal.coe_mul]
  exact congrArg _ (by norm_num)

theorem c2_eq : c2 = refScale * toBaseTwo := by
  rw [refScale_eq]
  unfold toBaseTwo
  rw [← EReal.coe_mul]
  rfl

theorem tiny_pos : 0 < tiny := by
  rw [tiny_eq]
  exact EReal.coe_pos.mpr (by positivity)

/-- The running maximum starts at a real number. -/
theorem mStart_real : ∃ r : ℝ, mStart = (r : EReal) := by
  have h : ∃ a b : ℝ, mStart = -((a : EReal) * (b : EReal)) := by
    unfold mStart
    simp only [Ideal.ofBits, Ideal.ieee]
    norm_num
    exact ⟨_, _, rfl⟩
  obtain ⟨a, b, h⟩ := h
  exact ⟨-(a * b), by rw [h, EReal.coe_neg, EReal.coe_mul]⟩

/-- A key scale the precondition admits is not raised by the kernel. -/
theorem tiny_le {ks : EReal} (h : leastScale ≤ ks) : tiny ≤ ks * c2 := by
  have hc : c2 = ((11863283 / 67108864 * (Real.log 2)⁻¹ : ℝ) : EReal) := by
    rw [c2_eq, refScale_eq]
    exact (EReal.coe_mul _ _).symm
  have hl : (0 : ℝ) < Real.log 2 := Real.log_pos (by norm_num)
  have h0 : (0 : EReal) ≤ c2 := by
    rw [hc]
    exact EReal.coe_nonneg.mpr (by positivity)
  refine le_trans ?_ (mul_le_mul_of_nonneg_right h h0)
  rw [tiny_eq, leastScale_eq, hc, ← EReal.coe_mul, EReal.coe_le_coe_iff]
  have h2 : Real.log 2 ≤ 7 / 10 := by
    rw [Real.log_le_iff_le_exp (by norm_num)]
    have h := Real.sum_le_exp_of_nonneg (x := 7 / 10) (by norm_num) 5
    norm_num [Finset.sum_range_succ, Nat.factorial] at h
    exact le_trans (by norm_num) h
  have hi : (1.42 : ℝ) ≤ (Real.log 2)⁻¹ := by
    rw [le_inv_comm₀ (by norm_num) hl]
    refine h2.trans ?_
    norm_num
  have : ((2 ^ 126)⁻¹ : ℝ) = (2 ^ 124)⁻¹ * (1 / 4) := by norm_num
  rw [this]
  refine mul_le_mul_of_nonneg_left ?_ (by positivity)
  linarith

/-- The precondition, at one element. -/
theorem scale_ge (m : (ℓ : Loc nD τ sig) → Buf (Elt Ideal) ℓ) (H : Pre_KernelIdeal_scales_normal m) (c : Dev nD)
    (i : S2x65536x12.Idx) : leastScale ≤ (m ((c.tc : Thread nD τ).loc main_arg2) i : EReal) := by
  have h := congrFun (H c) i
  unfold Cert.Pre_scales_normal.fn at h
  simp only [pointwise] at h
  exact of_decide_eq_true ((Cert.ReferenceIdeal.Read.ofBool_eq _).mp h)

end Cert.KernelIdeal.Val

end
-- ==== Proof.RefWiden.lean ====
/- What the reference's widened keys and values hold: the codes themselves. -/
module

public import proofs.«01_k».proof.Proof.RefRun
public import Idealize.ShloMosaic.Lib.Pipeline.Value
public import Idealize.ShloMosaic.Lib.Pointwise

@[expose] public section

noncomputable section

namespace Cert.ReferenceIdeal.Value

open Cert.ReferenceIdeal Idealize.ShloMosaic Idealize.ShloMosaic.TcCoe Idealize.SL.Sem Idealize.ShloMosaic.Pipeline

variable (m : (ℓ : Loc nD τ sig) → Buf (Elt Ideal) ℓ) (c : Dev nD)

theorem one_point (t : Fin cfg0.N) : t = ⟨0, by decide⟩ := by
  have : t.val < 1 := lt_of_lt_of_eq t.isLt (by decide)
  exact Fin.ext (by show t.val = 0; omega)

theorem r0_emb (y : S2x65536x12x32.Idx) : Gen.r0_0.emb y = y := by
  refine Rect.emb_eq_of_coords _ _ _ fun a => ?_
  match a with
  | ⟨0, _⟩ => show (y 0).val = 0 + 1 * (y 0).val; omega
  | ⟨1, _⟩ => show (y 1).val = 0 + 1 * (y 1).val; omega
  | ⟨2, _⟩ => show (y 2).val = 0 + 1 * (y 2).val; omega
  | ⟨3, _⟩ => show (y 3).val = 0 + 1 * (y 3).val; omega

theorem out2_apply (x0 x1 : Vec Ideal S2x65536x12x32 .fp8e4m3) (y : S2x65536x12x32.Idx) :
    (Gen.out0_2 x0 x1 y : EReal) = x0 y := by
  unfold Gen.out0_2
  have h := View.canon_cons_emb Gen.r0_0 (Gen.k0_pay1 (View.ld x0 Gen.r0_0)) ([] : List (View.Piece (Elt Ideal) S2x65536x12x32 .bf16)) y
  rw [r0_emb] at h
  refine h.trans ?_
  show (x0 (Gen.r0_0.emb y) : EReal) = x0 y
  rw [r0_emb]

theorem out3_apply (x0 x1 : Vec Ideal S2x65536x12x32 .fp8e4m3) (y : S2x65536x12x32.Idx) :
    (Gen.out0_3 x0 x1 y : EReal) = x1 y := by
  unfold Gen.out0_3
  have h := View.canon_cons_emb Gen.r0_0 (Gen.k0_pay2 (View.ld x1 Gen.r0_0)) ([] : List (View.Piece (Elt Ideal) S2x65536x12x32 .bf16)) y
  rw [r0_emb] at h
  refine h.trans ?_
  show (x1 (Gen.r0_0.emb y) : EReal) = x1 y
  rw [r0_emb]

theorem widen_k (y : S2x65536x12x32.Idx) : (reg_main_v0_0 m c y : EReal) = m ((c : Thread nD τ).loc main_arg1) y := by
  have t : Fin cfg0.N := ⟨0, by decide⟩
  have e2 : (win0_2.rect t).emb y = y := funext fun a => Fin.ext (Window.rect_emb_val_of_index_zero win0_2 t a rfl y)
  have e0 : (win0_0.rect t).emb y = y := funext fun a => Fin.ext (Window.rect_emb_val_of_index_zero win0_0 t a rfl y)
  have h := (Gen.dats m 0 c).arrAt_emb_eq_flushed 2 (fun t t' _ _ ht => absurd ((one_point t).trans (one_point t').symm) ht)
    t (by rw [one_point t]; rfl) y
  have h' : (reg_main_v0_0 m c ((win0_2.rect t).emb y) : EReal) = (Gen.dats m 0 c).after 2 t y := h
  rw [e2, Gen.after0_2] at h'
  refine h'.trans ((out2_apply _ _ y).trans ?_)
  show Gen.V m c main_arg1 ((win0_0.rect t).emb y) = _
  rw [e0, Gen.V_main_arg1]

theorem widen_v (y : S2x65536x12x32.Idx) : (reg_main_v0_1 m c y : EReal) = m ((c : Thread nD τ).loc main_arg3) y := by
  have t : Fin cfg0.N := ⟨0, by decide⟩
  have e3 : (win0_3.rect t).emb y = y := funext fun a => Fin.ext (Window.rect_emb_val_of_index_zero win0_3 t a rfl y)
  have e1 : (win0_1.rect t).emb y = y := funext fun a => Fin.ext (Window.rect_emb_val_of_index_zero win0_1 t a rfl y)
  have h := (Gen.dats m 0 c).arrAt_emb_eq_flushed 3 (fun t t' _ _ ht => absurd ((one_point t).trans (one_point t').symm) ht)
    t (by rw [one_point t]; rfl) y
  have h' : (reg_main_v0_1 m c ((win0_3.rect t).emb y) : EReal) = (Gen.dats m 0 c).after 3 t y := h
  rw [e3, Gen.after0_3] at h'
  refine h'.trans ((out3_apply _ _ y).trans ?_)
  show Gen.V m c main_arg3 ((win0_1.rect t).emb y) = _
  rw [e1, Gen.V_main_arg3]

end Cert.ReferenceIdeal.Value
-- ==== Proof.Result.lean ====
/- The kernel's result and the reference's are the same function of the arguments. -/
module

public import proofs.«01_k».proof.Proof.Fold
public import proofs.«01_k».proof.Proof.Scales
public import proofs.«01_k».proof.Proof.RefWiden

@[expose] public section

noncomputable section

namespace Cert.KernelIdeal.Val

open Idealize.ShloMosaic Idealize.ShloMosaic.TcCoe Idealize.SL.Sem Idealize.ShloMosaic.Pipeline Cert.KernelIdeal Cert.KernelIdeal.Gen
open Cert.Softmax
open Cert.ReferenceIdeal.Read (refScale refScore Allowed)

/-- Masked cross attention at one query, head and channel: the softmax of the scores over all pixels, applied to the
    values. `q`, `k`, `v` are the queries, the keys' and the values' codes, `ks` and `vs` their scales, `w` the mask words. -/
def attention (q : S2x100x12x32.Idx → EReal) (k : S2x65536x12x32.Idx → EReal) (ks : S2x65536x12.Idx → EReal)
    (v : S2x65536x12x32.Idx → EReal) (vs : S2x65536x12.Idx → EReal) (w : S2x100x2048.Idx → BitVec 32)
    (b : Fin 2) (n : Fin 100) (h : Fin 12) (d : Fin 32) : EReal :=
  let s := refScore (fun d => q (ix4 b n h d)) (fun p d => k (ix4 b p h d)) (fun p => ks (ix3 b p h)) (Allowed fun j => w (ix3 b n j))
  Ideal.div (∑ p : Fin 65536, (v (ix4 b p h d) * vs (ix3 b p h)) * Ideal.exp (s p - Finset.univ.sup s))
    (∑ p : Fin 65536, Ideal.exp (s p - Finset.univ.sup s))

section
variable (m : (ℓ : Loc nD τ sig) → Buf (Elt Ideal) ℓ) (c : Dev nD)

/-- The arguments, as arrays of extended reals and of words. -/
abbrev argQ : S2x100x12x32.Idx → EReal := m ((c : Thread nD τ).loc main_arg0)
abbrev argK : S2x65536x12x32.Idx → EReal := m ((c : Thread nD τ).loc main_arg1)
abbrev argKS : S2x65536x12.Idx → EReal := m ((c : Thread nD τ).loc main_arg2)
abbrev argV : S2x65536x12x32.Idx → EReal := m ((c : Thread nD τ).loc main_arg3)
abbrev argVS : S2x65536x12.Idx → EReal := m ((c : Thread nD τ).loc main_arg4)
abbrev argW : S2x100x2048.Idx → BitVec 32 := m ((c : Thread nD τ).loc main_arg5)

/-- A step's pixel among all of them. -/
theorem pix_pixel (k : Fin 32) (x : Fin 8 × Fin 256) (hx : 256 * x.1.val + x.2.val < 2048) :
    pix (pt k.val) ⟨256 * x.1.val + x.2.val, hx⟩ = pixel (k, x) := by
  refine Fin.ext ?_
  rw [pixel_val]
  show 2048 * (k.val % 32) + (256 * x.1.val + x.2.val) = _
  rw [Nat.mod_eq_of_lt k.isLt]

/-- A step's score of a pixel, in the arguments. -/
theorem kT_score (H : Pre_KernelIdeal_scales_normal m) (b : Fin 2) (h : Fin 12) (n : Fin 100) (k : Fin 32) (x : Fin 8 × Fin 256) :
    (kT m c k.val).score b h n x
      = refScore (fun d => argQ m c (ix4 b n h d))
          (fun p d => argK m c (ix4 b p h d))
          (fun p => argKS m c (ix3 b p h))
          (Allowed fun j => argW m c (ix3 b n j)) (pixel (k, x)) * toBaseTwo := by
  have hx : 256 * x.1.val + x.2.val < 2048 := by omega
  have e := pix_pixel k x hx
  have eS : (kT m c k.val).KS b h x.1 x.2 = argKS m c (ix3 b (pixel (k, x)) h) := by
    rw [← e]
    exact iblk_2 m c (pt k.val) h b ⟨256 * x.1.val + x.2.val, hx⟩
  have eX : (∑ d : Fin 32, (kT m c k.val).Q b h n d * (kT m c k.val).K b h d x.1 x.2)
      = ∑ d : Fin 32, (argQ m c (ix4 b n h d) : EReal)
          * argK m c (ix4 b (pixel (k, x)) h d) := by
    refine Finset.sum_congr rfl fun d _ => congrArg₂ (fun x y : EReal => x * y) (iblk_0 m c (pt 0) b h d n) ?_
    rw [← e]
    exact iblk_1 m c (pt k.val) b h d ⟨256 * x.1.val + x.2.val, hx⟩
  have eA : (kT m c k.val).A b n x.1 x.2 = true
      ↔ Allowed (fun j => argW m c (ix3 b n j)) (pixel (k, x)) := by
    have h1 : (kT m c k.val).A b n x.1 x.2 = allowed (iblk m c 5 (pt 0)) b n (pixel (k, x)).val := by
      rw [pixel_val]
      rfl
    rw [h1, Cert.ReferenceIdeal.Read.allowed_iff]
    have h2 : (fun j : Fin 2048 => (iblk m c 5 (pt 0) : Vec Ideal S100x2x2048 .i32) (ix3 n b j))
        = fun j => argW m c (ix3 b n j) := funext fun j => iblk_5 m c (pt 0) n b j
    exact iff_of_eq (congrArg (fun w : Fin 2048 → BitVec 32 => Allowed w (pixel (k, x))) h2)
  unfold Blk.score refScore
  rw [eS, eX]
  classical
  refine (congrArg (fun z : EReal => z * max ((argKS m c (ix3 b (pixel (k, x)) h) : EReal) * c2) tiny)
    (if_congr eA rfl rfl)).trans ?_
  refine (score_eq (κ := toBaseTwo) _ _ refScale c2 tiny c2_eq tiny_pos (tiny_le (scale_ge m H c _)) toBaseTwo_pos).trans ?_
  congr 1

/-- A step's scaled value of a pixel, in the arguments. -/
theorem kT_val (b : Fin 2) (h : Fin 12) (d : Fin 32) (k : Fin 32) (x : Fin 8 × Fin 256) :
    (kT m c k.val).val b h d x
      = (argV m c (ix4 b (pixel (k, x)) h d) : EReal)
        * argVS m c (ix3 b (pixel (k, x)) h) := by
  have hx : 256 * x.1.val + x.2.val < 2048 := by omega
  rw [← pix_pixel k x hx]
  exact congrArg₂ (fun x y : EReal => x * y) (iblk_3 m c (pt k.val) b h d ⟨256 * x.1.val + x.2.val, hx⟩)
    (iblk_4 m c (pt k.val) h b ⟨256 * x.1.val + x.2.val, hx⟩)

/-- The kernel's result at a lane. -/
theorem kernel_at (H : Pre_KernelIdeal_scales_normal m) (b : Fin 2) (n : Fin 100) (p : Fin 6) (e : Fin 2) (d : Fin 32) :
    (Value.G6 m c (ix3 b n (lane p e d)) : EReal)
      = attention (argQ m c) (argK m c) (argKS m c)
          (argV m c) (argVS m c) (argW m c)
          b n (hp p e) d := by
  refine (G6_apply m c b n p e d).trans ?_
  obtain ⟨r, hr⟩ := mStart_real
  rw [hr]
  exact running_quotient _ _ _ _ r (fun k x => kT_score m c H b (hp p e) n k x) (fun k x => kT_val m c b (hp p e) d k x)

end

/-- The reference's result at a lane. -/
theorem reference_at (m : (ℓ : Loc Cert.ReferenceIdeal.nD Cert.ReferenceIdeal.τ Cert.ReferenceIdeal.sig) → Buf (Elt Ideal) ℓ)
    (c : Dev Cert.ReferenceIdeal.nD) (b : Fin 2) (n : Fin 100) (p : Fin 6) (e : Fin 2) (d : Fin 32) :
    (Cert.ReferenceIdeal.Value.res_main_v46 m c (ix3 b n (lane p e d)) : EReal)
      = attention (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg1))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg3))
          (m ((c : Thread Cert.ReferenceIdeal.nD Cert.ReferenceIdeal.τ).loc Cert.ReferenceIdeal.main_arg4))
          (m ((c : Thread Cert.ReferenceIdeal.nD Cert.ReferenceIdeal.τ).loc Cert.ReferenceIdeal.main_arg5))
          b n (hp p e) d := by
  have e0 : Cert.ReferenceIdeal.Value.reg_main_v0_0 m c
      = m ((c : Thread Cert.ReferenceIdeal.nD Cert.ReferenceIdeal.τ).loc Cert.ReferenceIdeal.main_arg1) :=
    funext fun y => Cert.ReferenceIdeal.Value.widen_k m c y
  have e1 : Cert.ReferenceIdeal.Value.reg_main_v0_1 m c
      = m ((c : Thread Cert.ReferenceIdeal.nD Cert.ReferenceIdeal.τ).loc Cert.ReferenceIdeal.main_arg3) :=
    funext fun y => Cert.ReferenceIdeal.Value.widen_v m c y
  have h : Cert.ReferenceIdeal.Value.res_main_v46 m c
      = Cert.ReferenceIdeal.Read.val_main_v46 (F := Ideal)
          (m ((c : Thread Cert.ReferenceIdeal.nD Cert.ReferenceIdeal.τ).loc Cert.ReferenceIdeal.main_arg0))
          (m ((c : Thread Cert.ReferenceIdeal.nD Cert.ReferenceIdeal.τ).loc Cert.ReferenceIdeal.main_arg2))
          (m ((c : Thread Cert.ReferenceIdeal.nD Cert.ReferenceIdeal.τ).loc Cert.ReferenceIdeal.main_arg4))
          (m ((c : Thread Cert.ReferenceIdeal.nD Cert.ReferenceIdeal.τ).loc Cert.ReferenceIdeal.main_arg5))
          (Cert.ReferenceIdeal.Value.reg_main_v0_0 m c) (Cert.ReferenceIdeal.Value.reg_main_v0_1 m c) := by
    unfold Cert.ReferenceIdeal.Value.res_main_v46
    rfl
  refine (congrFun h _).trans ?_
  refine (Cert.ReferenceIdeal.Read.v46_at _ _ _ _ _ _ b n (hp p e) d (lane p e d) rfl).trans ?_
  rw [e0, e1]
  unfold attention Cert.ReferenceIdeal.Read.scoreAt
  refine congrArg₂ Ideal.div (Finset.sum_congr rfl fun p _ => ?_) rfl
  rw [mul_comm, ← mul_assoc, mul_right_comm]

/-- Every index of the result is a query's lane. -/
theorem lane_surj (i : S2x100x384.Idx) : ∃ b n p e d, i = ix3 b n (lane p e d) := by
  have h0 : (i 0).val < 2 := (i 0).isLt
  have h1 : (i 1).val < 100 := (i 1).isLt
  have h2 : (i 2).val < 384 := (i 2).isLt
  refine ⟨⟨(i 0).val, h0⟩, ⟨(i 1).val, h1⟩, ⟨(i 2).val / 64, by omega⟩, ⟨(i 2).val / 32 % 2, by omega⟩, ⟨(i 2).val % 32, by omega⟩,
    funext fun a => Fin.ext ?_⟩
  match a with
  | ⟨0, _⟩ => rfl
  | ⟨1, _⟩ => rfl
  | ⟨2, _⟩ =>
    show (i 2).val = 32 * (2 * ((i 2).val / 64) + (i 2).val / 32 % 2) + (i 2).val % 32
    omega

/-- From equal arguments the two results are equal. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (H : Pre_KernelIdeal_scales_normal m) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.Value.res_main_v46 m' c = Value.G6 m c := by
  funext i
  obtain ⟨b, n, p, e, d, rfl⟩ := lane_surj i
  refine (reference_at m' c b n p e d).trans (Eq.trans ?_ (kernel_at m c H b n p e d).symm)
  obtain ⟨a0, a1, a2, a3, a4, a5⟩ := h
  rw [a0, a1, a2, a3, a4, a5]

end Cert.KernelIdeal.Val

end
-- ==== Proof.lean ====
module

public import proofs.«01_k».proof.Proof.Gen.KernelIdeal.Value
public import proofs.«01_k».proof.Proof.Result
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_normal
public import Idealize.ShloMosaic.Adequacy
public import Idealize.ShloMosaic.Init

@[expose] public section

noncomputable section

namespace Cert.Proof

open Idealize.ShloMosaic Idealize.SL.Sem Cert.Kernel

/-- From equal arguments the kernel and the reference end with equal results. -/
theorem algebraic : algebraic_KernelIdeal_ReferenceIdeal_pre_scales_normal (hKernelIdeal := Cert.KernelIdeal.Gen.facts)
    (hReferenceIdeal := Cert.ReferenceIdeal.Gen.facts) (hPre_scales_normal := Cert.Pre_scales_normal.Gen.facts) := by
  intro m g m' g' H h
  refine ⟨fun c => Cert.KernelIdeal.Value.G6 m c, Cert.KernelIdeal.Value.run m g, ?_⟩
  exact (θ_run Cert.ReferenceIdeal.defs _ _).mono
    (fun _ hr c => ⟨(hr c).1.trans (Cert.KernelIdeal.Val.results_eq m m' H c (h c)), (hr c).2⟩)
    (Cert.ReferenceIdeal.Value.run m' g')

/-- Every claim of the certificate. -/
theorem claim : Cert.Claim := ⟨Cert.Kernel.Gen.facts, Cert.KernelIdeal.Gen.facts, Cert.ReferenceIdeal.Gen.facts, Cert.Pre_scales_normal.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.named_const.statement Cert.KernelIdeal.κ "masked" .f32 0xFF7F0000#32 ⊥ rfl,
    IdealRules.named_const.statement Cert.KernelIdeal.κ "score_scale" .f32 0x3E8293EE#32
      (((11863283 / 67108864) * (Real.log 2)⁻¹ : ℝ) : EReal) rfl⟩,
  algebraic⟩

end Cert.Proof

end
